-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)) →
    ∃ (v0 : (c : Dev Cert.MlpIdeal.nD) → Buf (Elt Ideal) ((c.tc : Thread Cert.MlpIdeal.nD Cert.MlpIdeal.τ).loc Cert.MlpIdeal.main_v11)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v11) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v29) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v22_0)) (v1 : (c : Dev Cert.ProjIdeal.nD) → Buf (Elt Ideal) ((c.tc : Thread Cert.ProjIdeal.nD Cert.ProjIdeal.τ).loc Cert.ProjIdeal.main_v22_1)) (v2 : (c : Dev Cert.ProjIdeal.nD) → Buf (Elt Ideal) ((c.tc : Thread Cert.ProjIdeal.nD Cert.ProjIdeal.τ).loc Cert.ProjIdeal.main_v22_2)) (v3 : (c : Dev Cert.ProjIdeal.nD) → Buf (Elt Ideal) ((c.tc : Thread Cert.ProjIdeal.nD Cert.ProjIdeal.τ).loc Cert.ProjIdeal.main_v22_3)) (v4 : (c : Dev Cert.ProjIdeal.nD) → Buf (Elt Ideal) ((c.tc : Thread Cert.ProjIdeal.nD Cert.ProjIdeal.τ).loc Cert.ProjIdeal.main_v22_4)) (v5 : (c : Dev Cert.ProjIdeal.nD) → Buf (Elt Ideal) ((c.tc : Thread Cert.ProjIdeal.nD Cert.ProjIdeal.τ).loc Cert.ProjIdeal.main_v22_5)) (v6 : (c : Dev Cert.ProjIdeal.nD) → Buf (Elt Ideal) ((c.tc : Thread Cert.ProjIdeal.nD Cert.ProjIdeal.τ).loc Cert.ProjIdeal.main_v22_6)) (v7 : (c : Dev Cert.ProjIdeal.nD) → Buf (Elt Ideal) ((c.tc : Thread Cert.ProjIdeal.nD Cert.ProjIdeal.τ).loc Cert.ProjIdeal.main_v22_7)) (v8 : (c : Dev Cert.ProjIdeal.nD) → Buf (Elt Ideal) ((c.tc : Thread Cert.ProjIdeal.nD Cert.ProjIdeal.τ).loc Cert.ProjIdeal.main_v22_8)) (v9 : (c : Dev Cert.ProjIdeal.nD) → Buf (Elt Ideal) ((c.tc : Thread Cert.ProjIdeal.nD Cert.ProjIdeal.τ).loc Cert.ProjIdeal.main_v22_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v22_0) = v0 c
          ∧ r.2.mem ((c.tc : Thread Cert.ProjIdeal.nD Cert.ProjIdeal.τ).loc Cert.ProjIdeal.main_v22_1) = v1 c
          ∧ r.2.mem ((c.tc : Thread Cert.ProjIdeal.nD Cert.ProjIdeal.τ).loc Cert.ProjIdeal.main_v22_2) = v2 c
          ∧ r.2.mem ((c.tc : Thread Cert.ProjIdeal.nD Cert.ProjIdeal.τ).loc Cert.ProjIdeal.main_v22_3) = v3 c
          ∧ r.2.mem ((c.tc : Thread Cert.ProjIdeal.nD Cert.ProjIdeal.τ).loc Cert.ProjIdeal.main_v22_4) = v4 c
          ∧ r.2.mem ((c.tc : Thread Cert.ProjIdeal.nD Cert.ProjIdeal.τ).loc Cert.ProjIdeal.main_v22_5) = v5 c
          ∧ r.2.mem ((c.tc : Thread Cert.ProjIdeal.nD Cert.ProjIdeal.τ).loc Cert.ProjIdeal.main_v22_6) = v6 c
          ∧ r.2.mem ((c.tc : Thread Cert.ProjIdeal.nD Cert.ProjIdeal.τ).loc Cert.ProjIdeal.main_v22_7) = v7 c
          ∧ r.2.mem ((c.tc : Thread Cert.ProjIdeal.nD Cert.ProjIdeal.τ).loc Cert.ProjIdeal.main_v22_8) = v8 c
          ∧ r.2.mem ((c.tc : Thread Cert.ProjIdeal.nD Cert.ProjIdeal.τ).loc Cert.ProjIdeal.main_v22_9) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v142) = v0 c
          ∧ r.2.mem ((c.tc : Thread Cert.ProjRefIdeal.nD Cert.ProjRefIdeal.τ).loc Cert.ProjRefIdeal.main_v143) = v1 c
          ∧ r.2.mem ((c.tc : Thread Cert.ProjRefIdeal.nD Cert.ProjRefIdeal.τ).loc Cert.ProjRefIdeal.main_v144) = v2 c
          ∧ r.2.mem ((c.tc : Thread Cert.ProjRefIdeal.nD Cert.ProjRefIdeal.τ).loc Cert.ProjRefIdeal.main_v145) = v3 c
          ∧ r.2.mem ((c.tc : Thread Cert.ProjRefIdeal.nD Cert.ProjRefIdeal.τ).loc Cert.ProjRefIdeal.main_v146) = v4 c
          ∧ r.2.mem ((c.tc : Thread Cert.ProjRefIdeal.nD Cert.ProjRefIdeal.τ).loc Cert.ProjRefIdeal.main_v147) = v5 c
          ∧ r.2.mem ((c.tc : Thread Cert.ProjRefIdeal.nD Cert.ProjRefIdeal.τ).loc Cert.ProjRefIdeal.main_v148) = v6 c
          ∧ r.2.mem ((c.tc : Thread Cert.ProjRefIdeal.nD Cert.ProjRefIdeal.τ).loc Cert.ProjRefIdeal.main_v108) = v7 c
          ∧ r.2.mem ((c.tc : Thread Cert.ProjRefIdeal.nD Cert.ProjRefIdeal.τ).loc Cert.ProjRefIdeal.main_v155) = v8 c
          ∧ r.2.mem ((c.tc : Thread Cert.ProjRefIdeal.nD Cert.ProjRefIdeal.τ).loc Cert.ProjRefIdeal.main_v156) = v9 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)
      ∧ m' ((c.tc : Thread Cert.CmpRefIdeal.nD Cert.CmpRefIdeal.τ).loc Cert.CmpRefIdeal.main_arg6) = m ((c.tc : Thread Cert.CmpIdeal.nD Cert.CmpIdeal.τ).loc Cert.CmpIdeal.main_arg6)) →
    ∃ (v0 : (c : Dev Cert.CmpIdeal.nD) → Buf (Elt Ideal) ((c.tc : Thread Cert.CmpIdeal.nD Cert.CmpIdeal.τ).loc Cert.CmpIdeal.main_v18_0)) (v1 : (c : Dev Cert.CmpIdeal.nD) → Buf (Elt Ideal) ((c.tc : Thread Cert.CmpIdeal.nD Cert.CmpIdeal.τ).loc Cert.CmpIdeal.main_v18_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v18_0) = v0 c
          ∧ r.2.mem ((c.tc : Thread Cert.CmpIdeal.nD Cert.CmpIdeal.τ).loc Cert.CmpIdeal.main_v18_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v68) = v0 c
          ∧ r.2.mem ((c.tc : Thread Cert.CmpRefIdeal.nD Cert.CmpRefIdeal.τ).loc Cert.CmpRefIdeal.main_v70) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5)
          ∧ r.2.mem ((c.tc : Thread Cert.CmpRefIdeal.nD Cert.CmpRefIdeal.τ).loc Cert.CmpRefIdeal.main_arg6) = m' ((c.tc : Thread Cert.CmpRefIdeal.nD Cert.CmpRefIdeal.τ).loc Cert.CmpRefIdeal.main_arg6))

def Claim : Prop :=
  ∃ (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hCmp : Cert.Cmp.Facts) (hCmpIdeal : Cert.CmpIdeal.Facts) (hCmpRefIdeal : Cert.CmpRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ quiescent_Cmp (hCmp := hCmp)
    ∧ quiescent_CmpIdeal (hCmpIdeal := hCmpIdeal)
    ∧ quiescent_CmpRefIdeal (hCmpRefIdeal := hCmpRefIdeal)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
    ∧ preserves_Cmp_CmpIdeal
    ∧ algebraic_CmpIdeal_CmpRefIdeal (hCmpIdeal := hCmpIdeal) (hCmpRefIdeal := hCmpRefIdeal)
-- ==== Mlp.lean ====
abbrev S8x4096x1024 : Shape := ⟨3, ![8, 4096, 1024]⟩
abbrev S32768x512 : Shape := ⟨2, ![32768, 512]⟩
abbrev S32768x1024 : Shape := ⟨2, ![32768, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S512x4096 : Shape := ⟨2, ![512, 4096]⟩

abbrev nBuf : Space → Nat
  | .hbm => 21
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S32768x1024, .f32⟩
  | .hbm, ⟨3, _⟩ => ⟨S32768x1024, .f32⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S32768x1024, .f32⟩
  | .hbm, ⟨10, _⟩ => ⟨S512x1024, .f32⟩
  | .hbm, ⟨11, _⟩ => ⟨S512x1024, .bf16⟩
  | .hbm, ⟨12, _⟩ => ⟨S1024x1024, .f32⟩
  | .hbm, ⟨13, _⟩ => ⟨S1024x1024, .bf16⟩
  | .hbm, ⟨14, _⟩ => ⟨S1024, .f32⟩
  | .hbm, ⟨15, _⟩ => ⟨S1x1024, .f32⟩
  | .hbm, ⟨16, _⟩ => ⟨S1024x4096, .f32⟩
  | .hbm, ⟨17, _⟩ => ⟨S1024x4096, .bf16⟩
  | .hbm, ⟨18, _⟩ => ⟨S4096x1024, .f32⟩
  | .hbm, ⟨19, _⟩ => ⟨S4096x1024, .bf16⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S512x1024, .f32⟩
  | .local _ .vmem, ⟨14, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlpRefIdeal.lean ====
abbrev S8x4096x1024 : Shape := ⟨3, ![8, 4096, 1024]⟩
abbrev S32768x512 : Shape := ⟨2, ![32768, 512]⟩
abbrev S32768x1024 : Shape := ⟨2, ![32768, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x4096 : Shape := ⟨2, ![1024, 4096]⟩
abbrev S32768x4096 : Shape := ⟨2, ![32768, 4096]⟩
abbrev S4096x1024 : Shape := ⟨2, ![4096, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S32768x1024, .f32⟩
  | .hbm, ⟨3, _⟩ => ⟨S32768x1024, .f32⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S32768x1024, .f32⟩
  | .hbm, ⟨10, _⟩ => ⟨S32768x512, .f32⟩
  | .hbm, ⟨11, _⟩ => ⟨S512x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S1024x1024, .f32⟩
  | .hbm, ⟨16, _⟩ => ⟨S32768x1024, .f32⟩
  | .hbm, ⟨17, _⟩ => ⟨S32768x1024, .f32⟩
  | .hbm, ⟨18, _⟩ => ⟨S1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1, .f32⟩
  | .hbm, ⟨30, _⟩ => ⟨S32768x1024, .f32⟩
  | .hbm, ⟨31, _⟩ => ⟨S32768x1024, .f32⟩
  | .hbm, ⟨32, _⟩ => ⟨S1x1024, .f32⟩
  | .hbm, ⟨33, _⟩ => ⟨S32768x1024, .f32⟩
  | .hbm, ⟨34, _⟩ => ⟨S32768x1024, .f32⟩
  | .hbm, ⟨35, _⟩ => ⟨S1024x4096, .f32⟩
  | .hbm, ⟨36, _⟩ => ⟨S32768x4096, .f32⟩
  | .hbm, ⟨37, _⟩ => ⟨S_, .f32⟩
  | .hbm, ⟨38, _⟩ => ⟨S32768x4096, .f32⟩
  | .hbm, ⟨39, _⟩ => ⟨S32768x4096, .f32⟩
  | .hbm, ⟨40, _⟩ => ⟨S32768x4096, .f32⟩
  | .hbm, ⟨41, _⟩ => ⟨S4096x1024, .f32⟩
  | .hbm, ⟨42, _⟩ => ⟨S32768x1024, .f32⟩
  | .hbm, ⟨43, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proj.lean ====
abbrev S8x4096x1024 : Shape := ⟨3, ![8, 4096, 1024]⟩
abbrev S1x1024 : Shape := ⟨2, ![1, 1024]⟩
abbrev S1x1024x6424 : Shape := ⟨3, ![1, 1024, 6424]⟩
abbrev S1x64 : Shape := ⟨2, ![1, 64]⟩
abbrev S1x3x64 : Shape := ⟨3, ![1, 3, 64]⟩
abbrev S1x3x1024 : Shape := ⟨3, ![1, 3, 1024]⟩
abbrev S1x1024x1024 : Shape := ⟨3, ![1, 1024, 1024]⟩
abbrev S32768x1024 : Shape := ⟨2, ![32768, 1024]⟩
abbrev S3x64 : Shape := ⟨2, ![3, 64]⟩
abbrev S_ : Shape := ⟨0, ![]⟩
abbrev S3x128 : Shape := ⟨2, ![3, 128]⟩
abbrev S1024 : Shape := ⟨1, ![1024]⟩
abbrev S1024x6424 : Shape := ⟨2, ![1024, 6424]⟩
abbrev S1024x24 : Shape := ⟨2, ![1024, 24]⟩
abbrev S1024x3x2x4 : Shape := ⟨4, ![1024, 3, 2, 4]⟩
abbrev S1024x2x3x4 : Shape := ⟨4, ![1024, 2, 3, 4]⟩
abbrev S1024x2x12 : Shape := ⟨3, ![1024, 2, 12]⟩
abbrev S1024x2x64 : Shape := ⟨3, ![1024, 2, 64]⟩
abbrev S1024x128 : Shape := ⟨2, ![1024, 128]⟩
abbrev S1024x1280 : Shape := ⟨2, ![1024, 1280]⟩
abbrev S1024x1408 : Shape := ⟨2, ![1024, 1408]⟩
abbrev S1024x5120 : Shape := ⟨2, ![1024, 5120]⟩
abbrev S1024x1024 : Shape := ⟨2, ![1024, 1024]⟩
abbrev S64 : Shape := ⟨1, ![64]⟩
abbrev S64x1 : Shape := ⟨2, ![64, 1]⟩
abbrev S3x1024 : Shape := ⟨2, ![3, 1024]⟩
abbrev S8x8x64x4096 : Shape := ⟨4, ![8, 8, 64, 4096]⟩
abbrev S32768x128 : Shape := ⟨2, ![32768, 128]⟩
abbrev S8x2x4096x128 : Shape := ⟨4, ![8, 2, 4096, 128]⟩
abbrev S8x2x16x64x256 : Shape := ⟨5, ![8, 2, 16, 64, 256]⟩
abbrev S8x2x16x4096 : Shape := ⟨4, ![8, 2, 16, 4096]⟩
abbrev S1x8x64x1024 : Shape := ⟨4, ![1, 8, 64, 1024]⟩
abbrev S1x2x1024x128 : Shape := ⟨4, ![1, 2, 1024, 128]⟩
abbrev S1x2x4x64x256 : Shape := ⟨5, ![1, 2, 4, 64, 256]⟩
abbrev S1x2x16x1024 : Shape := ⟨4, ![1, 2, 16, 1024]⟩
abbrev S1032x1024 : Shape := ⟨2, ![1032, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S256x1408 : Shape := ⟨2, ![256, 1408]⟩
abbrev S256x128 : Shape := ⟨2, ![256, 128]⟩
abbrev S128x256 : Shape := ⟨2, ![128, 256]⟩
abbrev S64x256 : Shape := ⟨2, ![64, 256]⟩
abbrev S1x256 : Shape := ⟨2, ![1, 256]⟩
abbrev S1x1x64x256 : Shape := ⟨4, ![1, 1, 64, 256]⟩
abbrev S1x128 : Shape := ⟨2, ![1, 128]⟩
abbrev S1x1x256x128 : Shape := ⟨4, ![1, 1, 256, 128]⟩
abbrev S1x1x1x64x256 : Shape := ⟨5, ![1, 1, 1, 64, 256]⟩
abbrev S16x256 : Shape := ⟨2, ![16, 256]⟩
abbrev S1x1x16x256 : Shape := ⟨4, ![1, 1, 16, 256]⟩

abbrev nBuf : Space → Nat
  | .hbm => 43
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x6424, .f32⟩
  | .hbm, ⟨3, _⟩ => ⟨S1x64, .f32⟩
  | .hbm, ⟨4, _⟩ => ⟨S1x3x64, .f32⟩
  | .hbm, ⟨5, _⟩ => ⟨S1x3x1024, .f32⟩
  | .hbm, ⟨6, _⟩ => ⟨S1x1024x1024, .f32⟩
  | .hbm, ⟨7, _⟩ => ⟨S32768x1024, .f32⟩
  | .hbm, ⟨8, _⟩ => ⟨S3x64, .f32⟩
  | .hbm, ⟨9, _⟩ => ⟨S_, .i32⟩
  | .hbm, ⟨10, _⟩ => ⟨S_, .f32⟩
  | .hbm, ⟨11, _⟩ => ⟨S3x128, .f32⟩
  | .hbm, ⟨12, _⟩ => ⟨S1024, .f32⟩
  | .hbm, ⟨13, _⟩ => ⟨S1x1024, .f32⟩
  | .hbm, ⟨14, _⟩ => ⟨S1024x6424, .f32⟩
  | .hbm, ⟨15, _⟩ => ⟨S1024x24, .f32⟩
  | .hbm, ⟨16, _⟩ => ⟨S1024x3x2x4, .f32⟩
  | .hbm, ⟨17, _⟩ => ⟨S1024x2x3x4, .f32⟩
  | .hbm, ⟨18, _⟩ => ⟨S1024x2x12, .f32⟩
  | .hbm, ⟨19, _⟩ => ⟨S_, .i32⟩
  | .hbm, ⟨20, _⟩ => ⟨S_, .f32⟩
  | .hbm, ⟨21, _⟩ => ⟨S1024x2x64, .f32⟩
  | .hbm, ⟨22, _⟩ => ⟨S1024x128, .f32⟩
  | .hbm, ⟨23, _⟩ => ⟨S1024x1280, .f32⟩
  | .hbm, ⟨24, _⟩ => ⟨S1024x1408, .f32⟩
  | .hbm, ⟨25, _⟩ => ⟨S1024x1408, .bf16⟩
  | .hbm, ⟨26, _⟩ => ⟨S1024x5120, .f32⟩
  | .hbm, ⟨27, _⟩ => ⟨S1024x5120, .bf16⟩
  | .hbm, ⟨28, _⟩ => ⟨S1024x1024, .f32⟩
  | .hbm, ⟨29, _⟩ => ⟨S1024x1024, .bf16⟩
  | .hbm, ⟨30, _⟩ => ⟨S64, .f32⟩
  | .hbm, ⟨31, _⟩ => ⟨S64x1, .f32⟩
  | .hbm, ⟨32, _⟩ => ⟨S3x1024, .f32⟩
  | .hbm, ⟨33, _⟩ => ⟨S8x8x64x4096, .bf16⟩
  | .hbm, ⟨34, _⟩ => ⟨S32768x128, .f32⟩
  | .hbm, ⟨35, _⟩ => ⟨S32768x128, .f32⟩
  | .hbm, ⟨36, _⟩ => ⟨S8x2x4096x128, .bf16⟩
  | .hbm, ⟨37, _⟩ => ⟨S8x2x16x64x256, .bf16⟩
  | .hbm, ⟨38, _⟩ => ⟨S8x2x4096x128, .bf16⟩
  | .hbm, ⟨39, _⟩ => ⟨S8x2x16x64x256, .bf16⟩
  | .hbm, ⟨40, _⟩ => ⟨S8x2x16x4096, .f32⟩
  | .hbm, ⟨41, _⟩ => ⟨S32768x1024, .f32⟩
  | .hbm, ⟨42, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x5120, .bf16⟩
  | .local _ .vmem, ⟨5, _⟩ => ⟨S1024x1024, .bf16⟩
  | .local _ .vmem, ⟨6, _⟩ => ⟨S64x1, .f32⟩
  | .local _ .vmem, ⟨7, _⟩ => ⟨S3x128, .f32⟩
  | .local _ .vmem, ⟨8, _⟩ => ⟨S3x1024, .f32⟩
  | .local _ .vmem, ⟨9, _⟩ => ⟨S1x8x64x1024, .bf16⟩
  | .local _ .vmem, ⟨10, _⟩ => ⟨S1x8x64x1024, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1x2x1024x128, .bf16⟩
  | .local _ .vmem, ⟨16, _⟩ => ⟨S1x2x1024x128, .bf16⟩
  | .local _ .vmem, ⟨17, _⟩ => ⟨S1x2x4x64x256, .bf16⟩
  | .local _ .vmem, ⟨18, _⟩ => ⟨S1x2x4x64x256, .bf16⟩
  | .local _ .vmem, ⟨19, _⟩ => ⟨S1x2x1024x128, .bf16⟩
  | .local _ .vmem, ⟨20, _⟩ => ⟨S1x2x1024x128, .bf16⟩
  | .local _ .vmem, ⟨21, _⟩ => ⟨S1x2x4x64x256, .bf16⟩
  | .local _ .vmem, ⟨22, _⟩ => ⟨S1x2x4x64x256, .bf16⟩
  | .local _ .vmem, ⟨23, _⟩ => ⟨S1x2x16x1024, .f32⟩
  | .local _ .vmem, ⟨24, _⟩ => ⟨S1x2x16x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1032x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev main_v22_5 : Ref sig .tc := ⟨.hbm, 38, rfl⟩
abbrev main_v22_6 : Ref sig .tc := ⟨.hbm, 39, rfl⟩
abbrev main_v22_7 : Ref sig .tc := ⟨.hbm, 40, rfl⟩
abbrev main_v22_8 : Ref sig .tc := ⟨.hbm, 41, rfl⟩
abbrev main_v22_9 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x4x64x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x4x64x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x16x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ProjRefIdeal.lean ====
abbrev S8x4096x1024 : Shape := ⟨3, ![8, 4096, 1024]⟩
abbrev S1x1024 : Shape := ⟨2, ![1, 1024]⟩
abbrev S1x1024x6424 : Shape := ⟨3, ![1, 1024, 6424]⟩
abbrev S1x64 : Shape := ⟨2, ![1, 64]⟩
abbrev S1x3x64 : Shape := ⟨3, ![1, 3, 64]⟩
abbrev S1x3x1024 : Shape := ⟨3, ![1, 3, 1024]⟩
abbrev S1x1024x1024 : Shape := ⟨3, ![1, 1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x6424 : Shape := ⟨2, ![1024, 6424]⟩
abbrev S8x4096x6424 : Shape := ⟨3, ![8, 4096, 6424]⟩
abbrev S8x4096x512 : Shape := ⟨3, ![8, 4096, 512]⟩
abbrev S8x4096x128 : Shape := ⟨3, ![8, 4096, 128]⟩
abbrev S8x4096x24 : Shape := ⟨3, ![8, 4096, 24]⟩
abbrev S8x4096x8x64 : Shape := ⟨4, ![8, 4096, 8, 64]⟩
abbrev S64 : Shape := ⟨1, ![64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x2x64 : Shape := ⟨4, ![8, 4096, 2, 64]⟩
abbrev S1x1x64 : Shape := ⟨3, ![1, 1, 64]⟩
abbrev S8x4096x2 : Shape := ⟨3, ![8, 4096, 2]⟩
abbrev S8x4096x2x1 : Shape := ⟨4, ![8, 4096, 2, 1]⟩
abbrev S4096 : Shape := ⟨1, ![4096]⟩
abbrev S4096x1 : Shape := ⟨2, ![4096, 1]⟩
abbrev S4096x59 : Shape := ⟨2, ![4096, 59]⟩
abbrev S4096x64 : Shape := ⟨2, ![4096, 64]⟩
abbrev S1x1x4096x64 : Shape := ⟨4, ![1, 1, 4096, 64]⟩
abbrev S8x2x4096x64 : Shape := ⟨4, ![8, 2, 4096, 64]⟩
abbrev S8x2x4096x128 : Shape := ⟨4, ![8, 2, 4096, 128]⟩
abbrev S8x16x256x2x64 : Shape := ⟨5, ![8, 16, 256, 2, 64]⟩
abbrev S8x2x16x64x256 : Shape := ⟨5, ![8, 2, 16, 64, 256]⟩
abbrev S8x4096x3x2x4 : Shape := ⟨5, ![8, 4096, 3, 2, 4]⟩
abbrev S8x2x3x4x4096 : Shape := ⟨5, ![8, 2, 3, 4, 4096]⟩
abbrev S8x2x12x4096 : Shape := ⟨4, ![8, 2, 12, 4096]⟩
abbrev S8x2x16x4096 : Shape := ⟨4, ![8, 2, 16, 4096]⟩
abbrev S8x4098x1024 : Shape := ⟨3, ![8, 4098, 1024]⟩
abbrev S1024x1024 : Shape := ⟨2, ![1024, 1024]⟩
abbrev S8x8x64x4096 : Shape := ⟨4, ![8, 8, 64, 4096]⟩
abbrev S32768x128 : Shape := ⟨2, ![32768, 128]⟩
abbrev S32768x1024 : Shape := ⟨2, ![32768, 1024]⟩

abbrev nBuf : Space → Nat
  | .hbm => 191
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x6424, .f32⟩
  | 3 => ⟨S1x64, .f32⟩
  | 4 => ⟨S1x3x64, .f32⟩
  | 5 => ⟨S1x3x1024, .f32⟩
  | 6 => ⟨S1x1024x1024, .f32⟩
  | 7 => ⟨S1024, .f32⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x1024, .f32⟩
  | 20 => ⟨S8x4096x1024, .f32⟩
  | 21 => ⟨S1x1x1024, .f32⟩
  | 22 => ⟨S8x4096x1024, .f32⟩
  | 23 => ⟨S8x4096x1024, .f32⟩
  | 24 => ⟨S1024x6424, .f32⟩
  | 25 => ⟨S8x4096x6424, .f32⟩
  | 26 => ⟨S8x4096x512, .f32⟩
  | 27 => ⟨S8x4096x128, .f32⟩
  | 28 => ⟨S8x4096x128, .f32⟩
  | 29 => ⟨S8x4096x128, .f32⟩
  | 30 => ⟨S8x4096x128, .f32⟩
  | 31 => ⟨S8x4096x128, .f32⟩
  | 32 => ⟨S8x4096x128, .f32⟩
  | 33 => ⟨S8x4096x24, .f32⟩
  | 34 => ⟨S8x4096x1024, .f32⟩
  | 35 => ⟨S8x4096x1024, .f32⟩
  | 36 => ⟨S8x4096x1024, .f32⟩
  | 37 => ⟨S8x4096x1024, .f32⟩
  | 38 => ⟨S8x4096x1024, .f32⟩
  | 39 => ⟨S8x4096x8x64, .f32⟩
  | 40 => ⟨S64, .f32⟩
  | 41 => ⟨S8x4096x8x64, .f32⟩
  | 42 => ⟨S_, .f32⟩
  | 43 => ⟨S8x4096x8, .f32⟩
  | 44 => ⟨S8x4096x8x1, .f32⟩
  | 45 => ⟨S_, .f32⟩
  | 46 => ⟨S8x4096x8x1, .f32⟩
  | 47 => ⟨S8x4096x8x1, .f32⟩
  | 48 => ⟨S_, .f32⟩
  | 49 => ⟨S8x4096x8x1, .f32⟩
  | 50 => ⟨S8x4096x8x1, .f32⟩
  | 51 => ⟨S8x4096x8x1, .f32⟩
  | 52 => ⟨S8x4096x8x64, .f32⟩
  | 53 => ⟨S8x4096x8x64, .f32⟩
  | 54 => ⟨S1x1x1x64, .f32⟩
  | 55 => ⟨S8x4096x8x64, .f32⟩
  | 56 => ⟨S8x4096x8x64, .f32⟩
  | 57 => ⟨S_, .f32⟩
  | 58 => ⟨S8x4096x8x64, .f32⟩
  | 59 => ⟨S8x4096x8x64, .f32⟩
  | 60 => ⟨S8x4096x2x64, .f32⟩
  | 61 => ⟨S1x1x64, .f32⟩
  | 62 => ⟨S64, .f32⟩
  | 63 => ⟨S8x4096x2x64, .f32⟩
  | 64 => ⟨S_, .f32⟩
  | 65 => ⟨S8x4096x2, .f32⟩
  | 66 => ⟨S8x4096x2x1, .f32⟩
  | 67 => ⟨S_, .f32⟩
  | 68 => ⟨S8x4096x2x1, .f32⟩
  | 69 => ⟨S8x4096x2x1, .f32⟩
  | 70 => ⟨S_, .f32⟩
  | 71 => ⟨S8x4096x2x1, .f32⟩
  | 72 => ⟨S8x4096x2x1, .f32⟩
  | 73 => ⟨S8x4096x2x1, .f32⟩
  | 74 => ⟨S8x4096x2x64, .f32⟩
  | 75 => ⟨S8x4096x2x64, .f32⟩
  | 76 => ⟨S1x1x1x64, .f32⟩
  | 77 => ⟨S8x4096x2x64, .f32⟩
  | 78 => ⟨S8x4096x2x64, .f32⟩
  | 79 => ⟨S8x4096x2x64, .f32⟩
  | 80 => ⟨S1x1x64, .f32⟩
  | 81 => ⟨S64, .f32⟩
  | 82 => ⟨S8x4096x2x64, .f32⟩
  | 83 => ⟨S_, .f32⟩
  | 84 => ⟨S8x4096x2, .f32⟩
  | 85 => ⟨S8x4096x2x1, .f32⟩
  | 86 => ⟨S_, .f32⟩
  | 87 => ⟨S8x4096x2x1, .f32⟩
  | 88 => ⟨S8x4096x2x1, .f32⟩
  | 89 => ⟨S_, .f32⟩
  | 90 => ⟨S8x4096x2x1, .f32⟩
  | 91 => ⟨S8x4096x2x1, .f32⟩
  | 92 => ⟨S8x4096x2x1, .f32⟩
  | 93 => ⟨S8x4096x2x64, .f32⟩
  | 94 => ⟨S8x4096x2x64, .f32⟩
  | 95 => ⟨S1x1x1x64, .f32⟩
  | 96 => ⟨S8x4096x2x64, .f32⟩
  | 97 => ⟨S8x4096x2x64, .f32⟩
  | 98 => ⟨S4096, .i32⟩
  | 99 => ⟨S4096x1, .i32⟩
  | 100 => ⟨S_, .f32⟩
  | 101 => ⟨S4096x1, .f32⟩
  | 102 => ⟨S_, .i32⟩
  | 103 => ⟨S4096x1, .i32⟩
  | 104 => ⟨S4096x1, .i32⟩
  | 105 => ⟨S4096x1, .f32⟩
  | 106 => ⟨S_, .i32⟩
  | 107 => ⟨S4096x1, .i32⟩
  | 108 => ⟨S4096x1, .i32⟩
  | 109 => ⟨S4096x1, .f32⟩
  | 110 => ⟨S_, .f32⟩
  | 111 => ⟨S4096x59, .f32⟩
  | 112 => ⟨S4096x64, .f32⟩
  | 113 => ⟨S1x1x4096x64, .f32⟩
  | 114 => ⟨S8x2x4096x64, .f32⟩
  | 115 => ⟨S8x2x4096x64, .f32⟩
  | 116 => ⟨S8x2x4096x128, .f32⟩
  | 117 => ⟨S8x2x4096x64, .f32⟩
  | 118 => ⟨S8x2x4096x128, .f32⟩
  | 119 => ⟨S8x16x256x2x64, .f32⟩
  | 120 => ⟨S8x2x16x64x256, .f32⟩
  | 121 => ⟨S8x16x256x2x64, .f32⟩
  | 122 => ⟨S8x2x16x64x256, .f32⟩
  | 123 => ⟨S8x4096x3x2x4, .f32⟩
  | 124 => ⟨S8x2x3x4x4096, .f32⟩
  | 125 => ⟨S8x2x12x4096, .f32⟩
  | 126 => ⟨S_, .i32⟩
  | 127 => ⟨S_, .f32⟩
  | _ => ⟨S8x4096x1024, .f32⟩

abbrev hbmTy0_1 (i : Nat) : BufTy := match i % 128 with
  | 0 => ⟨S8x2x16x4096, .f32⟩
  | 1 => ⟨S8x2x16x4096, .f32⟩
  | 2 => ⟨S8x2x16x4096, .f32⟩
  | 3 => ⟨S_, .f32⟩
  | 4 => ⟨S8x2x16x4096, .f32⟩
  | 5 => ⟨S8x2x16x4096, .f32⟩
  | 6 => ⟨S_, .f32⟩
  | 7 => ⟨S8x2x16x4096, .f32⟩
  | 8 => ⟨S8x2x16x4096, .f32⟩
  | 9 => ⟨S8x4096x1024, .f32⟩
  | 10 => ⟨S_, .i32⟩
  | 11 => ⟨S_, .f32⟩
  | 12 => ⟨S8x4098x1024, .f32⟩
  | 13 => ⟨S1x1x1024, .f32⟩
  | 14 => ⟨S1024, .f32⟩
  | 15 => ⟨S8x4096x1024, .f32⟩
  | 16 => ⟨S1x1x1024, .f32⟩
  | 17 => ⟨S8x4096x1024, .f32⟩
  | 18 => ⟨S8x4096x1024, .f32⟩
  | 19 => ⟨S1x1x1024, .f32⟩
  | 20 => ⟨S1024, .f32⟩
  | 21 => ⟨S8x4096x1024, .f32⟩
  | 22 => ⟨S1x1x1024, .f32⟩
  | 23 => ⟨S8x4096x1024, .f32⟩
  | 24 => ⟨S8x4096x1024, .f32⟩
  | 25 => ⟨S8x4096x1024, .f32⟩
  | 26 => ⟨S1x1x1024, .f32⟩
  | 27 => ⟨S1024, .f32⟩
  | 28 => ⟨S8x4096x1024, .f32⟩
  | 29 => ⟨S1x1x1024, .f32⟩
  | 30 => ⟨S8x4096x1024, .f32⟩
  | 31 => ⟨S8x4096x1024, .f32⟩
  | 32 => ⟨S8x4096x1024, .f32⟩
  | 33 => ⟨S8x4096x1024, .f32⟩
  | 34 => ⟨S8x4096x1024, .f32⟩
  | 35 => ⟨S_, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S8x4096x1024, .f32⟩
  | 42 => ⟨S1024x1024, .f32⟩
  | 43 => ⟨S8x4096x1024, .f32⟩
  | 44 => ⟨S8x4096x1024, .f32⟩
  | 45 => ⟨S8x8x64x4096, .f32⟩
  | 46 => ⟨S8x8x64x4096, .bf16⟩
  | 47 => ⟨S32768x128, .f32⟩
  | 48 => ⟨S32768x128, .f32⟩
  | 49 => ⟨S8x2x4096x128, .bf16⟩
  | 50 => ⟨S8x2x16x64x256, .bf16⟩
  | 51 => ⟨S8x2x4096x128, .bf16⟩
  | 52 => ⟨S8x2x16x64x256, .bf16⟩
  | 53 => ⟨S8x4096x1024, .f32⟩
  | 54 => ⟨S8x4096x1024, .f32⟩
  | 55 => ⟨S_, .f32⟩
  | 56 => ⟨S8x4096x1024, .f32⟩
  | 57 => ⟨S8x4096x1024, .f32⟩
  | 58 => ⟨S_, .f32⟩
  | 59 => ⟨S8x4096x1024, .f32⟩
  | 60 => ⟨S8x4096x1024, .f32⟩
  | 61 => ⟨S32768x1024, .f32⟩
  | 62 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_c : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_c_13 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_14 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_c_15 : Ref sig .tc := ⟨.hbm, 126, rfl⟩
abbrev main_call0_v0 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_16 : Ref sig .tc := ⟨.hbm, 131, rfl⟩
abbrev main_v105 : Ref sig .tc := ⟨.hbm, 132, rfl⟩
abbrev main_v106 : Ref sig .tc := ⟨.hbm, 133, rfl⟩
abbrev main_cst_17 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_c_18 : Ref sig .tc := ⟨.hbm, 138, rfl⟩
abbrev main_call1_v0 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_19 : Ref sig .tc := ⟨.hbm, 163, rfl⟩
abbrev main_v133 : Ref sig .tc := ⟨.hbm, 164, rfl⟩
abbrev main_v134 : Ref sig .tc := ⟨.hbm, 165, rfl⟩
abbrev main_cst_20 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_21 : Ref sig .tc := ⟨.hbm, 183, rfl⟩
abbrev main_v151 : Ref sig .tc := ⟨.hbm, 184, rfl⟩
abbrev main_v152 : Ref sig .tc := ⟨.hbm, 185, rfl⟩
abbrev main_cst_22 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩

abbrev nD : Nat := 1
abbrev τ : Topo := Topo.v7x

variable {F : FTy → Type} [FloatOps F]
-- ==== Cmp.lean ====
abbrev S32768x128 : Shape := ⟨2, ![32768, 128]⟩
abbrev S1x3x64 : Shape := ⟨3, ![1, 3, 64]⟩
abbrev S1x32x64 : Shape := ⟨3, ![1, 32, 64]⟩
abbrev S1x2048x64 : Shape := ⟨3, ![1, 2048, 64]⟩
abbrev S2048x64 : Shape := ⟨2, ![2048, 64]⟩
abbrev S32x64 : Shape := ⟨2, ![32, 64]⟩
abbrev S32x64x64 : Shape := ⟨3, ![32, 64, 64]⟩
abbrev S_ : Shape := ⟨0, ![]⟩
abbrev S32x64x384 : Shape := ⟨3, ![32, 64, 384]⟩
abbrev S32x256 : Shape := ⟨2, ![32, 256]⟩
abbrev S32x256x384 : Shape := ⟨3, ![32, 256, 384]⟩
abbrev S3x64 : Shape := ⟨2, ![3, 64]⟩
abbrev S3x128 : Shape := ⟨2, ![3, 128]⟩
abbrev S8x2x256x128 : Shape := ⟨4, ![8, 2, 256, 128]⟩
abbrev S8x2x64x256 : Shape := ⟨4, ![8, 2, 64, 256]⟩
abbrev S4096x128 : Shape := ⟨2, ![4096, 128]⟩
abbrev S1x2x256x128 : Shape := ⟨4, ![1, 2, 256, 128]⟩
abbrev S1x2x64x256 : Shape := ⟨4, ![1, 2, 64, 256]⟩
abbrev S264x384 : Shape := ⟨2, ![264, 384]⟩
abbrev S256x384 : Shape := ⟨2, ![256, 384]⟩
abbrev S256x128 : Shape := ⟨2, ![256, 128]⟩
abbrev S256x256 : Shape := ⟨2, ![256, 256]⟩
abbrev S1x256 : Shape := ⟨2, ![1, 256]⟩
abbrev S1x256x384 : Shape := ⟨3, ![1, 256, 384]⟩
abbrev S8x384 : Shape := ⟨2, ![8, 384]⟩
abbrev S256x1 : Shape := ⟨2, ![256, 1]⟩
abbrev S128x256 : Shape := ⟨2, ![128, 256]⟩
abbrev S1x128 : Shape := ⟨2, ![1, 128]⟩
abbrev S256 : Shape := ⟨1, ![256]⟩
abbrev S1x1x256x128 : Shape := ⟨4, ![1, 1, 256, 128]⟩
abbrev S64x256 : Shape := ⟨2, ![64, 256]⟩
abbrev S1x1x64x256 : Shape := ⟨4, ![1, 1, 64, 256]⟩

abbrev nBuf : Space → Nat
  | .hbm => 37
  | .vmem => 12
  | .smem => 0
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S1x3x64, .f32⟩
  | .hbm, ⟨3, _⟩ => ⟨S1x32x64, .f32⟩
  | .hbm, ⟨4, _⟩ => ⟨S1x32x64, .f32⟩
  | .hbm, ⟨5, _⟩ => ⟨S1x2048x64, .f32⟩
  | .hbm, ⟨6, _⟩ => ⟨S1x2048x64, .f32⟩
  | .hbm, ⟨7, _⟩ => ⟨S2048x64, .f32⟩
  | .hbm, ⟨8, _⟩ => ⟨S2048x64, .f32⟩
  | .hbm, ⟨9, _⟩ => ⟨S32x64, .f32⟩
  | .hbm, ⟨10, _⟩ => ⟨S32x64, .f32⟩
  | .hbm, ⟨11, _⟩ => ⟨S32x64x64, .f32⟩
  | .hbm, ⟨12, _⟩ => ⟨S32x64x64, .f32⟩
  | .hbm, ⟨13, _⟩ => ⟨S32x64x64, .bf16⟩
  | .hbm, ⟨14, _⟩ => ⟨S_, .i32⟩
  | .hbm, ⟨15, _⟩ => ⟨S_, .bf16⟩
  | .hbm, ⟨16, _⟩ => ⟨S32x64x384, .bf16⟩
  | .hbm, ⟨17, _⟩ => ⟨S32x64x64, .bf16⟩
  | .hbm, ⟨18, _⟩ => ⟨S_, .i32⟩
  | .hbm, ⟨19, _⟩ => ⟨S_, .bf16⟩
  | .hbm, ⟨20, _⟩ => ⟨S32x64x384, .bf16⟩
  | .hbm, ⟨21, _⟩ => ⟨S32x64x64, .bf16⟩
  | .hbm, ⟨22, _⟩ => ⟨S_, .i32⟩
  | .hbm, ⟨23, _⟩ => ⟨S_, .bf16⟩
  | .hbm, ⟨24, _⟩ => ⟨S32x64x384, .bf16⟩
  | .hbm, ⟨25, _⟩ => ⟨S32x64x64, .bf16⟩
  | .hbm, ⟨26, _⟩ => ⟨S_, .i32⟩
  | .hbm, ⟨27, _⟩ => ⟨S_, .bf16⟩
  | .hbm, ⟨28, _⟩ => ⟨S32x64x384, .bf16⟩
  | .hbm, ⟨29, _⟩ => ⟨S32x256, .f32⟩
  | .hbm, ⟨30, _⟩ => ⟨S32x256x384, .bf16⟩
  | .hbm, ⟨31, _⟩ => ⟨S3x64, .f32⟩
  | .hbm, ⟨32, _⟩ => ⟨S_, .i32⟩
  | .hbm, ⟨33, _⟩ => ⟨S_, .f32⟩
  | .hbm, ⟨34, _⟩ => ⟨S3x128, .f32⟩
  | .hbm, ⟨35, _⟩ => ⟨S8x2x256x128, .bf16⟩
  | .hbm, ⟨36, _⟩ => ⟨S8x2x64x256, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S32x256, .f32⟩
  | .local _ .vmem, ⟨5, _⟩ => ⟨S32x256x384, .bf16⟩
  | .local _ .vmem, ⟨6, _⟩ => ⟨S3x128, .f32⟩
  | .local _ .vmem, ⟨7, _⟩ => ⟨S1x2x256x128, .bf16⟩
  | .local _ .vmem, ⟨8, _⟩ => ⟨S1x2x256x128, .bf16⟩
  | .local _ .vmem, ⟨9, _⟩ => ⟨S1x2x64x256, .bf16⟩
  | .local _ .vmem, ⟨10, _⟩ => ⟨S1x2x64x256, .bf16⟩
  | .local _ .vmem, ⟨11, _⟩ => ⟨S264x384, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_call3_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_call4_v0 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CmpRefIdeal.lean ====
abbrev S32768x128 : Shape := ⟨2, ![32768, 128]⟩
abbrev S1x3x64 : Shape := ⟨3, ![1, 3, 64]⟩
abbrev S1x32x64 : Shape := ⟨3, ![1, 32, 64]⟩
abbrev S1x2048x64 : Shape := ⟨3, ![1, 2048, 64]⟩
abbrev S32x64 : Shape := ⟨2, ![32, 64]⟩
abbrev S2048x64 : Shape := ⟨2, ![2048, 64]⟩
abbrev S8x256x16x2x64 : Shape := ⟨5, ![8, 256, 16, 2, 64]⟩
abbrev S16x64 : Shape := ⟨2, ![16, 64]⟩
abbrev S1x1x16x1x64 : Shape := ⟨5, ![1, 1, 16, 1, 64]⟩
abbrev S8x255x16x2x64 : Shape := ⟨5, ![8, 255, 16, 2, 64]⟩
abbrev S_ : Shape := ⟨0, ![]⟩
abbrev S8x256x32x2x64 : Shape := ⟨5, ![8, 256, 32, 2, 64]⟩
abbrev S8x256x2x32x64 : Shape := ⟨5, ![8, 256, 2, 32, 64]⟩
abbrev S8x256x2x2048 : Shape := ⟨4, ![8, 256, 2, 2048]⟩
abbrev S8x256x2x64 : Shape := ⟨4, ![8, 256, 2, 64]⟩
abbrev S1x1x64 : Shape := ⟨3, ![1, 1, 64]⟩
abbrev S64 : Shape := ⟨1, ![64]⟩
abbrev S8x256x2 : Shape := ⟨3, ![8, 256, 2]⟩
abbrev S8x256x2x1 : Shape := ⟨4, ![8, 256, 2, 1]⟩
abbrev S1x1x1x64 : Shape := ⟨4, ![1, 1, 1, 64]⟩
abbrev S256 : Shape := ⟨1, ![256]⟩
abbrev S256x1 : Shape := ⟨2, ![256, 1]⟩
abbrev S256x59 : Shape := ⟨2, ![256, 59]⟩
abbrev S256x64 : Shape := ⟨2, ![256, 64]⟩
abbrev S1x1x256x64 : Shape := ⟨4, ![1, 1, 256, 64]⟩
abbrev S8x2x256x64 : Shape := ⟨4, ![8, 2, 256, 64]⟩
abbrev S8x2x256x128 : Shape := ⟨4, ![8, 2, 256, 128]⟩
abbrev S8x2x64x256 : Shape := ⟨4, ![8, 2, 64, 256]⟩

abbrev nBuf : Space → Nat
  | .hbm => 91
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S1x3x64, .f32⟩
  | .hbm, ⟨3, _⟩ => ⟨S1x32x64, .f32⟩
  | .hbm, ⟨4, _⟩ => ⟨S1x32x64, .f32⟩
  | .hbm, ⟨5, _⟩ => ⟨S1x2048x64, .f32⟩
  | .hbm, ⟨6, _⟩ => ⟨S1x2048x64, .f32⟩
  | .hbm, ⟨7, _⟩ => ⟨S32x64, .f32⟩
  | .hbm, ⟨8, _⟩ => ⟨S2048x64, .f32⟩
  | .hbm, ⟨9, _⟩ => ⟨S8x256x16x2x64, .f32⟩
  | .hbm, ⟨10, _⟩ => ⟨S16x64, .f32⟩
  | .hbm, ⟨11, _⟩ => ⟨S1x1x16x1x64, .f32⟩
  | .hbm, ⟨12, _⟩ => ⟨S8x256x16x2x64, .f32⟩
  | .hbm, ⟨13, _⟩ => ⟨S8x256x16x2x64, .f32⟩
  | .hbm, ⟨14, _⟩ => ⟨S16x64, .f32⟩
  | .hbm, ⟨15, _⟩ => ⟨S1x1x16x1x64, .f32⟩
  | .hbm, ⟨16, _⟩ => ⟨S8x256x16x2x64, .f32⟩
  | .hbm, ⟨17, _⟩ => ⟨S8x256x16x2x64, .f32⟩
  | .hbm, ⟨18, _⟩ => ⟨S8x255x16x2x64, .f32⟩
  | .hbm, ⟨19, _⟩ => ⟨S_, .i32⟩
  | .hbm, ⟨20, _⟩ => ⟨S_, .f32⟩
  | .hbm, ⟨21, _⟩ => ⟨S8x256x16x2x64, .f32⟩
  | .hbm, ⟨22, _⟩ => ⟨S8x256x32x2x64, .f32⟩
  | .hbm, ⟨23, _⟩ => ⟨S8x256x2x32x64, .f32⟩
  | .hbm, ⟨24, _⟩ => ⟨S8x256x2x2048, .f32⟩
  | .hbm, ⟨25, _⟩ => ⟨S8x256x2x64, .f32⟩
  | .hbm, ⟨26, _⟩ => ⟨S1x1x64, .f32⟩
  | .hbm, ⟨27, _⟩ => ⟨S64, .f32⟩
  | .hbm, ⟨28, _⟩ => ⟨S8x256x2x64, .f32⟩
  | .hbm, ⟨29, _⟩ => ⟨S_, .f32⟩
  | .hbm, ⟨30, _⟩ => ⟨S8x256x2, .f32⟩
  | .hbm, ⟨31, _⟩ => ⟨S8x256x2x1, .f32⟩
  | .hbm, ⟨32, _⟩ => ⟨S_, .f32⟩
  | .hbm, ⟨33, _⟩ => ⟨S8x256x2x1, .f32⟩
  | .hbm, ⟨34, _⟩ => ⟨S8x256x2x1, .f32⟩
  | .hbm, ⟨35, _⟩ => ⟨S_, .f32⟩
  | .hbm, ⟨36, _⟩ => ⟨S8x256x2x1, .f32⟩
  | .hbm, ⟨37, _⟩ => ⟨S8x256x2x1, .f32⟩
  | .hbm, ⟨38, _⟩ => ⟨S8x256x2x1, .f32⟩
  | .hbm, ⟨39, _⟩ => ⟨S8x256x2x64, .f32⟩
  | .hbm, ⟨40, _⟩ => ⟨S8x256x2x64, .f32⟩
  | .hbm, ⟨41, _⟩ => ⟨S1x1x1x64, .f32⟩
  | .hbm, ⟨42, _⟩ => ⟨S8x256x2x64, .f32⟩
  | .hbm, ⟨43, _⟩ => ⟨S8x256x2x64, .f32⟩
  | .hbm, ⟨44, _⟩ => ⟨S32x64, .f32⟩
  | .hbm, ⟨45, _⟩ => ⟨S2048x64, .f32⟩
  | .hbm, ⟨46, _⟩ => ⟨S8x256x16x2x64, .f32⟩
  | .hbm, ⟨47, _⟩ => ⟨S16x64, .f32⟩
  | .hbm, ⟨48, _⟩ => ⟨S1x1x16x1x64, .f32⟩
  | .hbm, ⟨49, _⟩ => ⟨S8x256x16x2x64, .f32⟩
  | .hbm, ⟨50, _⟩ => ⟨S8x256x16x2x64, .f32⟩
  | .hbm, ⟨51, _⟩ => ⟨S16x64, .f32⟩
  | .hbm, ⟨52, _⟩ => ⟨S1x1x16x1x64, .f32⟩
  | .hbm, ⟨53, _⟩ => ⟨S8x256x16x2x64, .f32⟩
  | .hbm, ⟨54, _⟩ => ⟨S8x256x16x2x64, .f32⟩
  | .hbm, ⟨55, _⟩ => ⟨S8x255x16x2x64, .f32⟩
  | .hbm, ⟨56, _⟩ => ⟨S_, .i32⟩
  | .hbm, ⟨57, _⟩ => ⟨S_, .f32⟩
  | .hbm, ⟨58, _⟩ => ⟨S8x256x16x2x64, .f32⟩
  | .hbm, ⟨59, _⟩ => ⟨S8x256x32x2x64, .f32⟩
  | .hbm, ⟨60, _⟩ => ⟨S8x256x2x32x64, .f32⟩
  | .hbm, ⟨61, _⟩ => ⟨S8x256x2x2048, .f32⟩
  | .hbm, ⟨62, _⟩ => ⟨S8x256x2x64, .f32⟩
  | .hbm, ⟨63, _⟩ => ⟨S256, .i32⟩
  | .hbm, ⟨64, _⟩ => ⟨S256x1, .i32⟩
  | .hbm, ⟨65, _⟩ => ⟨S_, .i32⟩
  | .hbm, ⟨66, _⟩ => ⟨S256x1, .i32⟩
  | .hbm, ⟨67, _⟩ => ⟨S256x1, .i32⟩
  | .hbm, ⟨68, _⟩ => ⟨S_, .i32⟩
  | .hbm, ⟨69, _⟩ => ⟨S256x1, .i32⟩
  | .hbm, ⟨70, _⟩ => ⟨S256x1, .i32⟩
  | .hbm, ⟨71, _⟩ => ⟨S_, .f32⟩
  | .hbm, ⟨72, _⟩ => ⟨S256x1, .f32⟩
  | .hbm, ⟨73, _⟩ => ⟨S_, .i32⟩
  | .hbm, ⟨74, _⟩ => ⟨S256x1, .i32⟩
  | .hbm, ⟨75, _⟩ => ⟨S256x1, .i32⟩
  | .hbm, ⟨76, _⟩ => ⟨S256x1, .f32⟩
  | .hbm, ⟨77, _⟩ => ⟨S_, .i32⟩
  | .hbm, ⟨78, _⟩ => ⟨S256x1, .i32⟩
  | .hbm, ⟨79, _⟩ => ⟨S256x1, .i32⟩
  | .hbm, ⟨80, _⟩ => ⟨S256x1, .f32⟩
  | .hbm, ⟨81, _⟩ => ⟨S_, .f32⟩
  | .hbm, ⟨82, _⟩ => ⟨S256x59, .f32⟩
  | .hbm, ⟨83, _⟩ => ⟨S256x64, .f32⟩
  | .hbm, ⟨84, _⟩ => ⟨S1x1x256x64, .f32⟩
  | .hbm, ⟨85, _⟩ => ⟨S8x2x256x64, .f32⟩
  | .hbm, ⟨86, _⟩ => ⟨S8x2x256x64, .f32⟩
  | .hbm, ⟨87, _⟩ => ⟨S8x2x256x128, .f32⟩
  | .hbm, ⟨88, _⟩ => ⟨S8x2x256x128, .bf16⟩
  | .hbm, ⟨89, _⟩ => ⟨S8x2x64x256, .f32⟩
  | .hbm, ⟨90, _⟩ => ⟨S8x2x64x256, .bf16⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_2 : Ref sig .tc := ⟨.hbm, 56, rfl⟩
abbrev main_call1_v0 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_3 : Ref sig .tc := ⟨.hbm, 65, rfl⟩
abbrev main_v51 : Ref sig .tc := ⟨.hbm, 66, rfl⟩
abbrev main_v52 : Ref sig .tc := ⟨.hbm, 67, rfl⟩
abbrev main_c_4 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_c_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_7 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Proof.MlpSpec.lean ====
/- The second half of the layer as plain formulas over extended reals: the gated merge's output projection with its
   residual, the normalisation, and the squared-ReLU channel mixer, entry by entry; and the reference program read
   down to these formulas. -/
module

public import proofs.«01_k».proof.Proof.Gen.MlpRefIdeal.Run
public import Idealize.ShloMosaic.Lib.Pointwise

@[expose] public section

set_option maxRecDepth 16384

noncomputable section

namespace Cert.MlpMath

open Idealize.ShloMosaic Idealize.ShloMosaic.TcCoe Idealize.SL.Sem
open Cert.MlpRefIdeal Cert.MlpRefIdeal.Gen

/-- The nine argument arrays of the call. -/
structure Args where
  /-- the layer's input -/
  x : FVec Ideal S8x4096x1024 .f32
  /-- the attention's output -/
  o : FVec Ideal S32768x512 .bf16
  /-- the gate of the attention branch -/
  sga : FVec Ideal S32768x1024 .f32
  /-- the gated convolution branch -/
  ob : FVec Ideal S32768x1024 .f32
  /-- the attention branch's projection -/
  wa : FVec Ideal S1x512x1024 .f32
  /-- the output projection -/
  wo : FVec Ideal S1x1024x1024 .f32
  /-- the norm's gain -/
  g : FVec Ideal S1x1024 .f32
  /-- the up projection -/
  wu : FVec Ideal S1x1024x4096 .f32
  /-- the down projection -/
  wd : FVec Ideal S1x4096x1024 .f32

variable (A : Args)

/-- The merge: gate times projected attention plus the convolution branch, at token `R`, channel `j`. -/
def mix (R : Fin 32768) (j : Fin 1024) : EReal :=
  A.sga (ix2 R j) * (∑ k : Fin 512, A.o (ix2 R k) * A.wa (ix3 0 k j)) + A.ob (ix2 R j)

/-- The residual stream after the merge's output projection. -/
def x1 (R : Fin 32768) (l : Fin 1024) : EReal :=
  A.x (ix3 ⟨R.val / 4096, by omega⟩ ⟨R.val % 4096, by omega⟩ l) + ∑ j : Fin 1024, mix A R j * A.wo (ix3 0 j l)

/-- The normalised row. -/
def h (R : Fin 32768) (l : Fin 1024) : EReal :=
  x1 A R l * Ideal.rsqrt (Ideal.div (∑ j : Fin 1024, x1 A R j * x1 A R j) (Ideal.ofBits .f32 0x44800000#32)
    + Ideal.ofBits .f32 0x358637BD#32) * A.g (ix2 0 l)

/-- The channel mixer's squared ReLU at hidden unit `k`. -/
def act (R : Fin 32768) (k : Fin 4096) : EReal :=
  max (∑ j : Fin 1024, h A R j * A.wu (ix3 0 j k)) 0 * max (∑ j : Fin 1024, h A R j * A.wu (ix3 0 j k)) 0

/-- The layer's output. -/
def out (R : Fin 32768) (l : Fin 1024) : EReal :=
  x1 A R l + ∑ k : Fin 4096, act A R k * A.wd (ix3 0 k l)

/-- The whole output array. -/
def outArr : FVec Ideal S32768x1024 .f32 := fun i => out A (i 0) (i 1)

/-- The reference program's argument arrays. -/
def refArgs (m : (ℓ : Loc nD τ sig) → Buf (Elt Ideal) ℓ) (c : Dev nD) : Args :=
  ⟨m ((c.tc : Thread nD τ).loc main_arg0), m ((c.tc : Thread nD τ).loc main_arg1),
   m ((c.tc : Thread nD τ).loc main_arg2), m ((c.tc : Thread nD τ).loc main_arg3),
   m ((c.tc : Thread nD τ).loc main_arg4), m ((c.tc : Thread nD τ).loc main_arg5),
   m ((c.tc : Thread nD τ).loc main_arg6), m ((c.tc : Thread nD τ).loc main_arg7),
   m ((c.tc : Thread nD τ).loc main_arg8)⟩

/-- The reference's residual stream as an array term. -/
def refX1 : FVec Ideal S32768x1024 .f32 :=
  addf (shapeCast _ A.x shapeCasts_S8x4096x1024_S32768x1024)
    (Host.dotGeneral dot_S32768x1024_S1024x1024_S32768x1024_1_0_0_1_n_n none
      (addf (mulf A.sga (Host.dotGeneral dot_S32768x512_S512x1024_S32768x1024_1_0_0_1_n_n none
        (extf .f32 A.o bitsLt_bf16_f32) (shapeCast _ A.wa shapeCasts_S1x512x1024_S512x1024))) A.ob)
      (shapeCast _ A.wo shapeCasts_S1x1024x1024_S1024x1024))

/-- It is the formula's residual stream. -/
theorem refX1_apply (R : Fin 32768) (l : Fin 1024) : refX1 A (ix2 R l) = x1 A R l := by
  pointwise [refX1, x1, mix]

/-- The reference's normalised rows, from the residual stream `X`. -/
def refH (X : FVec Ideal S32768x1024 .f32) : FVec Ideal S32768x1024 .f32 :=
  mulf (mulf X (broadcastInDim S32768x1024 ![0, 1] bcast_S32768x1_S32768x1024_0_1 (Host.rsqrt (addf
    (Host.divf (broadcastInDim S32768x1 ![0] bcast_S32768_S32768x1_0
      (Host.reduceAdd (mulf X X) (constant S_ .f32 0x00000000#32) reducesTo_S32768x1024_S32768_d1 h_S_))
      (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1
      (shapeCast _ A.g shapeCasts_S1x1024_S1024)))

/-- They are the formula's. -/
theorem refH_apply (R : Fin 32768) (l : Fin 1024) : refH A (refX1 A) (ix2 R l) = h A R l := by
  have hx := refX1_apply A
  generalize refX1 A = X at hx ⊢
  pointwise [refH]
  simp only [hx, h]

/-- The reference's activations, from the normalised rows `H`. -/
def refAct (H : FVec Ideal S32768x1024 .f32) : FVec Ideal S32768x4096 .f32 :=
  mulf (maximumf (Host.dotGeneral dot_S32768x1024_S1024x4096_S32768x4096_1_0_0_1_n_n none H
      (shapeCast _ A.wu shapeCasts_S1x1024x4096_S1024x4096))
      (broadcastInDim S32768x4096 ![] bcast_S_S32768x4096 (constant S_ .f32 0x00000000#32)))
    (maximumf (Host.dotGeneral dot_S32768x1024_S1024x4096_S32768x4096_1_0_0_1_n_n none H
      (shapeCast _ A.wu shapeCasts_S1x1024x4096_S1024x4096))
      (broadcastInDim S32768x4096 ![] bcast_S_S32768x4096 (constant S_ .f32 0x00000000#32)))

/-- They are the formula's. -/
theorem refAct_apply (R : Fin 32768) (k : Fin 4096) : refAct A (refH A (refX1 A)) (ix2 R k) = act A R k := by
  have hx := refH_apply A
  generalize refH A (refX1 A) = X at hx ⊢
  pointwise [refAct]
  simp only [hx, act]

/-- The reference's result is the formula. -/
theorem ref_eq (m : (ℓ : Loc nD τ sig) → Buf (Elt Ideal) ℓ) (c : Dev nD) :
    Cert.MlpRefIdeal.Value.res_out0 m c = outArr (refArgs m c) := by
  have e : Cert.MlpRefIdeal.Value.res_out0 m c = addf (refX1 (refArgs m c))
      (Host.dotGeneral dot_S32768x4096_S4096x1024_S32768x1024_1_0_0_1_n_n none
        (refAct (refArgs m c) (refH (refArgs m c) (refX1 (refArgs m c))))
        (shapeCast _ (refArgs m c).wd shapeCasts_S1x4096x1024_S4096x1024)) := rfl
  rw [e]
  have h1 := refX1_apply (refArgs m c)
  have h2 := refAct_apply (refArgs m c)
  generalize refArgs m c = A at *
  generalize refAct A _ = U at h2 ⊢
  generalize refX1 A = X at h1 ⊢
  funext i
  idx_vars i
  pointwise [outArr, out]
  simp only [h1, h2]

end Cert.MlpMath

end
-- ==== Proof.MlpBlock.lean ====
/- What one grid point of the kernel computes: from blocks that are read out of the argument arrays, each value of the
   body is the formula of the same name at the token row the block row stands for. -/
module

public import proofs.«01_k».proof.Proof.Gen.MlpIdeal.Frame
public import proofs.«01_k».proof.Proof.MlpSpec
public import Idealize.ShloMosaic.Lib.Pipeline.ValueKit

@[expose] public section

set_option maxRecDepth 16384

noncomputable section

namespace Cert.MlpIdeal.Block

open Idealize.ShloMosaic Idealize.ShloMosaic.TcCoe Idealize.SL.Sem
open Cert.MlpIdeal Cert.MlpIdeal.Gen
open Cert.MlpMath (Args x1 mix h act out)

/-- The blocks `x0 … x8` hold the rows `row r` of the token arrays and the whole of the weights. -/
structure Reads (A : Args) (row : Fin 512 → Fin 32768)
    (x0 : FVec Ideal S512x1024 .f32) (x1 : FVec Ideal S512x512 .bf16) (x2 : FVec Ideal S512x1024 .f32)
    (x3 : FVec Ideal S512x1024 .f32) (x4 : FVec Ideal S512x1024 .bf16) (x5 : FVec Ideal S1024x1024 .bf16)
    (x6 : FVec Ideal S1x1024 .f32) (x7 : FVec Ideal S1024x4096 .bf16) (x8 : FVec Ideal S4096x1024 .bf16) : Prop where
  h0 : ∀ r l, x0 (ix2 r l) = A.x (ix3 ⟨(row r).val / 4096, by omega⟩ ⟨(row r).val % 4096, by omega⟩ l)
  h1 : ∀ r k, x1 (ix2 r k) = A.o (ix2 (row r) k)
  h2 : ∀ r l, x2 (ix2 r l) = A.sga (ix2 (row r) l)
  h3 : ∀ r l, x3 (ix2 r l) = A.ob (ix2 (row r) l)
  h4 : ∀ k l, x4 (ix2 k l) = A.wa (ix3 0 k l)
  h5 : ∀ k l, x5 (ix2 k l) = A.wo (ix3 0 k l)
  h6 : ∀ l, x6 (ix2 0 l) = A.g (ix2 0 l)
  h7 : ∀ k l, x7 (ix2 k l) = A.wu (ix3 0 k l)
  h8 : ∀ k l, x8 (ix2 k l) = A.wd (ix3 0 k l)

section
variable {A : Args} {row : Fin 512 → Fin 32768}
variable {y0 : FVec Ideal S512x1024 .f32} {y1 : FVec Ideal S512x512 .bf16} {y2 : FVec Ideal S512x1024 .f32}
  {y3 : FVec Ideal S512x1024 .f32} {y4 : FVec Ideal S512x1024 .bf16} {y5 : FVec Ideal S1024x1024 .bf16}
  {y6 : FVec Ideal S1x1024 .f32} {y7 : FVec Ideal S1024x4096 .bf16} {y8 : FVec Ideal S4096x1024 .bf16}

/-- The residual stream of the block. -/
theorem pay2_apply (H : Reads A row y0 y1 y2 y3 y4 y5 y6 y7 y8) (r : Fin 512) (l : Fin 1024) :
    k0_pay2 (F := Ideal) y1 y4 y2 y3 y0 y5 (ix2 r l) = x1 A (row r) l := by
  obtain ⟨h0, h1, h2, h3, h4, h5, h6, h7, h8⟩ := H
  pointwise [k0_pay2]
  simp only [h0, h1, h2, h3, h4, h5, x1, mix]

/-- The normalised rows of the block. -/
theorem pay3_apply (H : Reads A row y0 y1 y2 y3 y4 y5 y6 y7 y8) (r : Fin 512) (l : Fin 1024) :
    k0_pay3 (F := Ideal) y1 y4 y2 y3 y0 y5 y6 (ix2 r l) = h A (row r) l := by
  have hx := pay2_apply H
  have h6 := H.h6
  unfold k0_pay3
  generalize k0_pay2 (F := Ideal) y1 y4 y2 y3 y0 y5 = X at hx ⊢
  pointwise []
  simp only [hx, h6, h]

/-- The activations of a chunk of 512 hidden units, from the normalised rows `X` and the chunk `w` of the up projection. -/
theorem chunk_apply {X : FVec Ideal S512x1024 .bf16} (hX : ∀ r l, X (ix2 r l) = h A (row r) l)
    {w : FVec Ideal S1024x512 .bf16} {col : Fin 512 → Fin 4096} (hw : ∀ k j, w (ix2 k j) = A.wu (ix3 0 k (col j)))
    (r j : Fin 512) : k0_pay6 (F := Ideal) X w (ix2 r j) = act A (row r) (col j) := by
  pointwise [k0_pay6]
  simp only [hX, hw, act]

/-- The stored block: the residual plus the eight concatenated chunks through the down projection. -/
theorem pay1_apply {X1 : FVec Ideal S512x1024 .f32} {X : FVec Ideal S512x1024 .bf16}
    {u0 u1 u2 u3 u4 u5 : FVec Ideal S512x512 .bf16} {w6 w7 : FVec Ideal S1024x512 .bf16} {w8 : FVec Ideal S4096x1024 .bf16}
    (hX1 : ∀ r l, X1 (ix2 r l) = x1 A (row r) l) (hX : ∀ r l, X (ix2 r l) = h A (row r) l)
    (hu0 : ∀ r (j : Fin 512), u0 (ix2 r j) = act A (row r) ⟨512 * 0 + j.val, by omega⟩)
    (hu1 : ∀ r (j : Fin 512), u1 (ix2 r j) = act A (row r) ⟨512 * 1 + j.val, by omega⟩)
    (hu2 : ∀ r (j : Fin 512), u2 (ix2 r j) = act A (row r) ⟨512 * 2 + j.val, by omega⟩)
    (hu3 : ∀ r (j : Fin 512), u3 (ix2 r j) = act A (row r) ⟨512 * 3 + j.val, by omega⟩)
    (hu4 : ∀ r (j : Fin 512), u4 (ix2 r j) = act A (row r) ⟨512 * 4 + j.val, by omega⟩)
    (hu5 : ∀ r (j : Fin 512), u5 (ix2 r j) = act A (row r) ⟨512 * 5 + j.val, by omega⟩)
    (hw6 : ∀ k (j : Fin 512), w6 (ix2 k j) = A.wu (ix3 0 k ⟨512 * 6 + j.val, by omega⟩))
    (hw7 : ∀ k (j : Fin 512), w7 (ix2 k j) = A.wu (ix3 0 k ⟨512 * 7 + j.val, by omega⟩))
    (hw8 : ∀ k l, w8 (ix2 k l) = A.wd (ix3 0 k l)) (r : Fin 512) (l : Fin 1024) :
    k0_pay1 (F := Ideal) X1 X u0 u1 u2 u3 u4 u5 (k0_pay11 w6) w7 w8 (ix2 r l) = out A (row r) l := by
  have hu6 := chunk_apply hX hw6
  have hu7 := chunk_apply hX hw7
  have e : k0_pay1 (F := Ideal) X1 X u0 u1 u2 u3 u4 u5 (k0_pay11 w6) w7 w8
      = addf X1 (matmul dot_S512x4096_S4096x1024_S512x1024_1_0_0_1_n_n none
          (concatenate S512x4096 1 [⟨S512x512, u0⟩, ⟨S512x512, u1⟩, ⟨S512x512, u2⟩, ⟨S512x512, u3⟩, ⟨S512x512, u4⟩,
            ⟨S512x512, u5⟩, ⟨S512x512, k0_pay6 X w6⟩, ⟨S512x512, k0_pay6 X w7⟩]
            concatenates_S512x512_S512x512_S512x512_S512x512_S512x512_S512x512_S512x512_S512x512_S512x4096_d1)
          (shapeCast S4096x1024 w8 shapeCasts_S4096x1024_S4096x1024) (constant S512x1024 .f32 0x00000000#32)) := by
    dsimp only [k0_pay1, k0_pay6, k0_pay11]
  rw [e]
  generalize k0_pay6 X w6 = u6 at *
  generalize k0_pay6 X w7 = u7 at *
  clear e
  have hU : ∀ k : Fin 4096, (concatenate S512x4096 1 [⟨S512x512, u0⟩, ⟨S512x512, u1⟩, ⟨S512x512, u2⟩, ⟨S512x512, u3⟩,
      ⟨S512x512, u4⟩, ⟨S512x512, u5⟩, ⟨S512x512, u6⟩, ⟨S512x512, u7⟩]
      concatenates_S512x512_S512x512_S512x512_S512x512_S512x512_S512x512_S512x512_S512x512_S512x4096_d1
      : FVec Ideal S512x4096 .bf16) (ix2 r k) = act A (row r) k := by
    intro k
    pointwise []
    simp only [hu0, hu1, hu2, hu3, hu4, hu5, hu6, hu7]
    split_ifs <;> (congr 1; apply Fin.ext; simp only; omega)
  generalize concatenate S512x4096 1 _ _ = U at hU ⊢
  pointwise []
  simp only [hX1, hU, hw8, out]

/-- A load of 512 columns from column `o` on. -/
theorem ld_col (Y : FVec Ideal S1024x4096 .bf16) (o : ℕ) (ho : o + 512 ≤ 4096)
    (inb : ∀ d : Fin 2, (![0, o] : Fin 2 → ℕ) d + S1024x512.size d ≤ S1024x4096.size d) (k : Fin 1024) (j : Fin 512) :
    View.ld (Val := Elt Ideal) (e' := .bf16) Y (Rect.unit (s := S1024x4096) ![0, o] S1024x512.size inb) (ix2 k j)
      = Y (ix2 k ⟨o + j.val, by omega⟩) := by
  rw [View.ld_apply]
  refine congrArg Y (funext fun a => Fin.ext ?_)
  rw [Rect.idx_unit_val]
  match a with
  | ⟨0, _⟩ => exact Nat.zero_add _
  | ⟨1, _⟩ => rfl

/-- Chunk 0 of the up projection as loaded. -/
theorem ld0 (H : Reads A row y0 y1 y2 y3 y4 y5 y6 y7 y8) (k : Fin 1024) (j : Fin 512) :
    View.ld (Val := Elt Ideal) (e' := .bf16) y7 r0_4 (ix2 k j) = A.wu (ix3 0 k ⟨512 * 0 + j.val, by omega⟩) :=
  (ld_col y7 _ (by omega) _ k j).trans (H.h7 k _)

/-- Chunk 1 of the up projection as loaded. -/
theorem ld1 (H : Reads A row y0 y1 y2 y3 y4 y5 y6 y7 y8) (k : Fin 1024) (j : Fin 512) :
    View.ld (Val := Elt Ideal) (e' := .bf16) y7 r0_5 (ix2 k j) = A.wu (ix3 0 k ⟨512 * 1 + j.val, by omega⟩) :=
  (ld_col y7 _ (by omega) _ k j).trans (H.h7 k _)

/-- Chunk 2 of the up projection as loaded. -/
theorem ld2 (H : Reads A row y0 y1 y2 y3 y4 y5 y6 y7 y8) (k : Fin 1024) (j : Fin 512) :
    View.ld (Val := Elt Ideal) (e' := .bf16) y7 r0_6 (ix2 k j) = A.wu (ix3 0 k ⟨512 * 2 + j.val, by omega⟩) :=
  (ld_col y7 _ (by omega) _ k j).trans (H.h7 k _)

/-- Chunk 3 of the up projection as loaded. -/
theorem ld3 (H : Reads A row y0 y1 y2 y3 y4 y5 y6 y7 y8) (k : Fin 1024) (j : Fin 512) :
    View.ld (Val := Elt Ideal) (e' := .bf16) y7 r0_7 (ix2 k j) = A.wu (ix3 0 k ⟨512 * 3 + j.val, by omega⟩) :=
  (ld_col y7 _ (by omega) _ k j).trans (H.h7 k _)

/-- Chunk 4 of the up projection as loaded. -/
theorem ld4 (H : Reads A row y0 y1 y2 y3 y4 y5 y6 y7 y8) (k : Fin 1024) (j : Fin 512) :
    View.ld (Val := Elt Ideal) (e' := .bf16) y7 r0_8 (ix2 k j) = A.wu (ix3 0 k ⟨512 * 4 + j.val, by omega⟩) :=
  (ld_col y7 _ (by omega) _ k j).trans (H.h7 k _)

/-- Chunk 5 of the up projection as loaded. -/
theorem ld5 (H : Reads A row y0 y1 y2 y3 y4 y5 y6 y7 y8) (k : Fin 1024) (j : Fin 512) :
    View.ld (Val := Elt Ideal) (e' := .bf16) y7 r0_9 (ix2 k j) = A.wu (ix3 0 k ⟨512 * 5 + j.val, by omega⟩) :=
  (ld_col y7 _ (by omega) _ k j).trans (H.h7 k _)

/-- Chunk 6 of the up projection as loaded. -/
theorem ld6 (H : Reads A row y0 y1 y2 y3 y4 y5 y6 y7 y8) (k : Fin 1024) (j : Fin 512) :
    View.ld (Val := Elt Ideal) (e' := .bf16) y7 r0_10 (ix2 k j) = A.wu (ix3 0 k ⟨512 * 6 + j.val, by omega⟩) :=
  (ld_col y7 _ (by omega) _ k j).trans (H.h7 k _)

/-- Chunk 7 of the up projection as loaded. -/
theorem ld7 (H : Reads A row y0 y1 y2 y3 y4 y5 y6 y7 y8) (k : Fin 1024) (j : Fin 512) :
    View.ld (Val := Elt Ideal) (e' := .bf16) y7 r0_11 (ix2 k j) = A.wu (ix3 0 k ⟨512 * 7 + j.val, by omega⟩) :=
  (ld_col y7 _ (by omega) _ k j).trans (H.h7 k _)

/-- The whole body: the output block is the formula's rows. -/
theorem out0_9_apply (H : Reads A row y0 y1 y2 y3 y4 y5 y6 y7 y8) (r : Fin 512) (l : Fin 1024) :
    out0_9 (F := Ideal) y0 y1 y2 y3 y4 y5 y6 y7 y8 (ix2 r l) = out A (row r) l := by
  frame_out
  have e12 : k0_pay12 (F := Ideal) y0 y1 y2 y3 y4 y5 y6 y7 y8 = k0_pay3 (F := Ideal) y1 y4 y2 y3 y0 y5 y6 := by
    unfold k0_pay12
    frame_out
  rw [e12]
  have hX := pay3_apply H
  have e4 : ∀ w : FVec Ideal S1024x512 .bf16, k0_pay5 (F := Ideal) (k0_pay4 y1 y4 y2 y3 y0 y5 y6 w)
      = k0_pay6 (F := Ideal) (k0_pay3 y1 y4 y2 y3 y0 y5 y6) w := fun w => rfl
  rw [e4]
  exact pay1_apply (pay2_apply H) hX (chunk_apply hX (ld0 H)) (chunk_apply hX (ld1 H)) (chunk_apply hX (ld2 H))
    (chunk_apply hX (ld3 H)) (chunk_apply hX (ld4 H)) (chunk_apply hX (ld5 H)) (ld6 H) (ld7 H) H.h8 r l

end

end Cert.MlpIdeal.Block

end
-- ==== Proof.MlpValue.lean ====
/- What the output array holds after the run: grid point `t` writes rows `512 t … 512 t + 511` of the formula. -/
module

public import proofs.«01_k».proof.Proof.MlpBlock
public import proofs.«01_k».proof.Defs
public import Idealize.ShloMosaic.Lib.Claim

@[expose] public section

set_option maxRecDepth 16384

noncomputable section

namespace Cert.MlpIdeal.Final

open Idealize.ShloMosaic Idealize.ShloMosaic.TcCoe Idealize.SL.Sem
open Idealize.ShloMosaic.Pipeline (Dat)
open Cert.MlpIdeal Cert.MlpIdeal.Gen Cert.MlpIdeal.Block
open Cert.MlpMath (Args x1 mix h act out outArr)

variable (m : (ℓ : Loc nD τ sig) → Buf (Elt Ideal) ℓ)

/-- The kernel's argument arrays. -/
def args (c : Dev nD) : Args :=
  ⟨m ((c.tc : Thread nD τ).loc main_arg0), m ((c.tc : Thread nD τ).loc main_arg1),
   m ((c.tc : Thread nD τ).loc main_arg2), m ((c.tc : Thread nD τ).loc main_arg3),
   m ((c.tc : Thread nD τ).loc main_arg4), m ((c.tc : Thread nD τ).loc main_arg5),
   m ((c.tc : Thread nD τ).loc main_arg6), m ((c.tc : Thread nD τ).loc main_arg7),
   m ((c.tc : Thread nD τ).loc main_arg8)⟩

/-- The windows' block indices at every point: the token windows move with the point, the weights stay. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![0, 0] ∧ win0_7.index t = ![0, 0] ∧ win0_8.index t = ![0, 0]
    ∧ win0_9.index t = ![t.val, 0] :=
  (by decide +kernel : ∀ t : Fin grid0.N, _)

/-- There are 64 points. -/
theorem lt_N (t : Fin cfg0.N) : t.val < 64 := t.isLt

/-- The token row of block row `r` at point `t`. -/
def row (t : Fin cfg0.N) (r : Fin 512) : Fin 32768 := ⟨t.val * 512 + r.val, by have := lt_N t; omega⟩

set_option maxHeartbeats 2000000 in
/-- The input blocks at point `t` hold the arrays' rows. -/
theorem reads (c : Dev nD) (t : Fin cfg0.N) : Reads (args m c) (row t) (iblk m c 0 t) (iblk m c 1 t) (iblk m c 2 t)
    (iblk m c 3 t) (iblk m c 4 t) (iblk m c 5 t) (iblk m c 6 t) (iblk m c 7 t) (iblk m c 8 t) where
  h0 r l := by blk_simp [iblk, idx t, args]; entry_read; pointwise [row]; blk_ext [idx t]
  h1 r l := by blk_ext [iblk, V, idx t, args, row]
  h2 r l := by blk_ext [iblk, V, idx t, args, row]
  h3 r l := by blk_ext [iblk, V, idx t, args, row]
  h4 r l := by blk_simp [iblk, idx t, args]; entry_read; pointwise []; blk_ext [idx t]
  h5 r l := by blk_simp [iblk, idx t, args]; entry_read; pointwise []; blk_ext [idx t]
  h6 l := by blk_simp [iblk, idx t, args]; entry_read; pointwise []; blk_ext [idx t]
  h7 r l := by blk_simp [iblk, idx t, args]; entry_read; pointwise []; blk_ext [idx t]
  h8 r l := by blk_simp [iblk, idx t, args]; entry_read; pointwise []; blk_ext [idx t]

/-- The output array after the run is the formula. -/
theorem final (c : Dev nD) : (dats m 0 c).arrAt 9 (cfgs 0).N = outArr (args m c) := by
  refine (dats m 0 c).arrAt_eq_of_covers 9 _ (by decide +kernel) fun t _ y => ?_
  blk_simp
  rw [after0_9]
  idx_vars y
  refine (out0_9_apply (reads m c t) _ _).trans ?_
  unfold outArr
  refine congrArg₂ (out _) (Fin.ext ?_) (Fin.ext ?_)
  · blk_simp [idx t, row]
  · blk_simp [idx t]

/-- Both programs compute the formula. -/
theorem algebraic : Cert.algebraic_MlpIdeal_MlpRefIdeal := by
  pair_intro
  · run_from Cert.MlpIdeal.Gen.run_main m g
  · run_from Cert.MlpRefIdeal.Value.run m' g'
    rw [final m c]
    refine (Cert.MlpMath.ref_eq m' c).trans (congrArg outArr ?_)
    obtain ⟨e0, e1, e2, e3, e4, e5, e6, e7, e8⟩ := hagree c
    unfold Cert.MlpMath.refArgs args
    rw [e0, e1, e2, e3, e4, e5, e6, e7, e8]

end Cert.MlpIdeal.Final

end
-- ==== Proof.ProjMath.lean ====
/- The first part of the layer as plain formulas over extended reals: the normalised token, its combined input
   projection, and what the mixers read off it (normalised queries and keys with their position lanes, values, branch
   gates, the gated short convolution), entry by entry. -/
module

public import proofs.«01_k».proof.Proof.Gen.ProjIdeal.Frame
public import Idealize.ShloMosaic.Lib.Pointwise

@[expose] public section

set_option maxRecDepth 16384

noncomputable section

namespace Cert.ProjMath

open Idealize.ShloMosaic Idealize.ShloMosaic.TcCoe Idealize.SL.Sem
open Cert.ProjIdeal Cert.ProjIdeal.Gen

/-- The seven argument arrays of the call. -/
structure Args where
  /-- the layer's input -/
  x : FVec Ideal S8x4096x1024 .f32
  /-- the norm's gain -/
  g1 : FVec Ideal S1x1024 .f32
  /-- the combined input projection -/
  w : FVec Ideal S1x1024x6424 .f32
  /-- the queries' gain -/
  qg : FVec Ideal S1x64 .f32
  /-- the keys' gains -/
  kg : FVec Ideal S1x3x64 .f32
  /-- the convolution's taps -/
  cw : FVec Ideal S1x3x1024 .f32
  /-- the convolution branch's projection -/
  wb : FVec Ideal S1x1024x1024 .f32

variable (A : Args)

/-- The input at token `R`. -/
def xin (R : Fin 32768) (l : Fin 1024) : EReal := A.x (ix3 ⟨R.val / 4096, by omega⟩ ⟨R.val % 4096, by omega⟩ l)

/-- The normalised token. -/
def xn (R : Fin 32768) (l : Fin 1024) : EReal :=
  xin A R l * Ideal.rsqrt (Ideal.div (∑ j : Fin 1024, xin A R j * xin A R j) (Ideal.ofBits .f32 0x44800000#32)
    + Ideal.ofBits .f32 0x358637BD#32) * A.g1 (ix2 0 l)

/-- Column `c` of the combined projection of token `R`. -/
def proj (R : Fin 32768) (c : Fin 6424) : EReal := ∑ k : Fin 1024, xn A R k * A.w (ix3 0 k c)

/-- The reciprocal root mean square of 64 numbers. -/
def rms (f : Fin 64 → EReal) : EReal :=
  Ideal.rsqrt (Ideal.div (∑ j : Fin 64, f j * f j) (Ideal.ofBits .f32 0x42800000#32) + Ideal.ofBits .f32 0x358637BD#32)

/-- The scaled normalised query of head `n`. -/
def query (R : Fin 32768) (n : Fin 8) (d : Fin 64) : EReal :=
  proj A R ⟨n.val * 64 + d.val, by omega⟩ * rms (fun e => proj A R ⟨n.val * 64 + e.val, by omega⟩) * A.qg (ix2 0 d)
    * Ideal.ofBits .f32 0x3E000000#32

/-- The normalised key of group `g`, projected by the columns from `o` on, with the gain `j`. -/
def key (o : ℕ) (ho : o + 128 ≤ 6424) (j : Fin 3) (R : Fin 32768) (g : Fin 2) (d : Fin 64) : EReal :=
  proj A R ⟨o + (g.val * 64 + d.val), by omega⟩ * rms (fun e => proj A R ⟨o + (g.val * 64 + e.val), by omega⟩)
    * A.kg (ix3 0 j d)

/-- The 64 position lanes beside a key at position `s`: ones in lanes 0, 1 and 4, the position's upper part in lane 2
    and its lower six bits in lane 3. -/
def lane (s : Fin 4096) (l : Fin 64) : EReal :=
  if l.val = 0 ∨ l.val = 1 ∨ l.val = 4 then 1
  else if l.val = 2 then (((s.val / 64 : ℕ) : ℝ) : EReal) else if l.val = 3 then (((s.val % 64 : ℕ) : ℝ) : EReal) else 0

/-- The upper part of a position, as the integer shift computes it. -/
theorem shr_pos (a : ArithUnit) (s : ℕ) (hs : s < 4096) :
    FloatOps.sitofp (F := Ideal) FTy.f32 (IntOp.shrsi a (BitVec.ofNat 32 s) 6#32) = (((s / 64 : ℕ) : ℝ) : EReal) := by
  have h : ∀ a : ArithUnit, ∀ s : Fin 4096,
      (IntOp.shrsi a (BitVec.ofNat 32 s.val) 6#32).toInt = ((s.val / 64 : ℕ) : ℤ) := by
    intro a; cases a <;> decide +kernel
  change (((IntOp.shrsi a (BitVec.ofNat 32 s) 6#32).toInt : ℝ) : EReal) = _
  rw [h a ⟨s, hs⟩, Int.cast_natCast]

/-- The lower six bits of a position, as the integer mask computes them. -/
theorem and_pos (s : ℕ) (hs : s < 4096) :
    FloatOps.sitofp (F := Ideal) FTy.f32 (IntOp.andi (BitVec.ofNat 32 s) 63#32) = (((s % 64 : ℕ) : ℝ) : EReal) := by
  have h : ∀ s : Fin 4096, (IntOp.andi (BitVec.ofNat 32 s.val) 63#32).toInt = ((s.val % 64 : ℕ) : ℤ) := by
    decide +kernel
  change (((IntOp.andi (BitVec.ofNat 32 s) 63#32).toInt : ℝ) : EReal) = _
  rw [h ⟨s, hs⟩, Int.cast_natCast]

/-- A key with its position lanes. -/
def keyLane (o : ℕ) (ho : o + 128 ≤ 6424) (j : Fin 3) (R : Fin 32768) (g : Fin 2) (l : Fin 128) : EReal :=
  if h : l.val < 64 then key A o ho j R g ⟨l.val, h⟩ else lane ⟨R.val % 4096, by omega⟩ ⟨l.val - 64, by omega⟩

/-- The value of group `g`, projected by the columns from `o` on. -/
def value (o : ℕ) (ho : o + 128 ≤ 6424) (R : Fin 32768) (g : Fin 2) (d : Fin 64) : EReal :=
  proj A R ⟨o + (g.val * 64 + d.val), by omega⟩

/-- The logit of a branch gate of group `g`: twelve columns (branch, head in the group), then zeros. -/
def logit (R : Fin 32768) (g : Fin 2) (l : Fin 16) : EReal :=
  if h : l.val < 12 then proj A R ⟨1280 + (l.val / 4 * 8 + g.val * 4 + l.val % 4), by omega⟩ else 0

/-- The convolution's input. -/
def u (R : Fin 32768) (l : Fin 1024) : EReal := proj A R ⟨2328 + l.val, by omega⟩ * proj A R ⟨3352 + l.val, by omega⟩

/-- The convolution's input `k` tokens earlier in the sequence, zero before its start. -/
def uBack (k : ℕ) (R : Fin 32768) (l : Fin 1024) : EReal :=
  if h : k ≤ R.val % 4096 then u A ⟨R.val - k, by omega⟩ l else 0

/-- The causal convolution with three taps. -/
def conv (R : Fin 32768) (l : Fin 1024) : EReal :=
  A.cw (ix3 0 0 l) * uBack A 2 R l + A.cw (ix3 0 1 l) * uBack A 1 R l + A.cw (ix3 0 2 l) * u A R l

/-- The gated convolution branch. -/
def branch (R : Fin 32768) (l : Fin 1024) : EReal :=
  Ideal.logistic (proj A R ⟨5400 + l.val, by omega⟩)
    * ∑ j : Fin 1024, proj A R ⟨1304 + j.val, by omega⟩ * conv A R j * A.wb (ix3 0 j l)

/-- The token at position `s` of sequence `b`. -/
def tok (b : Fin 8) (s : Fin 4096) : Fin 32768 := ⟨b.val * 4096 + s.val, by omega⟩

/-- The input at that token. -/
theorem xin_tok (b : Fin 8) (s : Fin 4096) (l : Fin 1024) : xin A (tok b s) l = A.x (ix3 b s l) := by
  unfold xin tok
  congr 2
  · apply Fin.ext; simp only; omega
  · apply Fin.ext; simp only; omega

/-- The queries, as the array the attention reads. -/
def qArr : FVec Ideal S8x8x64x4096 .bf16 := fun i => query A (tok (i 0) (i 3)) (i 1) (i 2)

/-- 128 columns of the projection from column `o` on. -/
def colArr (o : ℕ) (ho : o + 128 ≤ 6424) : FVec Ideal S32768x128 .f32 :=
  fun i => proj A (i 0) ⟨o + (i 1).val, by have := (i 1).isLt; change (i 1).val < 128 at this; omega⟩

/-- The keys with their position lanes. -/
def keyArr (o : ℕ) (ho : o + 128 ≤ 6424) (j : Fin 3) : FVec Ideal S8x2x4096x128 .bf16 :=
  fun i => keyLane A o ho j (tok (i 0) (i 2)) (i 1) (i 3)

/-- The position of lane `r` of value tile `n`. -/
def tilePos (n : Fin 16) (r : Fin 256) : Fin 4096 := ⟨n.val * 256 + r.val, by omega⟩

/-- The values, in tiles of 256 positions. -/
def valArr (o : ℕ) (ho : o + 128 ≤ 6424) : FVec Ideal S8x2x16x64x256 .bf16 :=
  fun i => value A o ho (tok (i 0) (tilePos (i 2) (i 4))) (i 1) (i 3)

/-- The branch gates. -/
def gateArr : FVec Ideal S8x2x16x4096 .f32 := fun i => Ideal.logistic (logit A (tok (i 0) (i 3)) (i 1) (i 2))

/-- The gate of the attention branch. -/
def sga (R : Fin 32768) (l : Fin 1024) : EReal := Ideal.logistic (proj A R ⟨4376 + l.val, by omega⟩)

/-- The same as an array. -/
def sgaArr : FVec Ideal S32768x1024 .f32 := fun i => sga A (i 0) (i 1)

/-- The gated convolution branch as an array. -/
def branchArr : FVec Ideal S32768x1024 .f32 := fun i => branch A (i 0) (i 1)

end Cert.ProjMath

end
-- ==== Proof.ProjSpec.lean ====
/- The reference program read down to the formulas of the layer's first part. -/
module

public import proofs.«01_k».proof.Proof.Gen.ProjRefIdeal.Run
public import proofs.«01_k».proof.Proof.ProjMath
public import Idealize.ShloMosaic.Lib.Pointwise

@[expose] public section

set_option maxRecDepth 16384

noncomputable section

namespace Cert.ProjRef

open Idealize.ShloMosaic Idealize.ShloMosaic.TcCoe Idealize.SL.Sem
open Idealize.ShloMosaic.StableHlo Cert.ProjRefIdeal Cert.ProjRefIdeal.Gen
open Cert.ProjMath

variable (A : Args)

/-- The reference's combined projection as an array term. -/
def rproj : FVec Ideal S8x4096x6424 .f32 :=
  Host.dotGeneral dot_S8x4096x1024_S1024x6424_S8x4096x6424_2_0_01_1_n_n none (mulf (mulf A.x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf A.x A.x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ A.g1 shapeCasts_S1x1024_S1024)))) (shapeCast _ A.w shapeCasts_S1x1024x6424_S1024x6424)

/-- The reference's normalised tokens as an array term. -/
def rxn : FVec Ideal S8x4096x1024 .f32 :=
  mulf (mulf A.x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf A.x A.x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ A.g1 shapeCasts_S1x1024_S1024)))

/-- They are the formula's. -/
theorem rxn_apply (b : Fin 8) (s : Fin 4096) (l : Fin 1024) : rxn A (ix3 b s l) = xn A (tok b s) l := by
  pointwise [rxn]
  simp only [xn, xin_tok]

/-- It is the formula's projection. -/
theorem rproj_apply (b : Fin 8) (s : Fin 4096) (c : Fin 6424) : rproj A (ix3 b s c) = proj A (tok b s) c := by
  have e : rproj A = Host.dotGeneral dot_S8x4096x1024_S1024x6424_S8x4096x6424_2_0_01_1_n_n none (rxn A)
      (shapeCast _ A.w shapeCasts_S1x1024x6424_S1024x6424) := rfl
  have hx := rxn_apply A
  rw [e]
  generalize rxn A = X at hx
  pointwise []
  simp only [hx, proj]

/-- A combined projection that is the formula's. -/
abbrev IsProj (P : FVec Ideal S8x4096x6424 .f32) : Prop := ∀ b s c, P (ix3 b s c) = proj A (tok b s) c

variable {A} {P : FVec Ideal S8x4096x6424 .f32}

/-- A token's sequence and position name the token. -/
theorem tok_div (R : Fin 32768) (h1 : R.val / 4096 < 8) (h2 : R.val % 4096 < 4096) :
    tok ⟨R.val / 4096, h1⟩ ⟨R.val % 4096, h2⟩ = R := by
  apply Fin.ext; unfold tok; simp only; omega

/-- The integer zero as a float. -/
theorem sitofp_zero : FloatOps.sitofp (F := Ideal) FTy.f32 (0#32) = (0 : EReal) := by
  change (((0#32 : BitVec 32).toInt : ℝ) : EReal) = 0
  simp

/-- A token's position. -/
theorem tok_mod (b : Fin 8) (s : Fin 4096) (h : (tok b s).val % 4096 < 4096) :
    (⟨(tok b s).val % 4096, h⟩ : Fin 4096) = s := by
  apply Fin.ext; unfold tok; simp only; omega

/-- No step back. -/
theorem uBack_zero (R : Fin 32768) (l : Fin 1024) : uBack A (2 - 2) R l = u A R l := by
  unfold uBack
  rw [dif_pos (by omega)]
  rfl

/-- 128 columns of the projection: the compressed branch's key inputs. -/
theorem kci_eq (hP : IsProj A P) : (shapeCast _ (extractStridedSlice S8x4096x128 ![0, 0, 512] P slices_S8x4096x6424_S8x4096x128_0_0_512) shapeCasts_S8x4096x128_S32768x128 : FVec Ideal S32768x128 .f32) = colArr A 512 (by omega) := by
  funext i
  idx_vars i
  pointwise [colArr]
  simp only [hP, tok_div]

/-- And its value inputs. -/
theorem vci_eq (hP : IsProj A P) : (shapeCast _ (extractStridedSlice S8x4096x128 ![0, 0, 640] P slices_S8x4096x6424_S8x4096x128_0_0_640) shapeCasts_S8x4096x128_S32768x128 : FVec Ideal S32768x128 .f32) = colArr A 640 (by omega) := by
  funext i
  idx_vars i
  pointwise [colArr]
  simp only [hP, tok_div]

/-- The gate of the attention branch. -/
theorem sga_eq (hP : IsProj A P) : (shapeCast _ (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 4376] P slices_S8x4096x6424_S8x4096x1024_0_0_4376))))) shapeCasts_S8x4096x1024_S32768x1024 : FVec Ideal S32768x1024 .f32) = sgaArr A := by
  funext i
  idx_vars i
  pointwise [sgaArr]
  simp only [hP, tok_div, sga, Ideal.logistic]

/-- The values from column 896 on, in tiles. -/
theorem vst_eq (hP : IsProj A P) : (truncf .bf16 (transpose S8x2x16x64x256 [0, 3, 1, 4, 2] (shapeCast _ (extractStridedSlice S8x4096x128 ![0, 0, 896] P slices_S8x4096x6424_S8x4096x128_0_0_896) shapeCasts_S8x4096x128_S8x16x256x2x64) transposes_S8x16x256x2x64_S8x2x16x64x256_0_3_1_4_2) bitsLt_bf16_f32 : FVec Ideal S8x2x16x64x256 .bf16) = valArr A 896 (by omega) := by
  funext i
  idx_vars i
  pointwise [valArr]
  simp only [hP]
  rfl

/-- The values from column 1152 on, in tiles. -/
theorem vwt_eq (hP : IsProj A P) : (truncf .bf16 (transpose S8x2x16x64x256 [0, 3, 1, 4, 2] (shapeCast _ (extractStridedSlice S8x4096x128 ![0, 0, 1152] P slices_S8x4096x6424_S8x4096x128_0_0_1152) shapeCasts_S8x4096x128_S8x16x256x2x64) transposes_S8x16x256x2x64_S8x2x16x64x256_0_3_1_4_2) bitsLt_bf16_f32 : FVec Ideal S8x2x16x64x256 .bf16) = valArr A 1152 (by omega) := by
  funext i
  idx_vars i
  pointwise [valArr]
  simp only [hP]
  rfl

/-- The projection's query columns by heads. -/
def rq (P : FVec Ideal S8x4096x6424 .f32) : FVec Ideal S8x4096x8x64 .f32 :=
  shapeCast _ (extractStridedSlice S8x4096x512 ![0, 0, 0] P slices_S8x4096x6424_S8x4096x512_0_0_0) shapeCasts_S8x4096x512_S8x4096x8x64

/-- Their entries. -/
theorem rq_apply (hP : IsProj A P) (b : Fin 8) (s : Fin 4096) (n : Fin 8) (d : Fin 64) :
    rq P (ix4 b s n d) = proj A (tok b s) ⟨n.val * 64 + d.val, by omega⟩ := by
  pointwise [rq]
  simp only [hP]

/-- The normalised queries. -/
theorem q_eq (hP : IsProj A P) : (truncf .bf16 (transpose S8x8x64x4096 [0, 2, 3, 1] (mulf (mulf (mulf (rq P) (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2 (Host.reduceAdd (mulf (rq P) (rq P)) (constant S_ .f32 0x00000000#32) reducesTo_S8x4096x8x64_S8x4096x8_d3 h_S_)) (broadcastInDim S8x4096x8x1 ![] bcast_S_S8x4096x8x1 (constant S_ .f32 0x42800000#32))) (broadcastInDim S8x4096x8x1 ![] bcast_S_S8x4096x8x1 (constant S_ .f32 0x358637BD#32)))))) (broadcastInDim S8x4096x8x64 ![0, 1, 2, 3] bcast_S1x1x1x64_S8x4096x8x64_0_1_2_3 (broadcastInDim S1x1x1x64 ![3] bcast_S64_S1x1x1x64_3 (shapeCast _ A.qg shapeCasts_S1x64_S64)))) (broadcastInDim S8x4096x8x64 ![] bcast_S_S8x4096x8x64 (constant S_ .f32 0x3E000000#32))) transposes_S8x4096x8x64_S8x8x64x4096_0_2_3_1) bitsLt_bf16_f32 : FVec Ideal S8x8x64x4096 .bf16) = qArr A := by
  have hx := rq_apply hP
  generalize rq P = X at hx ⊢
  funext i
  idx_vars i
  pointwise [qArr]
  simp only [hx, query, rms]

/-- The gates. -/
theorem gate_eq (hP : IsProj A P) : (Host.divf (broadcastInDim S8x2x16x4096 ![] bcast_S_S8x2x16x4096 (constant S_ .f32 0x3F800000#32)) (addf (broadcastInDim S8x2x16x4096 ![] bcast_S_S8x2x16x4096 (constant S_ .f32 0x3F800000#32)) (Host.exp (Host.negf (pad S8x2x16x4096 ![0, 0, 0, 0] ![0, 0, 4, 0] ![0, 0, 0, 0] (shapeCast _ (transpose S8x2x3x4x4096 [0, 3, 2, 4, 1] (shapeCast _ (extractStridedSlice S8x4096x24 ![0, 0, 1280] P slices_S8x4096x6424_S8x4096x24_0_0_1280) shapeCasts_S8x4096x24_S8x4096x3x2x4) transposes_S8x4096x3x2x4_S8x2x3x4x4096_0_3_2_4_1) shapeCasts_S8x2x3x4x4096_S8x2x12x4096) (sitofp .f32 (constantI S_ 32 0#32)) pads_S8x2x12x4096_S8x2x16x4096_000_000_040_000 h_S_)))) : FVec Ideal S8x2x16x4096 .f32) = gateArr A := by
  funext i
  idx_vars i
  pointwise [gateArr]
  simp only [hP, Ideal.logistic, logit, sitofp_zero]

/-- The positions. -/
def rpos : IVec S4096x1 32 :=
  broadcastInDim S4096x1 ![0] bcast_S4096_S4096x1_0 (iotaInDim S4096 32 0)

/-- The ones. -/
def rone : FVec Ideal S4096x1 .f32 :=
  broadcastInDim S4096x1 ![] bcast_S_S4096x1 (constant (F := Ideal) S_ .f32 0x3F800000#32)

/-- The position lanes. -/
def rlanes : FVec Ideal S8x2x4096x64 .f32 :=
  broadcastInDim S8x2x4096x64 ![0, 1, 2, 3] bcast_S1x1x4096x64_S8x2x4096x64_0_1_2_3 (broadcastInDim S1x1x4096x64 ![2, 3] bcast_S4096x64_S1x1x4096x64_2_3 ((concatenate S4096x64 1 [⟨S4096x1, (rone : FVec Ideal S4096x1 .f32)⟩, ⟨S4096x1, (rone : FVec Ideal S4096x1 .f32)⟩, ⟨S4096x1, ((sitofp .f32 (Host.shrsi rpos (broadcastInDim S4096x1 ![] bcast_S_S4096x1 (constantI S_ 32 6#32)))) : FVec Ideal S4096x1 .f32)⟩, ⟨S4096x1, ((sitofp .f32 (andi rpos (broadcastInDim S4096x1 ![] bcast_S_S4096x1 (constantI S_ 32 63#32)))) : FVec Ideal S4096x1 .f32)⟩, ⟨S4096x1, (rone : FVec Ideal S4096x1 .f32)⟩, ⟨S4096x59, ((broadcastInDim S4096x59 ![] bcast_S_S4096x59 (constant (F := Ideal) S_ .f32 0x00000000#32)) : FVec Ideal S4096x59 .f32)⟩] concatenates_S4096x1_S4096x1_S4096x1_S4096x1_S4096x1_S4096x59_S4096x64_d1 : FVec Ideal S4096x64 .f32)))

/-- Their entries. -/
theorem rlanes_apply (b : Fin 8) (g : Fin 2) (s : Fin 4096) (l : Fin 64) : rlanes (ix4 b g s l) = lane s l := by
  pointwise [rlanes, rpos, rone]
  simp only [shr_pos _ _ s.isLt, and_pos _ s.isLt, lane]
  split_ifs <;> first | rfl | (exfalso; omega)

/-- The key columns from 768 on, by groups. -/
def rs (P : FVec Ideal S8x4096x6424 .f32) : FVec Ideal S8x4096x2x64 .f32 :=
  shapeCast _ (extractStridedSlice S8x4096x128 ![0, 0, 768] P slices_S8x4096x6424_S8x4096x128_0_0_768) shapeCasts_S8x4096x128_S8x4096x2x64

/-- Their entries. -/
theorem rs_apply (hP : IsProj A P) (b : Fin 8) (s : Fin 4096) (g : Fin 2) (d : Fin 64) :
    rs P (ix4 b s g d) = proj A (tok b s) ⟨768 + (g.val * 64 + d.val), by omega⟩ := by
  pointwise [rs]
  simp only [hP]

/-- The normalised keys with their position lanes. -/
theorem ks_eq (hP : IsProj A P) : (truncf .bf16 (concatenate S8x2x4096x128 3 [⟨S8x2x4096x64, (transpose S8x2x4096x64 [0, 2, 1, 3] (mulf (mulf (rs P) (broadcastInDim S8x4096x2x64 ![0, 1, 2, 3] bcast_S8x4096x2x1_S8x4096x2x64_0_1_2_3 (Host.rsqrt (addf (Host.divf (broadcastInDim S8x4096x2x1 ![0, 1, 2] bcast_S8x4096x2_S8x4096x2x1_0_1_2 (Host.reduceAdd (mulf (rs P) (rs P)) (constant S_ .f32 0x00000000#32) reducesTo_S8x4096x2x64_S8x4096x2_d3 h_S_)) (broadcastInDim S8x4096x2x1 ![] bcast_S_S8x4096x2x1 (constant S_ .f32 0x42800000#32))) (broadcastInDim S8x4096x2x1 ![] bcast_S_S8x4096x2x1 (constant S_ .f32 0x358637BD#32)))))) (broadcastInDim S8x4096x2x64 ![0, 1, 2, 3] bcast_S1x1x1x64_S8x4096x2x64_0_1_2_3 (broadcastInDim S1x1x1x64 ![3] bcast_S64_S1x1x1x64_3 (shapeCast _ (extractStridedSlice S1x1x64 ![0, 1, 0] A.kg slices_S1x3x64_S1x1x64_0_1_0) shapeCasts_S1x1x64_S64)))) transposes_S8x4096x2x64_S8x2x4096x64_0_2_1_3)⟩, ⟨S8x2x4096x64, rlanes⟩] concatenates_S8x2x4096x64_S8x2x4096x64_S8x2x4096x128_d3) bitsLt_bf16_f32 : FVec Ideal S8x2x4096x128 .bf16)
    = keyArr A 768 (by omega) 1 := by
  have hx := rs_apply hP
  have hl := rlanes_apply
  generalize rs P = X at hx ⊢
  generalize rlanes = L at hl ⊢
  funext i
  idx_vars i
  pointwise [keyArr]
  simp only [hx, hl, keyLane, key, rms, tok_mod]

/-- The key columns from 1024 on, by groups. -/
def rwin (P : FVec Ideal S8x4096x6424 .f32) : FVec Ideal S8x4096x2x64 .f32 :=
  shapeCast _ (extractStridedSlice S8x4096x128 ![0, 0, 1024] P slices_S8x4096x6424_S8x4096x128_0_0_1024) shapeCasts_S8x4096x128_S8x4096x2x64

/-- Their entries. -/
theorem rwin_apply (hP : IsProj A P) (b : Fin 8) (s : Fin 4096) (g : Fin 2) (d : Fin 64) :
    rwin P (ix4 b s g d) = proj A (tok b s) ⟨1024 + (g.val * 64 + d.val), by omega⟩ := by
  pointwise [rwin]
  simp only [hP]

/-- The normalised keys with their position lanes. -/
theorem kw_eq (hP : IsProj A P) : (truncf .bf16 (concatenate S8x2x4096x128 3 [⟨S8x2x4096x64, (transpose S8x2x4096x64 [0, 2, 1, 3] (mulf (mulf (rwin P) (broadcastInDim S8x4096x2x64 ![0, 1, 2, 3] bcast_S8x4096x2x1_S8x4096x2x64_0_1_2_3 (Host.rsqrt (addf (Host.divf (broadcastInDim S8x4096x2x1 ![0, 1, 2] bcast_S8x4096x2_S8x4096x2x1_0_1_2 (Host.reduceAdd (mulf (rwin P) (rwin P)) (constant S_ .f32 0x00000000#32) reducesTo_S8x4096x2x64_S8x4096x2_d3 h_S_)) (broadcastInDim S8x4096x2x1 ![] bcast_S_S8x4096x2x1 (constant S_ .f32 0x42800000#32))) (broadcastInDim S8x4096x2x1 ![] bcast_S_S8x4096x2x1 (constant S_ .f32 0x358637BD#32)))))) (broadcastInDim S8x4096x2x64 ![0, 1, 2, 3] bcast_S1x1x1x64_S8x4096x2x64_0_1_2_3 (broadcastInDim S1x1x1x64 ![3] bcast_S64_S1x1x1x64_3 (shapeCast _ (extractStridedSlice S1x1x64 ![0, 2, 0] A.kg slices_S1x3x64_S1x1x64_0_2_0) shapeCasts_S1x1x64_S64)))) transposes_S8x4096x2x64_S8x2x4096x64_0_2_1_3)⟩, ⟨S8x2x4096x64, rlanes⟩] concatenates_S8x2x4096x64_S8x2x4096x64_S8x2x4096x128_d3) bitsLt_bf16_f32 : FVec Ideal S8x2x4096x128 .bf16)
    = keyArr A 1024 (by omega) 2 := by
  have hx := rwin_apply hP
  have hl := rlanes_apply
  generalize rwin P = X at hx ⊢
  generalize rlanes = L at hl ⊢
  funext i
  idx_vars i
  pointwise [keyArr]
  simp only [hx, hl, keyLane, key, rms, tok_mod]

/-- The convolution's input with two zero positions before each sequence. -/
def rpad (P : FVec Ideal S8x4096x6424 .f32) : FVec Ideal S8x4098x1024 .f32 :=
  pad S8x4098x1024 ![0, 2, 0] ![0, 0, 0] ![0, 0, 0] (mulf (extractStridedSlice S8x4096x1024 ![0, 0, 2328] P slices_S8x4096x6424_S8x4096x1024_0_0_2328) (extractStridedSlice S8x4096x1024 ![0, 0, 3352] P slices_S8x4096x6424_S8x4096x1024_0_0_3352)) (sitofp .f32 (constantI S_ 32 0#32)) pads_S8x4096x1024_S8x4098x1024_000_200_000 h_S_

/-- Its entries. -/
theorem rpad_apply (hP : IsProj A P) (b : Fin 8) (s : Fin 4096) (k : ℕ) (hk : k ≤ 2) (l : Fin 1024) :
    rpad P (ix3 b ⟨k + s.val, by omega⟩ l) = uBack A (2 - k) (tok b s) l := by
  pointwise [rpad]
  simp only [hP, sitofp_zero]
  unfold uBack u
  have hm : (tok b s).val % 4096 = s.val := by unfold tok; simp only; omega
  by_cases h : 2 - k ≤ s.val
  · rw [dif_pos ⟨by omega, by omega⟩, dif_pos (by omega)]
    have e : tok b ⟨k + s.val - 2, by omega⟩ = ⟨(tok b s).val - (2 - k), by omega⟩ := by
      apply Fin.ext; unfold tok; simp only; omega
    rw [e]
  · rw [dif_neg (by omega), dif_neg (by omega)]

/-- The gated convolution branch. -/
theorem ob_eq (hP : IsProj A P) : (shapeCast _ (mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 5400] P slices_S8x4096x6424_S8x4096x1024_0_0_5400))))) (Host.dotGeneral dot_S8x4096x1024_S1024x1024_S8x4096x1024_2_0_01_1_n_n none (mulf (extractStridedSlice S8x4096x1024 ![0, 0, 1304] P slices_S8x4096x6424_S8x4096x1024_0_0_1304) (addf (addf (mulf (broadcastInDim S8x4096x1024 ![0, 1, 2] bcast_S1x1x1024_S8x4096x1024_0_1_2 (broadcastInDim S1x1x1024 ![2] bcast_S1024_S1x1x1024_2 (shapeCast _ (extractStridedSlice S1x1x1024 ![0, 0, 0] A.cw slices_S1x3x1024_S1x1x1024_0_0_0) shapeCasts_S1x1x1024_S1024))) (extractStridedSlice S8x4096x1024 ![0, 0, 0] (rpad P) slices_S8x4098x1024_S8x4096x1024_0_0_0)) (mulf (broadcastInDim S8x4096x1024 ![0, 1, 2] bcast_S1x1x1024_S8x4096x1024_0_1_2 (broadcastInDim S1x1x1024 ![2] bcast_S1024_S1x1x1024_2 (shapeCast _ (extractStridedSlice S1x1x1024 ![0, 1, 0] A.cw slices_S1x3x1024_S1x1x1024_0_1_0) shapeCasts_S1x1x1024_S1024))) (extractStridedSlice S8x4096x1024 ![0, 1, 0] (rpad P) slices_S8x4098x1024_S8x4096x1024_0_1_0))) (mulf (broadcastInDim S8x4096x1024 ![0, 1, 2] bcast_S1x1x1024_S8x4096x1024_0_1_2 (broadcastInDim S1x1x1024 ![2] bcast_S1024_S1x1x1024_2 (shapeCast _ (extractStridedSlice S1x1x1024 ![0, 2, 0] A.cw slices_S1x3x1024_S1x1x1024_0_2_0) shapeCasts_S1x1x1024_S1024))) (extractStridedSlice S8x4096x1024 ![0, 2, 0] (rpad P) slices_S8x4098x1024_S8x4096x1024_0_2_0)))) (shapeCast _ A.wb shapeCasts_S1x1024x1024_S1024x1024))) shapeCasts_S8x4096x1024_S32768x1024 : FVec Ideal S32768x1024 .f32) = branchArr A := by
  have hx0 : ∀ b s l, rpad P (ix3 b ⟨s.val, by omega⟩ l) = uBack A 2 (tok b s) l := fun b s l => by
    rw [← rpad_apply hP b s 0 (by omega) l]
    congr 2
    exact Fin.ext (Nat.zero_add _).symm
  have hx1 := fun b s l => rpad_apply hP b s 1 (by omega) l
  have hx2 := fun b s l => rpad_apply hP b s 2 (by omega) l
  generalize rpad P = X at hx0 hx1 hx2 ⊢
  funext i
  idx_vars i
  pointwise [branchArr]
  simp only [hP, branch, conv, Ideal.logistic]
  have e0 : ∀ x, X (ix3 ⟨i0.val / 4096, by omega⟩ ⟨i0.val % 4096, by omega⟩ x) = uBack A 2 i0 x := fun x =>
    (hx0 ⟨i0.val / 4096, by omega⟩ ⟨i0.val % 4096, by omega⟩ x).trans (by rw [tok_div])
  have e1 : ∀ x, X (ix3 ⟨i0.val / 4096, by omega⟩ ⟨1 + i0.val % 4096, by omega⟩ x) = uBack A 1 i0 x := fun x =>
    (hx1 ⟨i0.val / 4096, by omega⟩ ⟨i0.val % 4096, by omega⟩ x).trans (by rw [tok_div])
  have e2 : ∀ x, X (ix3 ⟨i0.val / 4096, by omega⟩ ⟨2 + i0.val % 4096, by omega⟩ x) = u A i0 x := fun x =>
    (hx2 ⟨i0.val / 4096, by omega⟩ ⟨i0.val % 4096, by omega⟩ x).trans (by rw [tok_div, uBack_zero])
  simp only [e0, e1, e2, tok_div]

/-- The reference program's argument arrays. -/
def refArgs (m : (ℓ : Loc nD τ sig) → Buf (Elt Ideal) ℓ) (c : Dev nD) : Args :=
  ⟨m ((c.tc : Thread nD τ).loc main_arg0), m ((c.tc : Thread nD τ).loc main_arg1),
   m ((c.tc : Thread nD τ).loc main_arg2), m ((c.tc : Thread nD τ).loc main_arg3),
   m ((c.tc : Thread nD τ).loc main_arg4), m ((c.tc : Thread nD τ).loc main_arg5),
   m ((c.tc : Thread nD τ).loc main_arg6)⟩

/-- The reference's run: it ends, with the ten results the formulas' arrays and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v142) = qArr (refArgs m c)
      ∧ r.2.mem ((c.tc : Thread nD τ).loc main_v143) = colArr (refArgs m c) 512 (by omega)
      ∧ r.2.mem ((c.tc : Thread nD τ).loc main_v144) = colArr (refArgs m c) 640 (by omega)
      ∧ r.2.mem ((c.tc : Thread nD τ).loc main_v145) = keyArr (refArgs m c) 768 (by omega) 1
      ∧ r.2.mem ((c.tc : Thread nD τ).loc main_v146) = valArr (refArgs m c) 896 (by omega)
      ∧ r.2.mem ((c.tc : Thread nD τ).loc main_v147) = keyArr (refArgs m c) 1024 (by omega) 2
      ∧ r.2.mem ((c.tc : Thread nD τ).loc main_v148) = valArr (refArgs m c) 1152 (by omega)
      ∧ r.2.mem ((c.tc : Thread nD τ).loc main_v108) = gateArr (refArgs m c)
      ∧ r.2.mem ((c.tc : Thread nD τ).loc main_v155) = sgaArr (refArgs m c)
      ∧ r.2.mem ((c.tc : Thread nD τ).loc main_v156) = branchArr (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.ProjRefIdeal.Value.run m ρ)
  obtain ⟨h0, h1, h2, h3, h4, h5, h6, h7, h8, h9, hr⟩ := h c
  have e15 : Cert.ProjRefIdeal.Value.res_main_v15 (launchContents m c) = rproj (refArgs m c) := rfl
  have hP : IsProj (refArgs m c) (Cert.ProjRefIdeal.Value.res_main_v15 (launchContents m c)) := by
    rw [e15]; exact rproj_apply (refArgs m c)
  clear e15
  have e29 : Cert.ProjRefIdeal.Value.res_main_v29 (launchContents m c)
    = rq (Cert.ProjRefIdeal.Value.res_main_v15 (launchContents m c)) := rfl
  have e46 : Cert.ProjRefIdeal.Value.res_main_v46 (launchContents m c)
    = rs (Cert.ProjRefIdeal.Value.res_main_v15 (launchContents m c)) := rfl
  have e62 : Cert.ProjRefIdeal.Value.res_main_v62 (launchContents m c)
    = rwin (Cert.ProjRefIdeal.Value.res_main_v15 (launchContents m c)) := rfl
  have e110 : Cert.ProjRefIdeal.Value.res_main_v110 (launchContents m c)
    = rpad (Cert.ProjRefIdeal.Value.res_main_v15 (launchContents m c)) := rfl
  have e90 : Cert.ProjRefIdeal.Value.res_main_v90 (launchContents m c) = rlanes := rfl
  have a3 : launchContents m c (Proc.devRef .tc main_arg3) = (refArgs m c).qg := rfl
  have a4 : launchContents m c (Proc.devRef .tc main_arg4) = (refArgs m c).kg := rfl
  have a5 : launchContents m c (Proc.devRef .tc main_arg5) = (refArgs m c).cw := rfl
  have a6 : launchContents m c (Proc.devRef .tc main_arg6) = (refArgs m c).wb := rfl
  rw [e29, a3] at h0
  rw [e46, e90, a4] at h3
  rw [e62, e90, a4] at h5
  rw [e110, a5, a6] at h9
  generalize Cert.ProjRefIdeal.Value.res_main_v15 (launchContents m c) = P at *
  exact ⟨h0.trans (q_eq hP), h1.trans (kci_eq hP), h2.trans (vci_eq hP), h3.trans (ks_eq hP), h4.trans (vst_eq hP),
    h5.trans (kw_eq hP), h6.trans (vwt_eq hP), h7.trans (gate_eq hP), h8.trans (sga_eq hP), h9.trans (ob_eq hP), hr⟩

end Cert.ProjRef

end
-- ==== Proof.ProjBlock.lean ====
/- What one grid point reads, and the two intermediate tensors of a sub-block of 256 tokens: the normalised tokens and
   their projection by the head columns, each equal to the formula at the token row the sub-block row stands for. -/
module

public import proofs.«01_k».proof.Proof.ProjMath
public import Idealize.ShloMosaic.Lib.Pipeline.ValueKit

@[expose] public section

set_option maxRecDepth 16384

noncomputable section

namespace Cert.ProjIdeal.Block

open Idealize.ShloMosaic Idealize.ShloMosaic.TcCoe Idealize.SL.Sem
open Cert.ProjIdeal Cert.ProjIdeal.Gen
open Cert.ProjMath (Args xin xn proj logit)

/-- The blocks `y0 … y7` hold the rows `row r` of the input and the whole of the weights: `y2` the head columns and the
    gate lanes, `y3` the columns from 1304 on, the keys' gains padded by zeros. -/
structure Reads (A : Args) (row : Fin 1024 → Fin 32768)
    (y0 : FVec Ideal S1024x1024 .f32) (y1 : FVec Ideal S1x1024 .f32) (y2 : FVec Ideal S1024x1408 .bf16)
    (y3 : FVec Ideal S1024x5120 .bf16) (y4 : FVec Ideal S1024x1024 .bf16) (y5 : FVec Ideal S64x1 .f32)
    (y6 : FVec Ideal S3x128 .f32) (y7 : FVec Ideal S3x1024 .f32) : Prop where
  h0 : ∀ r l, y0 (ix2 r l) = xin A (row r) l
  h1 : ∀ l, y1 (ix2 0 l) = A.g1 (ix2 0 l)
  h2 : ∀ k (c : Fin 1408) (h : c.val < 1280), y2 (ix2 k c) = A.w (ix3 0 k ⟨c.val, by omega⟩)
  h2g : ∀ k (g : Fin 2) (l : Fin 16), y2 (ix2 k ⟨1280 + (64 * g.val + l.val), by omega⟩)
    = if h : l.val < 12 then A.w (ix3 0 k ⟨1280 + (l.val / 4 * 8 + g.val * 4 + l.val % 4), by omega⟩) else 0
  h3 : ∀ k (c : Fin 5120), y3 (ix2 k c) = A.w (ix3 0 k ⟨1304 + c.val, by omega⟩)
  h4 : ∀ j l, y4 (ix2 j l) = A.wb (ix3 0 j l)
  h5 : ∀ d, y5 (ix2 d 0) = A.qg (ix2 0 d)
  h6 : ∀ j (l : Fin 128), y6 (ix2 j l) = if h : l.val < 64 then A.kg (ix3 0 j ⟨l.val, h⟩) else 0
  h7 : ∀ j l, y7 (ix2 j l) = A.cw (ix3 0 j l)

section
variable {A : Args} {row : Fin 1024 → Fin 32768}
variable {y0 : FVec Ideal S1024x1024 .f32} {y1 : FVec Ideal S1x1024 .f32} {y2 : FVec Ideal S1024x1408 .bf16}
  {y3 : FVec Ideal S1024x5120 .bf16} {y4 : FVec Ideal S1024x1024 .bf16} {y5 : FVec Ideal S64x1 .f32}
  {y6 : FVec Ideal S3x128 .f32} {y7 : FVec Ideal S3x1024 .f32}

/-- A load of 256 rows from row `o` on. -/
theorem ld_row (Y : FVec Ideal S1024x1024 .f32) (o : ℕ) (ho : o + 256 ≤ 1024)
    (inb : ∀ d : Fin 2, (![o, 0] : Fin 2 → ℕ) d + S256x1024.size d ≤ S1024x1024.size d) (r : Fin 256) (l : Fin 1024) :
    View.ld (Val := Elt Ideal) (e' := .f32) Y (Rect.unit (s := S1024x1024) ![o, 0] S256x1024.size inb) (ix2 r l)
      = Y (ix2 ⟨o + r.val, by omega⟩ l) := by
  rw [View.ld_apply]
  refine congrArg Y (funext fun a => Fin.ext ?_)
  rw [Rect.idx_unit_val]
  match a with
  | ⟨0, _⟩ => rfl
  | ⟨1, _⟩ => exact Nat.zero_add _

/-- A load of 1024 columns from column `o` on. -/
theorem ld_col (Y : FVec Ideal S1024x5120 .bf16) (o : ℕ) (ho : o + 1024 ≤ 5120)
    (inb : ∀ d : Fin 2, (![0, o] : Fin 2 → ℕ) d + S1024x1024.size d ≤ S1024x5120.size d) (k j : Fin 1024) :
    View.ld (Val := Elt Ideal) (e' := .bf16) Y (Rect.unit (s := S1024x5120) ![0, o] S1024x1024.size inb) (ix2 k j)
      = Y (ix2 k ⟨o + j.val, by omega⟩) := by
  rw [View.ld_apply]
  refine congrArg Y (funext fun a => Fin.ext ?_)
  rw [Rect.idx_unit_val]
  match a with
  | ⟨0, _⟩ => exact Nat.zero_add _
  | ⟨1, _⟩ => rfl

/-- Row `j` of the keys' gains as loaded. -/
theorem ld_gain (Y : FVec Ideal S3x128 .f32) (j : Fin 3)
    (inb : ∀ d : Fin 2, (![j.val, 0] : Fin 2 → ℕ) d + S1x128.size d ≤ S3x128.size d) (l : Fin 128) :
    View.ld (Val := Elt Ideal) (e' := .f32) Y (Rect.unit (s := S3x128) ![j.val, 0] S1x128.size inb) (ix2 0 l)
      = Y (ix2 j l) := by
  rw [View.ld_apply]
  refine congrArg Y (funext fun a => Fin.ext ?_)
  rw [Rect.idx_unit_val]
  match a with
  | ⟨0, _⟩ => exact Nat.add_zero _
  | ⟨1, _⟩ => exact Nat.zero_add _

/-- The token row of row `r` of the sub-block from row `o` on. -/
def sub (row : Fin 1024 → Fin 32768) (o : ℕ) (ho : o + 256 ≤ 1024) (r : Fin 256) : Fin 32768 :=
  row ⟨o + r.val, by omega⟩

variable {R : Fin 256 → Fin 32768}

/-- The normalised tokens of a sub-block. -/
theorem xn_apply {z : FVec Ideal S256x1024 .f32} (hz : ∀ r l, z (ix2 r l) = xin A (R r) l)
    (h1 : ∀ l, y1 (ix2 0 l) = A.g1 (ix2 0 l)) (r : Fin 256) (l : Fin 1024) :
    k0_pay3 (F := Ideal) z y1 (ix2 r l) = xn A (R r) l := by
  pointwise [k0_pay3]
  simp only [hz, h1, xn]

/-- A tensor holds the head columns of the projection and, in lanes 1280 + 64 g + l, the logits of the branch gates. -/
structure Heads (A : Args) (R : Fin 256 → Fin 32768) (P : FVec Ideal S256x1408 .f32) : Prop where
  col : ∀ r (c : Fin 1408) (h : c.val < 1280), P (ix2 r c) = proj A (R r) ⟨c.val, by omega⟩
  gate : ∀ r (g : Fin 2) (l : Fin 16), P (ix2 r ⟨1280 + (64 * g.val + l.val), by omega⟩) = logit A (R r) g l

/-- The head columns of a sub-block. -/
theorem heads {z : FVec Ideal S256x1024 .f32} (hz : ∀ r l, z (ix2 r l) = xin A (R r) l)
    (H : Reads A row y0 y1 y2 y3 y4 y5 y6 y7) : Heads A R (k0_pay4 (F := Ideal) z y1 y2) := by
  have hx := xn_apply hz H.h1
  have e : k0_pay4 (F := Ideal) z y1 y2 = matmul dot_S256x1024_S1024x1408_S256x1408_1_0_0_1_n_n none
      (k0_pay3 (F := Ideal) z y1) (shapeCast S1024x1408 y2 shapeCasts_S1024x1408_S1024x1408)
      (constant S256x1408 .f32 0x00000000#32) := rfl
  rw [e]
  generalize k0_pay3 (F := Ideal) z y1 = X at hx ⊢
  constructor
  · intro r c hc
    pointwise []
    simp only [hx, H.h2 _ c hc, proj]
  · intro r g l
    pointwise []
    simp only [hx, H.h2g, logit]
    split_ifs with hl
    · rfl
    · simp only [mul_zero, Finset.sum_const_zero]

/-- Columns from `1304 + o` on of the projection of a sub-block, from the loaded columns `w`. -/
theorem tail_apply {X : FVec Ideal S256x1024 .bf16} (hX : ∀ r l, X (ix2 r l) = xn A (R r) l)
    {w : FVec Ideal S1024x1024 .bf16} {o : ℕ} {ho : o + 1024 ≤ 6424}
    (hw : ∀ k (j : Fin 1024), w (ix2 k j) = A.w (ix3 0 k ⟨o + j.val, by omega⟩)) (r : Fin 256) (j : Fin 1024) :
    (matmul dot_S256x1024_S1024x1024_S256x1024_1_0_0_1_n_n none X
      (shapeCast S1024x1024 w shapeCasts_S1024x1024_S1024x1024) (constant S256x1024 .f32 0x00000000#32)
      : FVec Ideal S256x1024 .f32) (ix2 r j) = proj A (R r) ⟨o + j.val, by omega⟩ := by
  pointwise []
  simp only [hX, hw, proj]

end

end Cert.ProjIdeal.Block

end
-- ==== Proof.ProjReads.lean ====
/- What the input blocks of a grid point hold, in terms of the argument arrays. -/
module

public import proofs.«01_k».proof.Proof.ProjBlock

@[expose] public section

set_option maxRecDepth 16384

noncomputable section

namespace Cert.ProjIdeal.Final

open Idealize.ShloMosaic Idealize.ShloMosaic.TcCoe Idealize.SL.Sem
open Cert.ProjIdeal Cert.ProjIdeal.Gen

open Cert.ProjIdeal.Block
open Cert.ProjMath (Args xin)

variable (m : (ℓ : Loc nD τ sig) → Buf (Elt Ideal) ℓ)

/-- The kernel's argument arrays. -/
def args (c : Dev nD) : Args :=
  ⟨m ((c.tc : Thread nD τ).loc main_arg0), m ((c.tc : Thread nD τ).loc main_arg1),
   m ((c.tc : Thread nD τ).loc main_arg2), m ((c.tc : Thread nD τ).loc main_arg3),
   m ((c.tc : Thread nD τ).loc main_arg4), m ((c.tc : Thread nD τ).loc main_arg5),
   m ((c.tc : Thread nD τ).loc main_arg6)⟩

/-- The input windows' block indices at every point: the rows move with the point, the rest stays. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

/-- The output windows' block indices: point `t` works on sequence `t / 4`, quarter `t % 4`. -/
theorem idx_out : ∀ t : Fin cfg0.N, win0_8.index t = ![t.val / 4, 0, 0, t.val % 4] ∧ win0_9.index t = ![t.val, 0]
    ∧ win0_10.index t = ![t.val, 0] ∧ win0_11.index t = ![t.val / 4, 0, t.val % 4, 0]
    ∧ win0_12.index t = ![t.val / 4, 0, t.val % 4, 0, 0] ∧ win0_13.index t = ![t.val / 4, 0, t.val % 4, 0]
    ∧ win0_14.index t = ![t.val / 4, 0, t.val % 4, 0, 0] ∧ win0_15.index t = ![t.val / 4, 0, 0, t.val % 4]
    ∧ win0_16.index t = ![t.val, 0] ∧ win0_17.index t = ![t.val, 0] :=
  (by decide +kernel : ∀ t : Fin grid0.N, _)

/-- The positions the body computes from the second grid coordinate. -/
theorem pos : ∀ t : Fin cfg0.N,
    Scalar.addi (Scalar.muli (BitVec.ofNat 32 (grid0.coords t 1).val) 1024#32) 0#32 = BitVec.ofNat 32 (t.val % 4 * 1024 + 0)
    ∧ Scalar.addi (Scalar.muli (BitVec.ofNat 32 (grid0.coords t 1).val) 1024#32) 256#32 = BitVec.ofNat 32 (t.val % 4 * 1024 + 256)
    ∧ Scalar.addi (Scalar.muli (BitVec.ofNat 32 (grid0.coords t 1).val) 1024#32) 512#32 = BitVec.ofNat 32 (t.val % 4 * 1024 + 512)
    ∧ Scalar.addi (Scalar.muli (BitVec.ofNat 32 (grid0.coords t 1).val) 1024#32) 768#32 = BitVec.ofNat 32 (t.val % 4 * 1024 + 768) :=
  (by decide +kernel : ∀ t : Fin grid0.N, _)

/-- There are 32 points. -/
theorem lt_N (t : Fin cfg0.N) : t.val < 32 := t.isLt

/-- The token row of block row `r` at point `t`. -/
def row (t : Fin cfg0.N) (r : Fin 1024) : Fin 32768 := ⟨t.val * 1024 + r.val, by have := lt_N t; omega⟩

/-- The integer zero as a number. -/
theorem sitofp_zero : FloatOps.sitofp (F := Ideal) FTy.f32 (0#32 : BitVec 32) = 0 := by
  change (((0#32 : BitVec 32).toInt : ℝ) : EReal) = 0
  simp

set_option maxHeartbeats 1000000 in
/-- The gate lanes of the head columns: twelve columns of the projection per group, then zeros. -/
theorem gate_lanes (c : Dev nD) (t : Fin cfg0.N) (k : Fin 1024) (g : Fin 2) (l : Fin 16) (n : Fin 1408)
    (hn : n.val = 1280 + (64 * g.val + l.val)) : (iblk m c 2 t : FVec Ideal S1024x1408 .bf16) (ix2 k n)
      = if h : l.val < 12 then (args m c).w (ix3 0 k ⟨1280 + (l.val / 4 * 8 + g.val * 4 + l.val % 4), by omega⟩) else 0 := by
  blk_simp [iblk, idx t, args]
  simp only [V, hostOps0, hostOps0_1, hostOps0_2, hostOps0_3, hostOps0_4, List.flatten_cons, List.flatten_nil,
    List.cons_append, List.nil_append, List.append_nil]
  entry_read
  simp only [StableHlo.TRef.toBuf, StableHlo.TRef.ofBuf, StableHlo.TRef.of, cast_cast, cast_eq]
  pointwise []
  blk_simp [idx t]
  rw [dif_neg (show ¬ n.val < 1280 by omega)]
  have e1 : (n.val - 1280) / 64 = g.val := by omega
  have e2 : (n.val - 1280) % 64 = l.val := by omega
  by_cases hl : l.val < 12
  · refine (dif_pos (And.intro (e1.trans_lt g.isLt) (e2.trans_lt hl))).trans (Eq.trans ?_ (dif_pos hl).symm)
    refine congrArg (m (c.tc.loc main_arg2)) (congrArg₂ (ix3 0) (Fin.ext ?_) (Fin.ext ?_))
    · blk_simp [idx t]
    · simp only [e1, e2]
  · refine (dif_neg fun q => hl (e2.symm.trans_lt q.2)).trans (Eq.trans ?_ (dif_neg hl).symm)
    exact sitofp_zero

set_option maxHeartbeats 2000000 in
/-- The input blocks at point `t` hold the arrays' rows. -/
theorem reads (c : Dev nD) (t : Fin cfg0.N) : Reads (args m c) (row t) (iblk m c 0 t) (iblk m c 1 t) (iblk m c 2 t)
    (iblk m c 3 t) (iblk m c 4 t) (iblk m c 5 t) (iblk m c 6 t) (iblk m c 7 t) where
  h0 r l := by
    blk_simp [iblk, idx t, args]
    simp only [V, hostOps0, hostOps0_1, hostOps0_2, hostOps0_3, hostOps0_4, List.flatten_cons, List.flatten_nil,
      List.cons_append, List.nil_append, List.append_nil]
    entry_read
    pointwise [row, xin]
    blk_ext [idx t]
  h1 l := by
    blk_simp [iblk, idx t, args]
    simp only [V, hostOps0, hostOps0_1, hostOps0_2, hostOps0_3, hostOps0_4, List.flatten_cons, List.flatten_nil,
      List.cons_append, List.nil_append, List.append_nil]
    entry_read
    pointwise []
    blk_ext [idx t]
  h2 k c' h := by
    blk_simp [iblk, idx t, args]
    simp only [V, hostOps0, hostOps0_1, hostOps0_2, hostOps0_3, hostOps0_4, List.flatten_cons, List.flatten_nil,
      List.cons_append, List.nil_append, List.append_nil]
    entry_read
    simp only [StableHlo.TRef.toBuf, StableHlo.TRef.ofBuf, StableHlo.TRef.of, cast_cast, cast_eq]
    pointwise []
    blk_simp [idx t]
    rw [dif_pos h]
    blk_ext [idx t]
  h2g k g l := gate_lanes m c t k g l _ rfl
  h3 k c' := by
    blk_simp [iblk, idx t, args]
    simp only [V, hostOps0, hostOps0_1, hostOps0_2, hostOps0_3, hostOps0_4, List.flatten_cons, List.flatten_nil,
      List.cons_append, List.nil_append, List.append_nil]
    entry_read
    pointwise []
    blk_ext [idx t]
  h4 j l := by
    blk_simp [iblk, idx t, args]
    simp only [V, hostOps0, hostOps0_1, hostOps0_2, hostOps0_3, hostOps0_4, List.flatten_cons, List.flatten_nil,
      List.cons_append, List.nil_append, List.append_nil]
    entry_read
    pointwise []
    blk_ext [idx t]
  h5 d := by
    blk_simp [iblk, idx t, args]
    simp only [V, hostOps0, hostOps0_1, hostOps0_2, hostOps0_3, hostOps0_4, List.flatten_cons, List.flatten_nil,
      List.cons_append, List.nil_append, List.append_nil]
    entry_read
    pointwise []
    blk_ext [idx t]
  h6 j l := by
    blk_simp [iblk, idx t, args]
    simp only [V, hostOps0, hostOps0_1, hostOps0_2, hostOps0_3, hostOps0_4, List.flatten_cons, List.flatten_nil,
      List.cons_append, List.nil_append, List.append_nil]
    entry_read
    simp only [StableHlo.TRef.toBuf, StableHlo.TRef.ofBuf, StableHlo.TRef.of, cast_cast, cast_eq]
    pointwise []
    blk_simp [idx t]
    split_ifs
    · blk_ext [idx t]
    · exact sitofp_zero
  h7 j l := by
    blk_simp [iblk, idx t, args]
    simp only [V, hostOps0, hostOps0_1, hostOps0_2, hostOps0_3, hostOps0_4, List.flatten_cons, List.flatten_nil,
      List.cons_append, List.nil_append, List.append_nil]
    entry_read
    pointwise []
    blk_ext [idx t]

end Cert.ProjIdeal.Final

end
-- ==== Proof.ProjHeads.lean ====
/- The queries one sub-block of 256 tokens stores: head by head the scaled normalised columns of the projection. -/
module

public import proofs.«01_k».proof.Proof.ProjBlock

@[expose] public section

set_option maxRecDepth 16384

noncomputable section

namespace Cert.ProjIdeal.Block

open Idealize.ShloMosaic Idealize.ShloMosaic.TcCoe Idealize.SL.Sem
open Cert.ProjIdeal Cert.ProjIdeal.Gen
open Cert.ProjMath (Args xin xn proj query rms)

section
variable {A : Args} {R : Fin 256 → Fin 32768} {P : FVec Ideal S256x1408 .f32} {q : FVec Ideal S64x1 .f32}

/-- The two heads stored from the transposed pair of heads `T`: the upper half. -/
theorem head_even (T : FVec Ideal S128x256 .f32) (n : Fin 8) (hq : ∀ d, q (ix2 d 0) = A.qg (ix2 0 d))
    (hT : ∀ (d : Fin 64) r, T (ix2 ⟨d.val, by omega⟩ r) = proj A (R r) ⟨n.val * 64 + d.val, by omega⟩)
    (d : Fin 64) (r : Fin 256) :
    (shapeCast S1x1x64x256 (truncf .bf16 (mulf (mulf (mulf (extractStridedSlice S64x256 ![0, 0] T slices_S128x256_o0_0_S64x256)
      (broadcastTo S64x256 (rsqrt (addf (divf (shapeCast S1x256 (multiReduction .add [0] S256
        (mulf (extractStridedSlice S64x256 ![0, 0] T slices_S128x256_o0_0_S64x256)
          (extractStridedSlice S64x256 ![0, 0] T slices_S128x256_o0_0_S64x256)) 0x00000000#32 reduces_S64x256_S256 (.inl rfl) rfl)
        shapeCasts_S256_S1x256) (broadcast S1x256 (Scalar.ofBits .f32 0x42800000#32)))
        (broadcast S1x256 (Scalar.ofBits .f32 0x358637BD#32)))) broadcasts_S1x256_S64x256))
      (broadcastTo S64x256 (k0_pay5 q) broadcasts_S64x1_S64x256)) (broadcast S64x256 (Scalar.ofBits .f32 0x3E000000#32)))
      bitsLt_bf16_f32) shapeCasts_S64x256_S1x1x64x256 : FVec Ideal S1x1x64x256 .bf16) (ix4 0 0 d r) = query A (R r) n d := by
  pointwise [k0_pay5]
  simp only [hT, hq, query, rms]

/-- The same for the lower half. -/
theorem head_odd (T : FVec Ideal S128x256 .f32) (n : Fin 8) (hq : ∀ d, q (ix2 d 0) = A.qg (ix2 0 d))
    (hT : ∀ (d : Fin 64) r, T (ix2 ⟨64 + d.val, by omega⟩ r) = proj A (R r) ⟨n.val * 64 + d.val, by omega⟩)
    (d : Fin 64) (r : Fin 256) :
    k0_pay10 (F := Ideal) (k0_pay5 q) T (ix4 0 0 d r) = query A (R r) n d := by
  pointwise [k0_pay10, k0_pay5]
  simp only [hT, hq, query, rms]

/-- The transposed pair of heads 0 and 1. -/
theorem pair0 {z : FVec Ideal S256x1024 .f32} {y1 : FVec Ideal S1x1024 .f32} {y2 : FVec Ideal S1024x1408 .bf16}
    (HP : Heads A R (k0_pay4 (F := Ideal) z y1 y2)) (n : Fin 128) (r : Fin 256) :
    k0_pay6 (F := Ideal) z y1 y2 (ix2 n r) = proj A (R r) ⟨0 + n.val, by omega⟩ := by
  unfold k0_pay6
  generalize k0_pay4 (F := Ideal) z y1 y2 = P at HP ⊢
  pointwise []
  exact HP.col r ⟨n.val, by omega⟩ (by simp only; omega)

/-- The transposed pair of heads 2 and 3. -/
theorem pair1 (HP : Heads A R P) (n : Fin 128) (r : Fin 256) :
    k0_pay11 (F := Ideal) P (ix2 n r) = proj A (R r) ⟨128 + n.val, by omega⟩ := by
  pointwise [k0_pay11]
  exact HP.col r ⟨128 + n.val, by omega⟩ (by simp only; omega)

/-- The transposed pair of heads 4 and 5. -/
theorem pair2 (HP : Heads A R P) (n : Fin 128) (r : Fin 256) :
    k0_pay15 (F := Ideal) P (ix2 n r) = proj A (R r) ⟨256 + n.val, by omega⟩ := by
  pointwise [k0_pay15]
  exact HP.col r ⟨256 + n.val, by omega⟩ (by simp only; omega)

/-- The transposed pair of heads 6 and 7. -/
theorem pair3 (HP : Heads A R P) (n : Fin 128) (r : Fin 256) :
    k0_pay19 (F := Ideal) P (ix2 n r) = proj A (R r) ⟨384 + n.val, by omega⟩ := by
  pointwise [k0_pay19]
  exact HP.col r ⟨384 + n.val, by omega⟩ (by simp only; omega)

/-- Head 0 of sub-block 0. -/
theorem q0_0 {z : FVec Ideal S256x1024 .f32} {y1 : FVec Ideal S1x1024 .f32} {y2 : FVec Ideal S1024x1408 .bf16}
    (HP : Heads A R (k0_pay4 (F := Ideal) z y1 y2))
    (hq : ∀ d, q (ix2 d 0) = A.qg (ix2 0 d)) (d : Fin 64) (r : Fin 256) :
    k0_pay9 (F := Ideal) (k0_pay5 q) (k0_pay7 z y1 y2) (k0_pay8 z y1 y2) (ix4 0 0 d r) = query A (R r) 0 d :=
  head_even (k0_pay6 (F := Ideal) z y1 y2) 0 hq (fun d r => (pair0 HP _ r).trans
    (congrArg _ (Fin.ext (by change 0 + (d.val) = 0 * 64 + d.val; omega)))) d r

/-- Head 1 of sub-block 0. -/
theorem q0_1 {z : FVec Ideal S256x1024 .f32} {y1 : FVec Ideal S1x1024 .f32} {y2 : FVec Ideal S1024x1408 .bf16}
    (HP : Heads A R (k0_pay4 (F := Ideal) z y1 y2))
    (hq : ∀ d, q (ix2 d 0) = A.qg (ix2 0 d)) (d : Fin 64) (r : Fin 256) :
    k0_pay10 (F := Ideal) (k0_pay5 q) (k0_pay6 z y1 y2) (ix4 0 0 d r) = query A (R r) 1 d :=
  head_odd (k0_pay6 (F := Ideal) z y1 y2) 1 hq (fun d r => (pair0 HP _ r).trans
    (congrArg _ (Fin.ext (by change 0 + (64 + d.val) = 1 * 64 + d.val; omega)))) d r

/-- Head 2 of sub-block 0. -/
theorem q0_2 (HP : Heads A R P)
    (hq : ∀ d, q (ix2 d 0) = A.qg (ix2 0 d)) (d : Fin 64) (r : Fin 256) :
    k0_pay13 (F := Ideal) (k0_pay5 q) (k0_pay12 P) (ix4 0 0 d r) = query A (R r) 2 d :=
  head_even (k0_pay11 (F := Ideal) P) 2 hq (fun d r => (pair1 HP _ r).trans
    (congrArg _ (Fin.ext (by change 128 + (d.val) = 2 * 64 + d.val; omega)))) d r

/-- Head 3 of sub-block 0. -/
theorem q0_3 (HP : Heads A R P)
    (hq : ∀ d, q (ix2 d 0) = A.qg (ix2 0 d)) (d : Fin 64) (r : Fin 256) :
    k0_pay14 (F := Ideal) (k0_pay5 q) (k0_pay11 P) (ix4 0 0 d r) = query A (R r) 3 d :=
  head_odd (k0_pay11 (F := Ideal) P) 3 hq (fun d r => (pair1 HP _ r).trans
    (congrArg _ (Fin.ext (by change 128 + (64 + d.val) = 3 * 64 + d.val; omega)))) d r

/-- Head 4 of sub-block 0. -/
theorem q0_4 (HP : Heads A R P)
    (hq : ∀ d, q (ix2 d 0) = A.qg (ix2 0 d)) (d : Fin 64) (r : Fin 256) :
    k0_pay17 (F := Ideal) (k0_pay16 P (k0_pay5 q)) (ix4 0 0 d r) = query A (R r) 4 d :=
  head_even (k0_pay15 (F := Ideal) P) 4 hq (fun d r => (pair2 HP _ r).trans
    (congrArg _ (Fin.ext (by change 256 + (d.val) = 4 * 64 + d.val; omega)))) d r

/-- Head 5 of sub-block 0. -/
theorem q0_5 (HP : Heads A R P)
    (hq : ∀ d, q (ix2 d 0) = A.qg (ix2 0 d)) (d : Fin 64) (r : Fin 256) :
    k0_pay18 (F := Ideal) (k0_pay5 q) (k0_pay15 P) (ix4 0 0 d r) = query A (R r) 5 d :=
  head_odd (k0_pay15 (F := Ideal) P) 5 hq (fun d r => (pair2 HP _ r).trans
    (congrArg _ (Fin.ext (by change 256 + (64 + d.val) = 5 * 64 + d.val; omega)))) d r

/-- Head 6 of sub-block 0. -/
theorem q0_6 (HP : Heads A R P)
    (hq : ∀ d, q (ix2 d 0) = A.qg (ix2 0 d)) (d : Fin 64) (r : Fin 256) :
    k0_pay22 (F := Ideal) (k0_pay20 P (k0_pay5 q)) k0_pay21 (ix4 0 0 d r) = query A (R r) 6 d :=
  head_even (k0_pay19 (F := Ideal) P) 6 hq (fun d r => (pair3 HP _ r).trans
    (congrArg _ (Fin.ext (by change 384 + (d.val) = 6 * 64 + d.val; omega)))) d r

/-- Head 7 of sub-block 0. -/
theorem q0_7 (HP : Heads A R P)
    (hq : ∀ d, q (ix2 d 0) = A.qg (ix2 0 d)) (d : Fin 64) (r : Fin 256) :
    k0_pay23 (F := Ideal) (k0_pay5 q) (k0_pay19 P) (ix4 0 0 d r) = query A (R r) 7 d :=
  head_odd (k0_pay19 (F := Ideal) P) 7 hq (fun d r => (pair3 HP _ r).trans
    (congrArg _ (Fin.ext (by change 384 + (64 + d.val) = 7 * 64 + d.val; omega)))) d r

/-- Head 0 of sub-block 1. -/
theorem q1_0 {z : FVec Ideal S256x1024 .f32} {y1 : FVec Ideal S1x1024 .f32} {y2 : FVec Ideal S1024x1408 .bf16}
    (HP : Heads A R (k0_pay4 (F := Ideal) z y1 y2))
    (hq : ∀ d, q (ix2 d 0) = A.qg (ix2 0 d)) (d : Fin 64) (r : Fin 256) :
    k0_pay66 (F := Ideal) (k0_pay61 q) (k0_pay63 z y1 y2) (k0_pay64 z y1 y2) k0_pay65 (ix4 0 0 d r) = query A (R r) 0 d :=
  head_even (k0_pay6 (F := Ideal) z y1 y2) 0 hq (fun d r => (pair0 HP _ r).trans
    (congrArg _ (Fin.ext (by change 0 + (d.val) = 0 * 64 + d.val; omega)))) d r

/-- Head 1 of sub-block 1. -/
theorem q1_1 {z : FVec Ideal S256x1024 .f32} {y1 : FVec Ideal S1x1024 .f32} {y2 : FVec Ideal S1024x1408 .bf16}
    (HP : Heads A R (k0_pay4 (F := Ideal) z y1 y2))
    (hq : ∀ d, q (ix2 d 0) = A.qg (ix2 0 d)) (d : Fin 64) (r : Fin 256) :
    k0_pay67 (F := Ideal) (k0_pay61 q) (k0_pay62 z y1 y2) (ix4 0 0 d r) = query A (R r) 1 d :=
  head_odd (k0_pay6 (F := Ideal) z y1 y2) 1 hq (fun d r => (pair0 HP _ r).trans
    (congrArg _ (Fin.ext (by change 0 + (64 + d.val) = 1 * 64 + d.val; omega)))) d r

/-- Head 2 of sub-block 1. -/
theorem q1_2 (HP : Heads A R P)
    (hq : ∀ d, q (ix2 d 0) = A.qg (ix2 0 d)) (d : Fin 64) (r : Fin 256) :
    k0_pay71 (F := Ideal) (k0_pay61 q) (k0_pay69 P) (k0_pay70 P) (ix4 0 0 d r) = query A (R r) 2 d :=
  head_even (k0_pay11 (F := Ideal) P) 2 hq (fun d r => (pair1 HP _ r).trans
    (congrArg _ (Fin.ext (by change 128 + (d.val) = 2 * 64 + d.val; omega)))) d r

/-- Head 3 of sub-block 1. -/
theorem q1_3 (HP : Heads A R P)
    (hq : ∀ d, q (ix2 d 0) = A.qg (ix2 0 d)) (d : Fin 64) (r : Fin 256) :
    k0_pay72 (F := Ideal) (k0_pay61 q) (k0_pay68 P) (ix4 0 0 d r) = query A (R r) 3 d :=
  head_odd (k0_pay11 (F := Ideal) P) 3 hq (fun d r => (pair1 HP _ r).trans
    (congrArg _ (Fin.ext (by change 128 + (64 + d.val) = 3 * 64 + d.val; omega)))) d r

/-- Head 4 of sub-block 1. -/
theorem q1_4 (HP : Heads A R P)
    (hq : ∀ d, q (ix2 d 0) = A.qg (ix2 0 d)) (d : Fin 64) (r : Fin 256) :
    k0_pay75 (F := Ideal) (k0_pay61 q) (k0_pay74 P) (ix4 0 0 d r) = query A (R r) 4 d :=
  head_even (k0_pay15 (F := Ideal) P) 4 hq (fun d r => (pair2 HP _ r).trans
    (congrArg _ (Fin.ext (by change 256 + (d.val) = 4 * 64 + d.val; omega)))) d r

/-- Head 5 of sub-block 1. -/
theorem q1_5 (HP : Heads A R P)
    (hq : ∀ d, q (ix2 d 0) = A.qg (ix2 0 d)) (d : Fin 64) (r : Fin 256) :
    k0_pay76 (F := Ideal) (k0_pay61 q) (k0_pay73 P) (ix4 0 0 d r) = query A (R r) 5 d :=
  head_odd (k0_pay15 (F := Ideal) P) 5 hq (fun d r => (pair2 HP _ r).trans
    (congrArg _ (Fin.ext (by change 256 + (64 + d.val) = 5 * 64 + d.val; omega)))) d r

/-- Head 6 of sub-block 1. -/
theorem q1_6 (HP : Heads A R P)
    (hq : ∀ d, q (ix2 d 0) = A.qg (ix2 0 d)) (d : Fin 64) (r : Fin 256) :
    k0_pay79 (F := Ideal) (k0_pay78 P (k0_pay61 q)) (ix4 0 0 d r) = query A (R r) 6 d :=
  head_even (k0_pay19 (F := Ideal) P) 6 hq (fun d r => (pair3 HP _ r).trans
    (congrArg _ (Fin.ext (by change 384 + (d.val) = 6 * 64 + d.val; omega)))) d r

/-- Head 7 of sub-block 1. -/
theorem q1_7 (HP : Heads A R P)
    (hq : ∀ d, q (ix2 d 0) = A.qg (ix2 0 d)) (d : Fin 64) (r : Fin 256) :
    k0_pay80 (F := Ideal) (k0_pay61 q) (k0_pay77 P) (ix4 0 0 d r) = query A (R r) 7 d :=
  head_odd (k0_pay19 (F := Ideal) P) 7 hq (fun d r => (pair3 HP _ r).trans
    (congrArg _ (Fin.ext (by change 384 + (64 + d.val) = 7 * 64 + d.val; omega)))) d r

/-- Head 0 of sub-block 2. -/
theorem q2_0 {z : FVec Ideal S256x1024 .f32} {y1 : FVec Ideal S1x1024 .f32} {y2 : FVec Ideal S1024x1408 .bf16}
    (HP : Heads A R (k0_pay4 (F := Ideal) z y1 y2))
    (hq : ∀ d, q (ix2 d 0) = A.qg (ix2 0 d)) (d : Fin 64) (r : Fin 256) :
    k0_pay120 (F := Ideal) (k0_pay116 q) (k0_pay118 z y1 y2) (k0_pay119 z y1 y2) (ix4 0 0 d r) = query A (R r) 0 d :=
  head_even (k0_pay6 (F := Ideal) z y1 y2) 0 hq (fun d r => (pair0 HP _ r).trans
    (congrArg _ (Fin.ext (by change 0 + (d.val) = 0 * 64 + d.val; omega)))) d r

/-- Head 1 of sub-block 2. -/
theorem q2_1 {z : FVec Ideal S256x1024 .f32} {y1 : FVec Ideal S1x1024 .f32} {y2 : FVec Ideal S1024x1408 .bf16}
    (HP : Heads A R (k0_pay4 (F := Ideal) z y1 y2))
    (hq : ∀ d, q (ix2 d 0) = A.qg (ix2 0 d)) (d : Fin 64) (r : Fin 256) :
    k0_pay121 (F := Ideal) (k0_pay116 q) (k0_pay117 z y1 y2) (ix4 0 0 d r) = query A (R r) 1 d :=
  head_odd (k0_pay6 (F := Ideal) z y1 y2) 1 hq (fun d r => (pair0 HP _ r).trans
    (congrArg _ (Fin.ext (by change 0 + (64 + d.val) = 1 * 64 + d.val; omega)))) d r

/-- Head 2 of sub-block 2. -/
theorem q2_2 (HP : Heads A R P)
    (hq : ∀ d, q (ix2 d 0) = A.qg (ix2 0 d)) (d : Fin 64) (r : Fin 256) :
    k0_pay126 (F := Ideal) (k0_pay116 q) (k0_pay123 P) (k0_pay124 P) k0_pay125 (ix4 0 0 d r) = query A (R r) 2 d :=
  head_even (k0_pay11 (F := Ideal) P) 2 hq (fun d r => (pair1 HP _ r).trans
    (congrArg _ (Fin.ext (by change 128 + (d.val) = 2 * 64 + d.val; omega)))) d r

/-- Head 3 of sub-block 2. -/
theorem q2_3 (HP : Heads A R P)
    (hq : ∀ d, q (ix2 d 0) = A.qg (ix2 0 d)) (d : Fin 64) (r : Fin 256) :
    k0_pay127 (F := Ideal) (k0_pay116 q) (k0_pay122 P) (ix4 0 0 d r) = query A (R r) 3 d :=
  head_odd (k0_pay11 (F := Ideal) P) 3 hq (fun d r => (pair1 HP _ r).trans
    (congrArg _ (Fin.ext (by change 128 + (64 + d.val) = 3 * 64 + d.val; omega)))) d r

/-- Head 4 of sub-block 2. -/
theorem q2_4 (HP : Heads A R P)
    (hq : ∀ d, q (ix2 d 0) = A.qg (ix2 0 d)) (d : Fin 64) (r : Fin 256) :
    k0_pay131 (F := Ideal) (k0_pay116 q) (k0_pay129 P) (k0_pay130 P) (ix4 0 0 d r) = query A (R r) 4 d :=
  head_even (k0_pay15 (F := Ideal) P) 4 hq (fun d r => (pair2 HP _ r).trans
    (congrArg _ (Fin.ext (by change 256 + (d.val) = 4 * 64 + d.val; omega)))) d r

/-- Head 5 of sub-block 2. -/
theorem q2_5 (HP : Heads A R P)
    (hq : ∀ d, q (ix2 d 0) = A.qg (ix2 0 d)) (d : Fin 64) (r : Fin 256) :
    k0_pay132 (F := Ideal) (k0_pay116 q) (k0_pay128 P) (ix4 0 0 d r) = query A (R r) 5 d :=
  head_odd (k0_pay15 (F := Ideal) P) 5 hq (fun d r => (pair2 HP _ r).trans
    (congrArg _ (Fin.ext (by change 256 + (64 + d.val) = 5 * 64 + d.val; omega)))) d r

/-- Head 6 of sub-block 2. -/
theorem q2_6 (HP : Heads A R P)
    (hq : ∀ d, q (ix2 d 0) = A.qg (ix2 0 d)) (d : Fin 64) (r : Fin 256) :
    k0_pay135 (F := Ideal) (k0_pay116 q) (k0_pay134 P) (ix4 0 0 d r) = query A (R r) 6 d :=
  head_even (k0_pay19 (F := Ideal) P) 6 hq (fun d r => (pair3 HP _ r).trans
    (congrArg _ (Fin.ext (by change 384 + (d.val) = 6 * 64 + d.val; omega)))) d r

/-- Head 7 of sub-block 2. -/
theorem q2_7 (HP : Heads A R P)
    (hq : ∀ d, q (ix2 d 0) = A.qg (ix2 0 d)) (d : Fin 64) (r : Fin 256) :
    k0_pay136 (F := Ideal) (k0_pay116 q) (k0_pay133 P) (ix4 0 0 d r) = query A (R r) 7 d :=
  head_odd (k0_pay19 (F := Ideal) P) 7 hq (fun d r => (pair3 HP _ r).trans
    (congrArg _ (Fin.ext (by change 384 + (64 + d.val) = 7 * 64 + d.val; omega)))) d r

/-- Head 0 of sub-block 3. -/
theorem q3_0 {z : FVec Ideal S256x1024 .f32} {y1 : FVec Ideal S1x1024 .f32} {y2 : FVec Ideal S1024x1408 .bf16}
    (HP : Heads A R (k0_pay4 (F := Ideal) z y1 y2))
    (hq : ∀ d, q (ix2 d 0) = A.qg (ix2 0 d)) (d : Fin 64) (r : Fin 256) :
    k0_pay173 (F := Ideal) (k0_pay169 q) (k0_pay171 z y1 y2) (k0_pay172 z y1 y2) (FloatOps.ofBits FTy.f32 1115684864#32) (ix4 0 0 d r) = query A (R r) 0 d :=
  head_even (k0_pay6 (F := Ideal) z y1 y2) 0 hq (fun d r => (pair0 HP _ r).trans
    (congrArg _ (Fin.ext (by change 0 + (d.val) = 0 * 64 + d.val; omega)))) d r

/-- Head 1 of sub-block 3. -/
theorem q3_1 {z : FVec Ideal S256x1024 .f32} {y1 : FVec Ideal S1x1024 .f32} {y2 : FVec Ideal S1024x1408 .bf16}
    (HP : Heads A R (k0_pay4 (F := Ideal) z y1 y2))
    (hq : ∀ d, q (ix2 d 0) = A.qg (ix2 0 d)) (d : Fin 64) (r : Fin 256) :
    k0_pay174 (F := Ideal) (k0_pay169 q) (k0_pay170 z y1 y2) (ix4 0 0 d r) = query A (R r) 1 d :=
  head_odd (k0_pay6 (F := Ideal) z y1 y2) 1 hq (fun d r => (pair0 HP _ r).trans
    (congrArg _ (Fin.ext (by change 0 + (64 + d.val) = 1 * 64 + d.val; omega)))) d r

/-- Head 2 of sub-block 3. -/
theorem q3_2 (HP : Heads A R P)
    (hq : ∀ d, q (ix2 d 0) = A.qg (ix2 0 d)) (d : Fin 64) (r : Fin 256) :
    k0_pay178 (F := Ideal) (k0_pay169 q) (k0_pay176 P) (k0_pay177 P) (ix4 0 0 d r) = query A (R r) 2 d :=
  head_even (k0_pay11 (F := Ideal) P) 2 hq (fun d r => (pair1 HP _ r).trans
    (congrArg _ (Fin.ext (by change 128 + (d.val) = 2 * 64 + d.val; omega)))) d r

/-- Head 3 of sub-block 3. -/
theorem q3_3 (HP : Heads A R P)
    (hq : ∀ d, q (ix2 d 0) = A.qg (ix2 0 d)) (d : Fin 64) (r : Fin 256) :
    k0_pay179 (F := Ideal) (k0_pay169 q) (k0_pay175 P) (ix4 0 0 d r) = query A (R r) 3 d :=
  head_odd (k0_pay11 (F := Ideal) P) 3 hq (fun d r => (pair1 HP _ r).trans
    (congrArg _ (Fin.ext (by change 128 + (64 + d.val) = 3 * 64 + d.val; omega)))) d r

/-- Head 4 of sub-block 3. -/
theorem q3_4 (HP : Heads A R P)
    (hq : ∀ d, q (ix2 d 0) = A.qg (ix2 0 d)) (d : Fin 64) (r : Fin 256) :
    k0_pay184 (F := Ideal) (k0_pay169 q) (k0_pay181 P) (k0_pay182 P) k0_pay183 (ix4 0 0 d r) = query A (R r) 4 d :=
  head_even (k0_pay15 (F := Ideal) P) 4 hq (fun d r => (pair2 HP _ r).trans
    (congrArg _ (Fin.ext (by change 256 + (d.val) = 4 * 64 + d.val; omega)))) d r

/-- Head 5 of sub-block 3. -/
theorem q3_5 (HP : Heads A R P)
    (hq : ∀ d, q (ix2 d 0) = A.qg (ix2 0 d)) (d : Fin 64) (r : Fin 256) :
    k0_pay185 (F := Ideal) (k0_pay169 q) (k0_pay180 P) (ix4 0 0 d r) = query A (R r) 5 d :=
  head_odd (k0_pay15 (F := Ideal) P) 5 hq (fun d r => (pair2 HP _ r).trans
    (congrArg _ (Fin.ext (by change 256 + (64 + d.val) = 5 * 64 + d.val; omega)))) d r

/-- Head 6 of sub-block 3. -/
theorem q3_6 (HP : Heads A R P)
    (hq : ∀ d, q (ix2 d 0) = A.qg (ix2 0 d)) (d : Fin 64) (r : Fin 256) :
    k0_pay189 (F := Ideal) (k0_pay169 q) (k0_pay187 P) (k0_pay188 P) (ix4 0 0 d r) = query A (R r) 6 d :=
  head_even (k0_pay19 (F := Ideal) P) 6 hq (fun d r => (pair3 HP _ r).trans
    (congrArg _ (Fin.ext (by change 384 + (d.val) = 6 * 64 + d.val; omega)))) d r

/-- Head 7 of sub-block 3. -/
theorem q3_7 (HP : Heads A R P)
    (hq : ∀ d, q (ix2 d 0) = A.qg (ix2 0 d)) (d : Fin 64) (r : Fin 256) :
    k0_pay190 (F := Ideal) (k0_pay169 q) (k0_pay186 P) (ix4 0 0 d r) = query A (R r) 7 d :=
  head_odd (k0_pay19 (F := Ideal) P) 7 hq (fun d r => (pair3 HP _ r).trans
    (congrArg _ (Fin.ext (by change 384 + (64 + d.val) = 7 * 64 + d.val; omega)))) d r

end

end Cert.ProjIdeal.Block

end
-- ==== Proof.ProjKeys.lean ====
/- The keys one sub-block of 256 tokens stores: per group the normalised columns of the projection, with the position
   lanes beside them. -/
module

public import proofs.«01_k».proof.Proof.ProjBlock

@[expose] public section

set_option maxRecDepth 16384

noncomputable section

namespace Cert.ProjIdeal.Block

open Idealize.ShloMosaic Idealize.ShloMosaic.TcCoe Idealize.SL.Sem
open Cert.ProjIdeal Cert.ProjIdeal.Gen
open Cert.ProjMath (Args xin xn proj key lane keyLane rms shr_pos and_pos)

/-- A number times the pattern of 1/64 is the number divided by the pattern of 64. -/
theorem mul_64th (x : EReal) : x * Ideal.ofBits .f32 0x3C800000#32 = Ideal.div x (Ideal.ofBits .f32 0x42800000#32) := by
  have e : Ideal.ofBits .f32 0x42800000#32 = ((64 : ℝ) : EReal) := by
    simp [Ideal.ofBits, Ideal.ieee, -EReal.coe_mul]; norm_num
  have e' : Ideal.ofBits .f32 0x3C800000#32 = (((64 : ℝ)⁻¹ : ℝ) : EReal) := by
    simp [Ideal.ofBits, Ideal.ieee, -EReal.coe_mul]; norm_num
  rw [e, e', Ideal.div, if_neg (by norm_num), EReal.coe_inv]

/-- The squares of 64 numbers followed by 64 zeros sum to those of the 64 numbers. -/
theorem sum_pad (f : Fin 64 → EReal) :
    (∑ l : Fin 128, (if h : l.val < 64 then f ⟨l.val, h⟩ else 0) * (if h : l.val < 64 then f ⟨l.val, h⟩ else 0))
      = ∑ j : Fin 64, f j * f j := by
  rw [show (128 : ℕ) = 64 + 64 from rfl, Fin.sum_univ_add]
  simp

/-- Which lanes hold ones. -/
theorem one_lanes (l : Fin 128) :
    IntOp.ori (IntOp.ori (IntOp.cmpi .eq (BitVec.ofNat 32 l.val) 64#32) (IntOp.cmpi .eq (BitVec.ofNat 32 l.val) 65#32))
      (IntOp.cmpi .eq (BitVec.ofNat 32 l.val) 68#32)
      = if l.val = 64 ∨ l.val = 65 ∨ l.val = 68 then 1#1 else 0#1 := by
  revert l
  decide +kernel

/-- Which lane is lane `n`. -/
theorem part_lane (l : Fin 128) (n : ℕ) (hn : n < 128) :
    IntOp.cmpi .eq (BitVec.ofNat 32 l.val) (BitVec.ofNat 32 n) = if l.val = n then 1#1 else 0#1 := by
  have h : ∀ l n : Fin 128, IntOp.cmpi .eq (BitVec.ofNat 32 l.val) (BitVec.ofNat 32 n.val)
      = if l.val = n.val then 1#1 else 0#1 := by decide +kernel
  exact h l ⟨n, hn⟩

/-- Which lanes are below 64. -/
theorem low_lane (l : Fin 128) :
    IntOp.cmpi .slt (BitVec.ofNat 32 l.val) 64#32 = if l.val < 64 then 1#1 else 0#1 := by
  revert l
  decide +kernel

/-- The position lanes of a sub-block whose first token has position `base`. -/
theorem lanes_apply (base : ℕ) (hb : base + 256 ≤ 4096) (r : Fin 256) (l : Fin 128) :
    k0_pay29 (F := Ideal) (iota Kind.tc S256x128 32 [1] iota_S256x128_d1_w32) (k0_pay27 (BitVec.ofNat 32 base))
      (k0_pay28 (BitVec.ofNat 32 base)) (ix2 r l)
      = if h : l.val < 64 then 0 else lane ⟨base + r.val, by omega⟩ ⟨l.val - 64, by omega⟩ := by
  pointwise [k0_pay29, k0_pay27, k0_pay28, k0_pay26]
  have e : IntOp.addi (BitVec.ofNat 32 base) (BitVec.ofNat 32 r.val) = BitVec.ofNat 32 (base + r.val) :=
    (BitVec.ofNat_add base r.val).symm
  rw [e, shr_pos _ _ (by omega), and_pos _ (by omega), one_lanes, part_lane _ 66 (by omega), part_lane _ 67 (by omega)]
  unfold lane Scalar.select
  simp only
  by_cases h : l.val < 64
  · rw [dif_pos h, if_neg (show ¬ (l.val = 64 ∨ l.val = 65 ∨ l.val = 68) by omega), if_neg (show ¬ l.val = 66 by omega),
      if_neg (show ¬ l.val = 67 by omega)]
    rfl
  · rw [dif_neg h]
    by_cases h1 : l.val = 64 ∨ l.val = 65 ∨ l.val = 68
    · rw [if_pos h1, if_pos (show l.val - 64 = 0 ∨ l.val - 64 = 1 ∨ l.val - 64 = 4 by omega)]
      rfl
    rw [if_neg h1, if_neg (show ¬ (l.val - 64 = 0 ∨ l.val - 64 = 1 ∨ l.val - 64 = 4) by omega)]
    by_cases h2 : l.val = 66
    · rw [if_pos h2, if_pos (show l.val - 64 = 2 by omega)]
      rfl
    rw [if_neg h2, if_neg (show ¬ l.val - 64 = 2 by omega)]
    by_cases h3 : l.val = 67
    · rw [if_pos h3, if_pos (show l.val - 64 = 3 by omega)]
      rfl
    rw [if_neg h3, if_neg (show ¬ l.val - 64 = 3 by omega)]
    rfl

section
variable {A : Args} {R : Fin 256 → Fin 32768} {P : FVec Ideal S256x1408 .f32}

/-- The same at the position of a token row. -/
theorem lanes_row (base : ℕ) (hb : base + 256 ≤ 4096) (hR : ∀ r, (R r).val % 4096 = base + r.val) (r : Fin 256)
    (l : Fin 128) :
    k0_pay29 (F := Ideal) (iota Kind.tc S256x128 32 [1] iota_S256x128_d1_w32) (k0_pay27 (BitVec.ofNat 32 base))
      (k0_pay28 (BitVec.ofNat 32 base)) (ix2 r l)
      = if h : l.val < 64 then 0 else lane ⟨(R r).val % 4096, by omega⟩ ⟨l.val - 64, by omega⟩ := by
  refine (lanes_apply base hb r l).trans ?_
  simp only [hR]

/-- A group's keys of a sub-block, from the group's columns `K` with zeros beside them, the lanes `L` and the gain `w`. -/
theorem key_apply (o : ℕ) (ho : o + 128 ≤ 6424) (j : Fin 3) (g : Fin 2) {K L : FVec Ideal S256x128 .f32}
    {w : FVec Ideal S1x128 .f32}
    (hK : ∀ r (l : Fin 128), K (ix2 r l) = if h : l.val < 64 then proj A (R r) ⟨o + (g.val * 64 + l.val), by omega⟩ else 0)
    (hL : ∀ r (l : Fin 128), L (ix2 r l) = if h : l.val < 64 then 0 else
      lane ⟨(R r).val % 4096, by omega⟩ ⟨l.val - 64, by omega⟩)
    (hw : ∀ l : Fin 128, w (ix2 0 l) = if h : l.val < 64 then A.kg (ix3 0 j ⟨l.val, h⟩) else 0)
    (r : Fin 256) (l : Fin 128) : k0_pay41 (F := Ideal) L K w (ix4 0 0 r l) = keyLane A o ho j (R r) g l := by
  pointwise [k0_pay41]
  simp only [hK, hL, hw, mul_64th]
  rw [sum_pad (fun l => proj A (R r) ⟨o + (g.val * 64 + l.val), by omega⟩)]
  unfold keyLane key rms
  split_ifs with h
  · rw [add_zero]
  · rw [zero_mul, zero_mul, zero_add]

/-- Group 0's columns from column 768 on, masked. -/
theorem mask_s0 (HP : Heads A R P) (r : Fin 256) (l : Fin 128) : k0_pay36 (F := Ideal) P (ix2 r l)
    = if h : l.val < 64 then proj A (R r) ⟨768 + ((0 : Fin 2).val * 64 + l.val), by omega⟩ else 0 := by
  pointwise [k0_pay36, k0_pay37, k0_pay46, k0_pay30, k0_pay31, k0_pay32]
  rw [low_lane]
  unfold Scalar.select
  split_ifs with h
  · refine (HP.col r ⟨768 + l.val, by omega⟩ (by simp only; omega)).trans (congrArg _ (Fin.ext ?_))
    simp only <;> omega
  all_goals first | rfl | contradiction

/-- Group 1's columns from column 768 on, masked. -/
theorem mask_s1 (HP : Heads A R P) (r : Fin 256) (l : Fin 128) : k0_pay46 (F := Ideal) k0_pay30 (k0_pay31 P) (ix2 r l)
    = if h : l.val < 64 then proj A (R r) ⟨768 + ((1 : Fin 2).val * 64 + l.val), by omega⟩ else 0 := by
  pointwise [k0_pay36, k0_pay37, k0_pay46, k0_pay30, k0_pay31, k0_pay32]
  rw [low_lane]
  unfold Scalar.select
  split_ifs with h
  · refine (HP.col r ⟨768 + (l.val + 128 - 64) % 128, by omega⟩ (by simp only; omega)).trans (congrArg _ (Fin.ext ?_))
    simp only <;> omega
  all_goals first | rfl | contradiction

/-- Group 0's columns from column 1024 on, masked. -/
theorem mask_w0 (HP : Heads A R P) (r : Fin 256) (l : Fin 128) : k0_pay37 (F := Ideal) P (ix2 r l)
    = if h : l.val < 64 then proj A (R r) ⟨1024 + ((0 : Fin 2).val * 64 + l.val), by omega⟩ else 0 := by
  pointwise [k0_pay36, k0_pay37, k0_pay46, k0_pay30, k0_pay31, k0_pay32]
  rw [low_lane]
  unfold Scalar.select
  split_ifs with h
  · refine (HP.col r ⟨1024 + l.val, by omega⟩ (by simp only; omega)).trans (congrArg _ (Fin.ext ?_))
    simp only <;> omega
  all_goals first | rfl | contradiction

/-- Group 1's columns from column 1024 on, masked. -/
theorem mask_w1 (HP : Heads A R P) (r : Fin 256) (l : Fin 128) : k0_pay46 (F := Ideal) k0_pay30 (k0_pay32 P) (ix2 r l)
    = if h : l.val < 64 then proj A (R r) ⟨1024 + ((1 : Fin 2).val * 64 + l.val), by omega⟩ else 0 := by
  pointwise [k0_pay36, k0_pay37, k0_pay46, k0_pay30, k0_pay31, k0_pay32]
  rw [low_lane]
  unfold Scalar.select
  split_ifs with h
  · refine (HP.col r ⟨1024 + (l.val + 128 - 64) % 128, by omega⟩ (by simp only; omega)).trans (congrArg _ (Fin.ext ?_))
    simp only <;> omega
  all_goals first | rfl | contradiction

/-- Group 0 of the keys from column 768 on in sub-block 0. -/
theorem ks0_0 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 1 ⟨l.val, h⟩) else 0)
    (r : Fin 256) (l : Fin 128) :
    k0_pay40 (F := Ideal) (k0_pay29 (iota Kind.tc S256x128 32 [1] iota_S256x128_d1_w32) (k0_pay27 (BitVec.ofNat 32 base)) (k0_pay28 (BitVec.ofNat 32 base))) (k0_pay36 P) (k0_pay38 w) (k0_pay39 P) (ix4 0 0 r l) = keyLane A 768 (by omega) 1 (R r) 0 l :=
  key_apply 768 (by omega) 1 0 (K := k0_pay36 (F := Ideal) P) (L := k0_pay29 (F := Ideal) (iota Kind.tc S256x128 32 [1] iota_S256x128_d1_w32) (k0_pay27 (BitVec.ofNat 32 base)) (k0_pay28 (BitVec.ofNat 32 base)))
    (mask_s0 HP) (lanes_row base hb hR) hw r l

/-- Group 0 of the keys from column 768 on in sub-block 1. -/
theorem ks0_1 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 1 ⟨l.val, h⟩) else 0)
    (r : Fin 256) (l : Fin 128) :
    k0_pay97 (F := Ideal) (k0_pay86 (k0_pay83 (BitVec.ofNat 32 base)) (iota Kind.tc S256x128 32 [1] iota_S256x128_d1_w32) (k0_pay84 (BitVec.ofNat 32 base)) k0_pay85) (k0_pay93 P) (k0_pay95 w) (k0_pay96 P) (FloatOps.ofBits FTy.f32 1015021568#32) (ix4 0 0 r l) = keyLane A 768 (by omega) 1 (R r) 0 l :=
  key_apply 768 (by omega) 1 0 (K := k0_pay36 (F := Ideal) P) (L := k0_pay29 (F := Ideal) (iota Kind.tc S256x128 32 [1] iota_S256x128_d1_w32) (k0_pay27 (BitVec.ofNat 32 base)) (k0_pay28 (BitVec.ofNat 32 base)))
    (mask_s0 HP) (lanes_row base hb hR) hw r l

/-- Group 0 of the keys from column 768 on in sub-block 2. -/
theorem ks0_2 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 1 ⟨l.val, h⟩) else 0)
    (r : Fin 256) (l : Fin 128) :
    k0_pay152 (F := Ideal) (k0_pay141 (k0_pay139 (BitVec.ofNat 32 base)) (iota Kind.tc S256x128 32 [1] iota_S256x128_d1_w32) (k0_pay140 (BitVec.ofNat 32 base))) (k0_pay148 P) (k0_pay150 w) (k0_pay151 P) (ix4 0 0 r l) = keyLane A 768 (by omega) 1 (R r) 0 l :=
  key_apply 768 (by omega) 1 0 (K := k0_pay36 (F := Ideal) P) (L := k0_pay29 (F := Ideal) (iota Kind.tc S256x128 32 [1] iota_S256x128_d1_w32) (k0_pay27 (BitVec.ofNat 32 base)) (k0_pay28 (BitVec.ofNat 32 base)))
    (mask_s0 HP) (lanes_row base hb hR) hw r l

/-- Group 0 of the keys from column 768 on in sub-block 3. -/
theorem ks0_3 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 1 ⟨l.val, h⟩) else 0)
    (r : Fin 256) (l : Fin 128) :
    k0_pay206 (F := Ideal) (k0_pay195 (k0_pay193 (BitVec.ofNat 32 base)) (iota Kind.tc S256x128 32 [1] iota_S256x128_d1_w32) k0_pay194) (k0_pay202 P) (k0_pay204 w) (k0_pay205 P) (ix4 0 0 r l) = keyLane A 768 (by omega) 1 (R r) 0 l :=
  key_apply 768 (by omega) 1 0 (K := k0_pay36 (F := Ideal) P) (L := k0_pay29 (F := Ideal) (iota Kind.tc S256x128 32 [1] iota_S256x128_d1_w32) (k0_pay27 (BitVec.ofNat 32 base)) (k0_pay28 (BitVec.ofNat 32 base)))
    (mask_s0 HP) (lanes_row base hb hR) hw r l

/-- Group 1 of the keys from column 768 on in sub-block 0. -/
theorem ks1_0 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 1 ⟨l.val, h⟩) else 0)
    (r : Fin 256) (l : Fin 128) :
    k0_pay47 (F := Ideal) (k0_pay29 (iota Kind.tc S256x128 32 [1] iota_S256x128_d1_w32) (k0_pay27 (BitVec.ofNat 32 base)) (k0_pay28 (BitVec.ofNat 32 base))) k0_pay30 (k0_pay31 P) w (ix4 0 0 r l) = keyLane A 768 (by omega) 1 (R r) 1 l :=
  key_apply 768 (by omega) 1 1 (K := k0_pay46 (F := Ideal) k0_pay30 (k0_pay31 P)) (L := k0_pay29 (F := Ideal) (iota Kind.tc S256x128 32 [1] iota_S256x128_d1_w32) (k0_pay27 (BitVec.ofNat 32 base)) (k0_pay28 (BitVec.ofNat 32 base)))
    (mask_s1 HP) (lanes_row base hb hR) hw r l

/-- Group 1 of the keys from column 768 on in sub-block 1. -/
theorem ks1_1 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 1 ⟨l.val, h⟩) else 0)
    (r : Fin 256) (l : Fin 128) :
    k0_pay104 (F := Ideal) (k0_pay86 (k0_pay83 (BitVec.ofNat 32 base)) (iota Kind.tc S256x128 32 [1] iota_S256x128_d1_w32) (k0_pay84 (BitVec.ofNat 32 base)) k0_pay85) k0_pay87 (k0_pay88 P) w (ix4 0 0 r l) = keyLane A 768 (by omega) 1 (R r) 1 l :=
  key_apply 768 (by omega) 1 1 (K := k0_pay46 (F := Ideal) k0_pay30 (k0_pay31 P)) (L := k0_pay29 (F := Ideal) (iota Kind.tc S256x128 32 [1] iota_S256x128_d1_w32) (k0_pay27 (BitVec.ofNat 32 base)) (k0_pay28 (BitVec.ofNat 32 base)))
    (mask_s1 HP) (lanes_row base hb hR) hw r l

/-- Group 1 of the keys from column 768 on in sub-block 2. -/
theorem ks1_2 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 1 ⟨l.val, h⟩) else 0)
    (r : Fin 256) (l : Fin 128) :
    k0_pay158 (F := Ideal) (k0_pay141 (k0_pay139 (BitVec.ofNat 32 base)) (iota Kind.tc S256x128 32 [1] iota_S256x128_d1_w32) (k0_pay140 (BitVec.ofNat 32 base))) k0_pay142 (k0_pay143 P) w (ix4 0 0 r l) = keyLane A 768 (by omega) 1 (R r) 1 l :=
  key_apply 768 (by omega) 1 1 (K := k0_pay46 (F := Ideal) k0_pay30 (k0_pay31 P)) (L := k0_pay29 (F := Ideal) (iota Kind.tc S256x128 32 [1] iota_S256x128_d1_w32) (k0_pay27 (BitVec.ofNat 32 base)) (k0_pay28 (BitVec.ofNat 32 base)))
    (mask_s1 HP) (lanes_row base hb hR) hw r l

/-- Group 1 of the keys from column 768 on in sub-block 3. -/
theorem ks1_3 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 1 ⟨l.val, h⟩) else 0)
    (r : Fin 256) (l : Fin 128) :
    k0_pay213 (F := Ideal) (k0_pay195 (k0_pay193 (BitVec.ofNat 32 base)) (iota Kind.tc S256x128 32 [1] iota_S256x128_d1_w32) k0_pay194) k0_pay196 (k0_pay197 P) w (ix4 0 0 r l) = keyLane A 768 (by omega) 1 (R r) 1 l :=
  key_apply 768 (by omega) 1 1 (K := k0_pay46 (F := Ideal) k0_pay30 (k0_pay31 P)) (L := k0_pay29 (F := Ideal) (iota Kind.tc S256x128 32 [1] iota_S256x128_d1_w32) (k0_pay27 (BitVec.ofNat 32 base)) (k0_pay28 (BitVec.ofNat 32 base)))
    (mask_s1 HP) (lanes_row base hb hR) hw r l

/-- Group 0 of the keys from column 1024 on in sub-block 0. -/
theorem kw0_0 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 2 ⟨l.val, h⟩) else 0)
    (r : Fin 256) (l : Fin 128) :
    k0_pay41 (F := Ideal) (k0_pay29 (iota Kind.tc S256x128 32 [1] iota_S256x128_d1_w32) (k0_pay27 (BitVec.ofNat 32 base)) (k0_pay28 (BitVec.ofNat 32 base))) (k0_pay37 P) w (ix4 0 0 r l) = keyLane A 1024 (by omega) 2 (R r) 0 l :=
  key_apply 1024 (by omega) 2 0 (K := k0_pay37 (F := Ideal) P) (L := k0_pay29 (F := Ideal) (iota Kind.tc S256x128 32 [1] iota_S256x128_d1_w32) (k0_pay27 (BitVec.ofNat 32 base)) (k0_pay28 (BitVec.ofNat 32 base)))
    (mask_w0 HP) (lanes_row base hb hR) hw r l

/-- Group 0 of the keys from column 1024 on in sub-block 1. -/
theorem kw0_1 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 2 ⟨l.val, h⟩) else 0)
    (r : Fin 256) (l : Fin 128) :
    k0_pay98 (F := Ideal) (k0_pay86 (k0_pay83 (BitVec.ofNat 32 base)) (iota Kind.tc S256x128 32 [1] iota_S256x128_d1_w32) (k0_pay84 (BitVec.ofNat 32 base)) k0_pay85) (k0_pay94 P) w (ix4 0 0 r l) = keyLane A 1024 (by omega) 2 (R r) 0 l :=
  key_apply 1024 (by omega) 2 0 (K := k0_pay37 (F := Ideal) P) (L := k0_pay29 (F := Ideal) (iota Kind.tc S256x128 32 [1] iota_S256x128_d1_w32) (k0_pay27 (BitVec.ofNat 32 base)) (k0_pay28 (BitVec.ofNat 32 base)))
    (mask_w0 HP) (lanes_row base hb hR) hw r l

/-- Group 0 of the keys from column 1024 on in sub-block 2. -/
theorem kw0_2 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 2 ⟨l.val, h⟩) else 0)
    (r : Fin 256) (l : Fin 128) :
    k0_pay153 (F := Ideal) (k0_pay141 (k0_pay139 (BitVec.ofNat 32 base)) (iota Kind.tc S256x128 32 [1] iota_S256x128_d1_w32) (k0_pay140 (BitVec.ofNat 32 base))) (k0_pay149 P) w (ix4 0 0 r l) = keyLane A 1024 (by omega) 2 (R r) 0 l :=
  key_apply 1024 (by omega) 2 0 (K := k0_pay37 (F := Ideal) P) (L := k0_pay29 (F := Ideal) (iota Kind.tc S256x128 32 [1] iota_S256x128_d1_w32) (k0_pay27 (BitVec.ofNat 32 base)) (k0_pay28 (BitVec.ofNat 32 base)))
    (mask_w0 HP) (lanes_row base hb hR) hw r l

/-- Group 0 of the keys from column 1024 on in sub-block 3. -/
theorem kw0_3 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 2 ⟨l.val, h⟩) else 0)
    (r : Fin 256) (l : Fin 128) :
    k0_pay207 (F := Ideal) (k0_pay195 (k0_pay193 (BitVec.ofNat 32 base)) (iota Kind.tc S256x128 32 [1] iota_S256x128_d1_w32) k0_pay194) (k0_pay203 P) w (ix4 0 0 r l) = keyLane A 1024 (by omega) 2 (R r) 0 l :=
  key_apply 1024 (by omega) 2 0 (K := k0_pay37 (F := Ideal) P) (L := k0_pay29 (F := Ideal) (iota Kind.tc S256x128 32 [1] iota_S256x128_d1_w32) (k0_pay27 (BitVec.ofNat 32 base)) (k0_pay28 (BitVec.ofNat 32 base)))
    (mask_w0 HP) (lanes_row base hb hR) hw r l

/-- Group 1 of the keys from column 1024 on in sub-block 0. -/
theorem kw1_0 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 2 ⟨l.val, h⟩) else 0)
    (r : Fin 256) (l : Fin 128) :
    k0_pay50 (F := Ideal) (k0_pay29 (iota Kind.tc S256x128 32 [1] iota_S256x128_d1_w32) (k0_pay27 (BitVec.ofNat 32 base)) (k0_pay28 (BitVec.ofNat 32 base))) (k0_pay46 k0_pay30 (k0_pay32 P)) (k0_pay48 w) (k0_pay49 k0_pay30 (k0_pay32 P)) (ix4 0 0 r l) = keyLane A 1024 (by omega) 2 (R r) 1 l :=
  key_apply 1024 (by omega) 2 1 (K := k0_pay46 (F := Ideal) k0_pay30 (k0_pay32 P)) (L := k0_pay29 (F := Ideal) (iota Kind.tc S256x128 32 [1] iota_S256x128_d1_w32) (k0_pay27 (BitVec.ofNat 32 base)) (k0_pay28 (BitVec.ofNat 32 base)))
    (mask_w1 HP) (lanes_row base hb hR) hw r l

/-- Group 1 of the keys from column 1024 on in sub-block 1. -/
theorem kw1_1 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 2 ⟨l.val, h⟩) else 0)
    (r : Fin 256) (l : Fin 128) :
    k0_pay105 (F := Ideal) (k0_pay86 (k0_pay83 (BitVec.ofNat 32 base)) (iota Kind.tc S256x128 32 [1] iota_S256x128_d1_w32) (k0_pay84 (BitVec.ofNat 32 base)) k0_pay85) (k0_pay103 k0_pay87 (k0_pay89 P)) w (ix4 0 0 r l) = keyLane A 1024 (by omega) 2 (R r) 1 l :=
  key_apply 1024 (by omega) 2 1 (K := k0_pay46 (F := Ideal) k0_pay30 (k0_pay32 P)) (L := k0_pay29 (F := Ideal) (iota Kind.tc S256x128 32 [1] iota_S256x128_d1_w32) (k0_pay27 (BitVec.ofNat 32 base)) (k0_pay28 (BitVec.ofNat 32 base)))
    (mask_w1 HP) (lanes_row base hb hR) hw r l

/-- Group 1 of the keys from column 1024 on in sub-block 2. -/
theorem kw1_2 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 2 ⟨l.val, h⟩) else 0)
    (r : Fin 256) (l : Fin 128) :
    k0_pay159 (F := Ideal) (k0_pay141 (k0_pay139 (BitVec.ofNat 32 base)) (iota Kind.tc S256x128 32 [1] iota_S256x128_d1_w32) (k0_pay140 (BitVec.ofNat 32 base))) (k0_pay157 k0_pay142 (k0_pay144 P)) w (ix4 0 0 r l) = keyLane A 1024 (by omega) 2 (R r) 1 l :=
  key_apply 1024 (by omega) 2 1 (K := k0_pay46 (F := Ideal) k0_pay30 (k0_pay32 P)) (L := k0_pay29 (F := Ideal) (iota Kind.tc S256x128 32 [1] iota_S256x128_d1_w32) (k0_pay27 (BitVec.ofNat 32 base)) (k0_pay28 (BitVec.ofNat 32 base)))
    (mask_w1 HP) (lanes_row base hb hR) hw r l

/-- Group 1 of the keys from column 1024 on in sub-block 3. -/
theorem kw1_3 (HP : Heads A R P) (base : ℕ) (hb : base + 256 ≤ 4096) (hR : ∀ r, (R r).val % 4096 = base + r.val)
    {w : FVec Ideal S1x128 .f32} (hw : ∀ l : Fin 128, w (ix2 0 l) = if h : l.val < 64 then A.kg (ix3 0 2 ⟨l.val, h⟩) else 0)
    (r : Fin 256) (l : Fin 128) :
    k0_pay214 (F := Ideal) (k0_pay195 (k0_pay193 (BitVec.ofNat 32 base)) (iota Kind.tc S256x128 32 [1] iota_S256x128_d1_w32) k0_pay194) (k0_pay212 k0_pay196 (k0_pay198 P)) w (ix4 0 0 r l) = keyLane A 1024 (by omega) 2 (R r) 1 l :=
  key_apply 1024 (by omega) 2 1 (K := k0_pay46 (F := Ideal) k0_pay30 (k0_pay32 P)) (L := k0_pay29 (F := Ideal) (iota Kind.tc S256x128 32 [1] iota_S256x128_d1_w32) (k0_pay27 (BitVec.ofNat 32 base)) (k0_pay28 (BitVec.ofNat 32 base)))
    (mask_w1 HP) (lanes_row base hb hR) hw r l

end

end Cert.ProjIdeal.Block

end
-- ==== Proof.ProjVals.lean ====
/- What one sub-block of 256 tokens stores beside queries and keys: the columns the compressed branch reads, the values,
   the branch gates and the gate of the attention branch. -/
module

public import proofs.«01_k».proof.Proof.ProjBlock

@[expose] public section

set_option maxRecDepth 16384

noncomputable section

namespace Cert.ProjIdeal.Block

open Idealize.ShloMosaic Idealize.ShloMosaic.TcCoe Idealize.SL.Sem
open Cert.ProjIdeal Cert.ProjIdeal.Gen
open Cert.ProjMath (Args xin xn proj value logit sga)

section
variable {A : Args} {R : Fin 256 → Fin 32768} {P : FVec Ideal S256x1408 .f32}

/-- The columns from 512 on. -/
theorem ck_0 (HP : Heads A R P) (r : Fin 256) (l : Fin 128) :
    k0_pay24 (F := Ideal) P (ix2 r l) = proj A (R r) ⟨512 + l.val, by omega⟩ := by
  pointwise [k0_pay24]
  exact HP.col r ⟨512 + l.val, by omega⟩ (by simp only; omega)

/-- The same in sub-block 1. -/
theorem ck_1 (HP : Heads A R P) (r : Fin 256) (l : Fin 128) :
    k0_pay81 (F := Ideal) P (ix2 r l) = proj A (R r) ⟨512 + l.val, by omega⟩ := ck_0 HP r l

/-- The same in sub-block 2. -/
theorem ck_2 (HP : Heads A R P) (r : Fin 256) (l : Fin 128) :
    k0_pay137 (F := Ideal) P (ix2 r l) = proj A (R r) ⟨512 + l.val, by omega⟩ := ck_0 HP r l

/-- The same in sub-block 3. -/
theorem ck_3 (HP : Heads A R P) (r : Fin 256) (l : Fin 128) :
    k0_pay191 (F := Ideal) P (ix2 r l) = proj A (R r) ⟨512 + l.val, by omega⟩ := ck_0 HP r l

/-- The columns from 640 on. -/
theorem cv_0 (HP : Heads A R P) (r : Fin 256) (l : Fin 128) :
    k0_pay25 (F := Ideal) P (ix2 r l) = proj A (R r) ⟨640 + l.val, by omega⟩ := by
  pointwise [k0_pay25]
  exact HP.col r ⟨640 + l.val, by omega⟩ (by simp only; omega)

/-- The same in sub-block 1. -/
theorem cv_1 (HP : Heads A R P) (r : Fin 256) (l : Fin 128) :
    k0_pay82 (F := Ideal) P (ix2 r l) = proj A (R r) ⟨640 + l.val, by omega⟩ := cv_0 HP r l

/-- The same in sub-block 2. -/
theorem cv_2 (HP : Heads A R P) (r : Fin 256) (l : Fin 128) :
    k0_pay138 (F := Ideal) P (ix2 r l) = proj A (R r) ⟨640 + l.val, by omega⟩ := cv_0 HP r l

/-- The same in sub-block 3. -/
theorem cv_3 (HP : Heads A R P) (r : Fin 256) (l : Fin 128) :
    k0_pay192 (F := Ideal) P (ix2 r l) = proj A (R r) ⟨640 + l.val, by omega⟩ := cv_0 HP r l

/-- The values of group 0 from column 896 on, transposed. -/
theorem vs0_0 (HP : Heads A R P) (d : Fin 64) (r : Fin 256) :
    k0_pay42 (F := Ideal) (k0_pay33 P) (ix5 0 0 0 d r) = value A 896 (by omega) (R r) 0 d := by
  pointwise [k0_pay42, k0_pay51, k0_pay43, k0_pay44, k0_pay52, k0_pay33, k0_pay34]
  refine (HP.col r ⟨896 + d.val, by omega⟩ (by simp only; omega)).trans (congrArg _ (Fin.ext ?_))
  simp only <;> omega

/-- The same in sub-block 1. -/
theorem vs0_1 (HP : Heads A R P) (d : Fin 64) (r : Fin 256) :
    k0_pay99 (F := Ideal) (k0_pay90 P) (ix5 0 0 0 d r) = value A 896 (by omega) (R r) 0 d := vs0_0 HP d r

/-- The same in sub-block 2. -/
theorem vs0_2 (HP : Heads A R P) (d : Fin 64) (r : Fin 256) :
    k0_pay154 (F := Ideal) (k0_pay145 P) (ix5 0 0 0 d r) = value A 896 (by omega) (R r) 0 d := vs0_0 HP d r

/-- The same in sub-block 3. -/
theorem vs0_3 (HP : Heads A R P) (d : Fin 64) (r : Fin 256) :
    k0_pay209 (F := Ideal) (k0_pay208 (k0_pay199 P)) (ix5 0 0 0 d r) = value A 896 (by omega) (R r) 0 d := vs0_0 HP d r

/-- The values of group 1 from column 896 on, transposed. -/
theorem vs1_0 (HP : Heads A R P) (d : Fin 64) (r : Fin 256) :
    k0_pay51 (F := Ideal) (k0_pay33 P) (ix5 0 0 0 d r) = value A 896 (by omega) (R r) 1 d := by
  pointwise [k0_pay42, k0_pay51, k0_pay43, k0_pay44, k0_pay52, k0_pay33, k0_pay34]
  refine (HP.col r ⟨896 + (64 + d.val), by omega⟩ (by simp only; omega)).trans (congrArg _ (Fin.ext ?_))
  simp only <;> omega

/-- The same in sub-block 1. -/
theorem vs1_1 (HP : Heads A R P) (d : Fin 64) (r : Fin 256) :
    k0_pay106 (F := Ideal) (k0_pay90 P) (ix5 0 0 0 d r) = value A 896 (by omega) (R r) 1 d := vs1_0 HP d r

/-- The same in sub-block 2. -/
theorem vs1_2 (HP : Heads A R P) (d : Fin 64) (r : Fin 256) :
    k0_pay160 (F := Ideal) (k0_pay145 P) (ix5 0 0 0 d r) = value A 896 (by omega) (R r) 1 d := vs1_0 HP d r

/-- The same in sub-block 3. -/
theorem vs1_3 (HP : Heads A R P) (d : Fin 64) (r : Fin 256) :
    k0_pay215 (F := Ideal) (k0_pay199 P) (ix5 0 0 0 d r) = value A 896 (by omega) (R r) 1 d := vs1_0 HP d r

/-- The values of group 0 from column 1152 on, transposed. -/
theorem vw0_0 (HP : Heads A R P) (d : Fin 64) (r : Fin 256) :
    k0_pay44 (F := Ideal) (k0_pay43 (k0_pay34 P)) (ix5 0 0 0 d r) = value A 1152 (by omega) (R r) 0 d := by
  pointwise [k0_pay42, k0_pay51, k0_pay43, k0_pay44, k0_pay52, k0_pay33, k0_pay34]
  refine (HP.col r ⟨1152 + d.val, by omega⟩ (by simp only; omega)).trans (congrArg _ (Fin.ext ?_))
  simp only <;> omega

/-- The same in sub-block 1. -/
theorem vw0_1 (HP : Heads A R P) (d : Fin 64) (r : Fin 256) :
    k0_pay101 (F := Ideal) (k0_pay100 (k0_pay91 P)) (ix5 0 0 0 d r) = value A 1152 (by omega) (R r) 0 d := vw0_0 HP d r

/-- The same in sub-block 2. -/
theorem vw0_2 (HP : Heads A R P) (d : Fin 64) (r : Fin 256) :
    k0_pay155 (F := Ideal) (k0_pay146 P) (ix5 0 0 0 d r) = value A 1152 (by omega) (R r) 0 d := vw0_0 HP d r

/-- The same in sub-block 3. -/
theorem vw0_3 (HP : Heads A R P) (d : Fin 64) (r : Fin 256) :
    k0_pay210 (F := Ideal) (k0_pay200 P) (ix5 0 0 0 d r) = value A 1152 (by omega) (R r) 0 d := vw0_0 HP d r

/-- The values of group 1 from column 1152 on, transposed. -/
theorem vw1_0 (HP : Heads A R P) (d : Fin 64) (r : Fin 256) :
    k0_pay52 (F := Ideal) (k0_pay34 P) (ix5 0 0 0 d r) = value A 1152 (by omega) (R r) 1 d := by
  pointwise [k0_pay42, k0_pay51, k0_pay43, k0_pay44, k0_pay52, k0_pay33, k0_pay34]
  refine (HP.col r ⟨1152 + (64 + d.val), by omega⟩ (by simp only; omega)).trans (congrArg _ (Fin.ext ?_))
  simp only <;> omega

/-- The same in sub-block 1. -/
theorem vw1_1 (HP : Heads A R P) (d : Fin 64) (r : Fin 256) :
    k0_pay107 (F := Ideal) (k0_pay91 P) (ix5 0 0 0 d r) = value A 1152 (by omega) (R r) 1 d := vw1_0 HP d r

/-- The same in sub-block 2. -/
theorem vw1_2 (HP : Heads A R P) (d : Fin 64) (r : Fin 256) :
    k0_pay161 (F := Ideal) (k0_pay146 P) (ix5 0 0 0 d r) = value A 1152 (by omega) (R r) 1 d := vw1_0 HP d r

/-- The same in sub-block 3. -/
theorem vw1_3 (HP : Heads A R P) (d : Fin 64) (r : Fin 256) :
    k0_pay216 (F := Ideal) (k0_pay200 P) (ix5 0 0 0 d r) = value A 1152 (by omega) (R r) 1 d := vw1_0 HP d r

/-- The branch gates of group 0, transposed. -/
theorem gate0_0 (HP : Heads A R P) (l : Fin 16) (r : Fin 256) :
    k0_pay45 (F := Ideal) (k0_pay35 P) (ix4 0 0 l r) = Ideal.logistic (logit A (R r) 0 l) := by
  rw [← HP.gate r 0 l]
  pointwise [k0_pay45, k0_pay35, Ideal.logistic]

/-- The same in sub-block 1. -/
theorem gate0_1 (HP : Heads A R P) (l : Fin 16) (r : Fin 256) :
    k0_pay102 (F := Ideal) (k0_pay92 P) (ix4 0 0 l r) = Ideal.logistic (logit A (R r) 0 l) := gate0_0 HP l r

/-- The same in sub-block 2. -/
theorem gate0_2 (HP : Heads A R P) (l : Fin 16) (r : Fin 256) :
    k0_pay156 (F := Ideal) (k0_pay147 P) (ix4 0 0 l r) = Ideal.logistic (logit A (R r) 0 l) := gate0_0 HP l r

/-- The same in sub-block 3. -/
theorem gate0_3 (HP : Heads A R P) (l : Fin 16) (r : Fin 256) :
    k0_pay211 (F := Ideal) (k0_pay201 P) (ix4 0 0 l r) = Ideal.logistic (logit A (R r) 0 l) := gate0_0 HP l r

/-- The branch gates of group 1, transposed. -/
theorem gate1_0 (HP : Heads A R P) (l : Fin 16) (r : Fin 256) :
    k0_pay53 (F := Ideal) (k0_pay35 P) (ix4 0 0 l r) = Ideal.logistic (logit A (R r) 1 l) := by
  rw [← HP.gate r 1 l]
  pointwise [k0_pay53, k0_pay35, Ideal.logistic]

/-- The same in sub-block 1. -/
theorem gate1_1 (HP : Heads A R P) (l : Fin 16) (r : Fin 256) :
    k0_pay108 (F := Ideal) (k0_pay92 P) (ix4 0 0 l r) = Ideal.logistic (logit A (R r) 1 l) := gate1_0 HP l r

/-- The same in sub-block 2. -/
theorem gate1_2 (HP : Heads A R P) (l : Fin 16) (r : Fin 256) :
    k0_pay162 (F := Ideal) (k0_pay147 P) (ix4 0 0 l r) = Ideal.logistic (logit A (R r) 1 l) := gate1_0 HP l r

/-- The same in sub-block 3. -/
theorem gate1_3 (HP : Heads A R P) (l : Fin 16) (r : Fin 256) :
    k0_pay217 (F := Ideal) (k0_pay201 P) (ix4 0 0 l r) = Ideal.logistic (logit A (R r) 1 l) := gate1_0 HP l r

/-- The gate of the attention branch, from the loaded columns. -/
theorem sga_0 {X : FVec Ideal S256x1024 .bf16} (hX : ∀ r l, X (ix2 r l) = xn A (R r) l)
    {w : FVec Ideal S1024x1024 .bf16} (hw : ∀ k (j : Fin 1024), w (ix2 k j) = A.w (ix3 0 k ⟨4376 + j.val, by omega⟩))
    (r : Fin 256) (l : Fin 1024) : k0_pay58 (F := Ideal) X w (ix2 r l) = sga A (R r) l := by
  have ht := tail_apply (o := 4376) (ho := by omega) hX hw
  unfold k0_pay58
  generalize matmul dot_S256x1024_S1024x1024_S256x1024_1_0_0_1_n_n none X _ _ = T at ht ⊢
  pointwise []
  simp only [ht, sga, Ideal.logistic]

/-- The same in sub-block 1. -/
theorem sga_1 {X : FVec Ideal S256x1024 .bf16} (hX : ∀ r l, X (ix2 r l) = xn A (R r) l)
    {w : FVec Ideal S1024x1024 .bf16} (hw : ∀ k (j : Fin 1024), w (ix2 k j) = A.w (ix3 0 k ⟨4376 + j.val, by omega⟩))
    (r : Fin 256) (l : Fin 1024) : k0_pay113 (F := Ideal) X w (ix2 r l) = sga A (R r) l := sga_0 hX hw r l

/-- The same in sub-block 2. -/
theorem sga_2 {X : FVec Ideal S256x1024 .bf16} (hX : ∀ r l, X (ix2 r l) = xn A (R r) l)
    {w : FVec Ideal S1024x1024 .bf16} (hw : ∀ k (j : Fin 1024), w (ix2 k j) = A.w (ix3 0 k ⟨4376 + j.val, by omega⟩))
    (r : Fin 256) (l : Fin 1024) : k0_pay166 (F := Ideal) X w (ix2 r l) = sga A (R r) l := sga_0 hX hw r l

/-- The same in sub-block 3. -/
theorem sga_3 {X : FVec Ideal S256x1024 .bf16} (hX : ∀ r l, X (ix2 r l) = xn A (R r) l)
    {w : FVec Ideal S1024x1024 .bf16} (hw : ∀ k (j : Fin 1024), w (ix2 k j) = A.w (ix3 0 k ⟨4376 + j.val, by omega⟩))
    (r : Fin 256) (l : Fin 1024) : k0_pay223 (F := Ideal) X w (ix2 r l) = sga A (R r) l := sga_0 hX hw r l

end

end Cert.ProjIdeal.Block

end
-- ==== Proof.ProjAt.lean ====
/- The head columns of a sub-block, and equal places in the outputs. -/
module

public import proofs.«01_k».proof.Proof.ProjReads
public import proofs.«01_k».proof.Proof.ProjHeads
public import proofs.«01_k».proof.Proof.ProjKeys
public import proofs.«01_k».proof.Proof.ProjVals

@[expose] public section

set_option maxRecDepth 16384

noncomputable section

namespace Cert.ProjIdeal.Final

open Idealize.ShloMosaic Idealize.ShloMosaic.TcCoe Idealize.SL.Sem
open Cert.ProjIdeal Cert.ProjIdeal.Gen
open Cert.ProjIdeal.Block
open Cert.ProjMath

variable (m : (ℓ : Loc nD τ sig) → Buf (Elt Ideal) ℓ)

section
variable {A : Args} {ρ : Fin 1024 → Fin 32768}
variable {y0 : FVec Ideal S1024x1024 .f32} {y1 : FVec Ideal S1x1024 .f32} {y2 : FVec Ideal S1024x1408 .bf16}
  {y3 : FVec Ideal S1024x5120 .bf16} {y4 : FVec Ideal S1024x1024 .bf16} {y5 : FVec Ideal S64x1 .f32}
  {y6 : FVec Ideal S3x128 .f32} {y7 : FVec Ideal S3x1024 .f32}

/-- The head columns of the sub-block from row `o` on. -/
theorem headsAt (H : Reads A ρ y0 y1 y2 y3 y4 y5 y6 y7) (o : ℕ) (ho : o + 256 ≤ 1024)
    (inb : ∀ d : Fin 2, (![o, 0] : Fin 2 → ℕ) d + S256x1024.size d ≤ S1024x1024.size d) :
    Heads A (sub ρ o ho) (k0_pay4 (F := Ideal)
      (View.ld (Val := Elt Ideal) (e' := .f32) y0 (Rect.unit (s := S1024x1024) ![o, 0] S256x1024.size inb)) y1 y2) :=
  heads (fun r l => (ld_row y0 o ho inb r l).trans (H.h0 _ l)) H
end

/-- Equal places hold equal entries of the queries. -/
theorem query_eq (A : Args) {R R' : Fin 32768} {n n' : Fin 8} {d d' : Fin 64} (e : R.val = R'.val) (e1 : n.val = n'.val)
    (e2 : d.val = d'.val) : query A R n d = query A R' n' d' := by
  obtain rfl := Fin.ext e; obtain rfl := Fin.ext e1; obtain rfl := Fin.ext e2; rfl

/-- Equal places hold equal entries of the projection. -/
theorem proj_eq (A : Args) {R R' : Fin 32768} {n n' : Fin 6424} (e : R.val = R'.val) (e1 : n.val = n'.val) :
    proj A R n = proj A R' n' := by
  obtain rfl := Fin.ext e; obtain rfl := Fin.ext e1; rfl

/-- Equal places hold equal entries of the keys. -/
theorem keyLane_eq (A : Args) {o : ℕ} {ho : o + 128 ≤ 6424} {j : Fin 3} {R R' : Fin 32768} {n n' : Fin 2} {d d' : Fin 128}
    (e : R.val = R'.val) (e1 : n.val = n'.val) (e2 : d.val = d'.val) :
    keyLane A o ho j R n d = keyLane A o ho j R' n' d' := by
  obtain rfl := Fin.ext e; obtain rfl := Fin.ext e1; obtain rfl := Fin.ext e2; rfl

/-- Equal places hold equal entries of the values. -/
theorem value_eq (A : Args) {o : ℕ} {ho : o + 128 ≤ 6424} {R R' : Fin 32768} {n n' : Fin 2} {d d' : Fin 64}
    (e : R.val = R'.val) (e1 : n.val = n'.val) (e2 : d.val = d'.val) : value A o ho R n d = value A o ho R' n' d' := by
  obtain rfl := Fin.ext e; obtain rfl := Fin.ext e1; obtain rfl := Fin.ext e2; rfl

/-- Equal places hold equal entries of the branch gates. -/
theorem gate_eq (A : Args) {R R' : Fin 32768} {n n' : Fin 2} {d d' : Fin 16} (e : R.val = R'.val) (e1 : n.val = n'.val)
    (e2 : d.val = d'.val) : Ideal.logistic (logit A R n d) = Ideal.logistic (logit A R' n' d') := by
  obtain rfl := Fin.ext e; obtain rfl := Fin.ext e1; obtain rfl := Fin.ext e2; rfl

/-- Equal places hold equal entries of the attention gate. -/
theorem sga_eq (A : Args) {R R' : Fin 32768} {n n' : Fin 1024} (e : R.val = R'.val) (e1 : n.val = n'.val) :
    sga A R n = sga A R' n' := by
  obtain rfl := Fin.ext e; obtain rfl := Fin.ext e1; rfl

/-- The position in the sequence of a row of the block. -/
theorem row_pos (t : Fin cfg0.N) (o : ℕ) (ho : o + 256 ≤ 1024) (r : Fin 256) :
    (sub (row t) o ho r).val % 4096 = t.val % 4 * 1024 + o + r.val := by
  simp only [sub, row]; omega

end Cert.ProjIdeal.Final

end
-- ==== Proof.ProjCols.lean ====
/- The column arrays of the projection. -/
module

public import proofs.«01_k».proof.Proof.ProjAt

@[expose] public section

set_option maxRecDepth 16384

noncomputable section

namespace Cert.ProjIdeal.Final

open Idealize.ShloMosaic Idealize.ShloMosaic.TcCoe Idealize.SL.Sem
open Cert.ProjIdeal Cert.ProjIdeal.Gen
open Cert.ProjIdeal.Block
open Cert.ProjMath

variable (m : (ℓ : Loc nD τ sig) → Buf (Elt Ideal) ℓ)

set_option maxHeartbeats 4000000 in
/-- The compressed keys' columns. -/
theorem final9 (c : Dev nD) : (dats m 0 c).arrAt 9 cfg0.N = colArr (args m c) 512 (by omega) := by
  refine (dats m 0 c).arrAt_eq_of_covers 9 _ (by decide +kernel) fun t _ y => ?_
  blk_simp
  have H := reads m c t
  obtain ⟨p0, p1, p2, p3⟩ := pos t
  have ht := lt_N t
  rw [after0_9]
  by_cases q0 : t.val % 4 = 0
  · rw [outsAt0_A m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · refine (ck_3 (headsAt H 768 (by omega) _) w0 w1).trans
        (proj_eq _ ?_ ?_)
      all_goals ((try simp only [sub, row, tok, tilePos]); blk_simp [idx_out t]; try omega)
    · refine (ck_2 (headsAt H 512 (by omega) _) w0 w1).trans
        (proj_eq _ ?_ ?_)
      all_goals ((try simp only [sub, row, tok, tilePos]); blk_simp [idx_out t]; try omega)
    · refine (ck_1 (headsAt H 256 (by omega) _) w0 w1).trans
        (proj_eq _ ?_ ?_)
      all_goals ((try simp only [sub, row, tok, tilePos]); blk_simp [idx_out t]; try omega)
    · refine (ck_0 (headsAt H 0 (by omega) _) w0 w1).trans
        (proj_eq _ ?_ ?_)
      all_goals ((try simp only [sub, row, tok, tilePos]); blk_simp [idx_out t]; try omega)
  · rw [outsAt0_B m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · refine (ck_3 (headsAt H 768 (by omega) _) w0 w1).trans
        (proj_eq _ ?_ ?_)
      all_goals ((try simp only [sub, row, tok, tilePos]); blk_simp [idx_out t]; try omega)
    · refine (ck_2 (headsAt H 512 (by omega) _) w0 w1).trans
        (proj_eq _ ?_ ?_)
      all_goals ((try simp only [sub, row, tok, tilePos]); blk_simp [idx_out t]; try omega)
    · refine (ck_1 (headsAt H 256 (by omega) _) w0 w1).trans
        (proj_eq _ ?_ ?_)
      all_goals ((try simp only [sub, row, tok, tilePos]); blk_simp [idx_out t]; try omega)
    · refine (ck_0 (headsAt H 0 (by omega) _) w0 w1).trans
        (proj_eq _ ?_ ?_)
      all_goals ((try simp only [sub, row, tok, tilePos]); blk_simp [idx_out t]; try omega)

set_option maxHeartbeats 4000000 in
/-- The compressed values' columns. -/
theorem final10 (c : Dev nD) : (dats m 0 c).arrAt 10 cfg0.N = colArr (args m c) 640 (by omega) := by
  refine (dats m 0 c).arrAt_eq_of_covers 10 _ (by decide +kernel) fun t _ y => ?_
  blk_simp
  have H := reads m c t
  obtain ⟨p0, p1, p2, p3⟩ := pos t
  have ht := lt_N t
  rw [after0_10]
  by_cases q0 : t.val % 4 = 0
  · rw [outsAt0_A m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · refine (cv_3 (headsAt H 768 (by omega) _) w0 w1).trans
        (proj_eq _ ?_ ?_)
      all_goals ((try simp only [sub, row, tok, tilePos]); blk_simp [idx_out t]; try omega)
    · refine (cv_2 (headsAt H 512 (by omega) _) w0 w1).trans
        (proj_eq _ ?_ ?_)
      all_goals ((try simp only [sub, row, tok, tilePos]); blk_simp [idx_out t]; try omega)
    · refine (cv_1 (headsAt H 256 (by omega) _) w0 w1).trans
        (proj_eq _ ?_ ?_)
      all_goals ((try simp only [sub, row, tok, tilePos]); blk_simp [idx_out t]; try omega)
    · refine (cv_0 (headsAt H 0 (by omega) _) w0 w1).trans
        (proj_eq _ ?_ ?_)
      all_goals ((try simp only [sub, row, tok, tilePos]); blk_simp [idx_out t]; try omega)
  · rw [outsAt0_B m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · refine (cv_3 (headsAt H 768 (by omega) _) w0 w1).trans
        (proj_eq _ ?_ ?_)
      all_goals ((try simp only [sub, row, tok, tilePos]); blk_simp [idx_out t]; try omega)
    · refine (cv_2 (headsAt H 512 (by omega) _) w0 w1).trans
        (proj_eq _ ?_ ?_)
      all_goals ((try simp only [sub, row, tok, tilePos]); blk_simp [idx_out t]; try omega)
    · refine (cv_1 (headsAt H 256 (by omega) _) w0 w1).trans
        (proj_eq _ ?_ ?_)
      all_goals ((try simp only [sub, row, tok, tilePos]); blk_simp [idx_out t]; try omega)
    · refine (cv_0 (headsAt H 0 (by omega) _) w0 w1).trans
        (proj_eq _ ?_ ?_)
      all_goals ((try simp only [sub, row, tok, tilePos]); blk_simp [idx_out t]; try omega)

set_option maxHeartbeats 4000000 in
/-- The gate of the attention branch. -/
theorem final16 (c : Dev nD) : (dats m 0 c).arrAt 16 cfg0.N = sgaArr (args m c) := by
  refine (dats m 0 c).arrAt_eq_of_covers 16 _ (by decide +kernel) fun t _ y => ?_
  blk_simp
  have H := reads m c t
  obtain ⟨p0, p1, p2, p3⟩ := pos t
  have ht := lt_N t
  rw [after0_16]
  by_cases q0 : t.val % 4 = 0
  · rw [outsAt0_A m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · refine (sga_3 (xn_apply (fun r l => (ld_row x0 768 (by omega) _ r l).trans (H.h0 _ l)) H.h1)
      (fun k j => (ld_col x3 3072 (by omega) _ k j).trans ((H.h3 k _).trans
        (congrArg _ (congrArg (ix3 0 k) (Fin.ext (by change 1304 + (3072 + j.val) = 4376 + j.val; omega)))))) w0 w1).trans
        (sga_eq _ ?_ ?_)
      all_goals ((try simp only [sub, row, tok, tilePos]); blk_simp [idx_out t]; try omega)
    · refine (sga_2 (xn_apply (fun r l => (ld_row x0 512 (by omega) _ r l).trans (H.h0 _ l)) H.h1)
      (fun k j => (ld_col x3 3072 (by omega) _ k j).trans ((H.h3 k _).trans
        (congrArg _ (congrArg (ix3 0 k) (Fin.ext (by change 1304 + (3072 + j.val) = 4376 + j.val; omega)))))) w0 w1).trans
        (sga_eq _ ?_ ?_)
      all_goals ((try simp only [sub, row, tok, tilePos]); blk_simp [idx_out t]; try omega)
    · refine (sga_1 (xn_apply (fun r l => (ld_row x0 256 (by omega) _ r l).trans (H.h0 _ l)) H.h1)
      (fun k j => (ld_col x3 3072 (by omega) _ k j).trans ((H.h3 k _).trans
        (congrArg _ (congrArg (ix3 0 k) (Fin.ext (by change 1304 + (3072 + j.val) = 4376 + j.val; omega)))))) w0 w1).trans
        (sga_eq _ ?_ ?_)
      all_goals ((try simp only [sub, row, tok, tilePos]); blk_simp [idx_out t]; try omega)
    · refine (sga_0 (xn_apply (fun r l => (ld_row x0 0 (by omega) _ r l).trans (H.h0 _ l)) H.h1)
      (fun k j => (ld_col x3 3072 (by omega) _ k j).trans ((H.h3 k _).trans
        (congrArg _ (congrArg (ix3 0 k) (Fin.ext (by change 1304 + (3072 + j.val) = 4376 + j.val; omega)))))) w0 w1).trans
        (sga_eq _ ?_ ?_)
      all_goals ((try simp only [sub, row, tok, tilePos]); blk_simp [idx_out t]; try omega)
  · rw [outsAt0_B m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · refine (sga_3 (xn_apply (fun r l => (ld_row x0 768 (by omega) _ r l).trans (H.h0 _ l)) H.h1)
      (fun k j => (ld_col x3 3072 (by omega) _ k j).trans ((H.h3 k _).trans
        (congrArg _ (congrArg (ix3 0 k) (Fin.ext (by change 1304 + (3072 + j.val) = 4376 + j.val; omega)))))) w0 w1).trans
        (sga_eq _ ?_ ?_)
      all_goals ((try simp only [sub, row, tok, tilePos]); blk_simp [idx_out t]; try omega)
    · refine (sga_2 (xn_apply (fun r l => (ld_row x0 512 (by omega) _ r l).trans (H.h0 _ l)) H.h1)
      (fun k j => (ld_col x3 3072 (by omega) _ k j).trans ((H.h3 k _).trans
        (congrArg _ (congrArg (ix3 0 k) (Fin.ext (by change 1304 + (3072 + j.val) = 4376 + j.val; omega)))))) w0 w1).trans
        (sga_eq _ ?_ ?_)
      all_goals ((try simp only [sub, row, tok, tilePos]); blk_simp [idx_out t]; try omega)
    · refine (sga_1 (xn_apply (fun r l => (ld_row x0 256 (by omega) _ r l).trans (H.h0 _ l)) H.h1)
      (fun k j => (ld_col x3 3072 (by omega) _ k j).trans ((H.h3 k _).trans
        (congrArg _ (congrArg (ix3 0 k) (Fin.ext (by change 1304 + (3072 + j.val) = 4376 + j.val; omega)))))) w0 w1).trans
        (sga_eq _ ?_ ?_)
      all_goals ((try simp only [sub, row, tok, tilePos]); blk_simp [idx_out t]; try omega)
    · refine (sga_0 (xn_apply (fun r l => (ld_row x0 0 (by omega) _ r l).trans (H.h0 _ l)) H.h1)
      (fun k j => (ld_col x3 3072 (by omega) _ k j).trans ((H.h3 k _).trans
        (congrArg _ (congrArg (ix3 0 k) (Fin.ext (by change 1304 + (3072 + j.val) = 4376 + j.val; omega)))))) w0 w1).trans
        (sga_eq _ ?_ ?_)
      all_goals ((try simp only [sub, row, tok, tilePos]); blk_simp [idx_out t]; try omega)

end Cert.ProjIdeal.Final

end
-- ==== Proof.ProjQuery.lean ====
/- The array of the queries. -/
module

public import proofs.«01_k».proof.Proof.ProjAt

@[expose] public section

set_option maxRecDepth 16384

noncomputable section

namespace Cert.ProjIdeal.Final

open Idealize.ShloMosaic Idealize.ShloMosaic.TcCoe Idealize.SL.Sem
open Cert.ProjIdeal Cert.ProjIdeal.Gen
open Cert.ProjIdeal.Block
open Cert.ProjMath

variable (m : (ℓ : Loc nD τ sig) → Buf (Elt Ideal) ℓ)

set_option maxHeartbeats 4000000 in
/-- The queries. -/
theorem final8 (c : Dev nD) : (dats m 0 c).arrAt 8 cfg0.N = qArr (args m c) := by
  refine (dats m 0 c).arrAt_eq_of_covers 8 _ (by decide +kernel) fun t _ y => ?_
  blk_simp
  have H := reads m c t
  obtain ⟨p0, p1, p2, p3⟩ := pos t
  have ht := lt_N t
  rw [after0_8]
  by_cases q0 : t.val % 4 = 0
  · rw [outsAt0_A m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · obtain rfl : w0 = 0 := Subsingleton.elim _ _; obtain rfl : w1 = 0 := Subsingleton.elim _ _
      refine (q3_7 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_6 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_5 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_4 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_3 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_2 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_1 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_0 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_7 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_6 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_5 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_4 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_3 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_2 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_1 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_0 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_7 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_6 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_5 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_4 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_3 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_2 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_1 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_0 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_7 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_6 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_5 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_4 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_3 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_2 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_1 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_0 (headsAt H 0 (by omega) _) H.h5 w2 w3).trans
        (query_eq _ ?_ ?_ ?_)
      all_goals ((try simp only [sub, row, tok, tilePos]); blk_simp [idx_out t]; try omega)
  · rw [outsAt0_B m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · obtain rfl : w0 = 0 := Subsingleton.elim _ _; obtain rfl : w1 = 0 := Subsingleton.elim _ _
      refine (q3_7 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_6 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_5 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_4 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_3 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_2 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_1 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q3_0 (headsAt H 768 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_7 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_6 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_5 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_4 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_3 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_2 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_1 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q2_0 (headsAt H 512 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_7 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_6 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_5 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_4 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_3 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_2 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_1 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q1_0 (headsAt H 256 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_7 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_6 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_5 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_4 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_3 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_2 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_1 (headsAt H 0 (by omega) _) H.h5 w2 w3).trans
        (query_eq _ ?_ ?_ ?_)
      all_goals ((try simp only [sub, row, tok, tilePos]); blk_simp [idx_out t]; try omega)
    · obtain rfl : w0 = 0 := Subsingleton.elim _ _; obtain rfl : w1 = 0 := Subsingleton.elim _ _
      refine (q0_0 (headsAt H 0 (by omega) _) H.h5 w2 w3).trans
        (query_eq _ ?_ ?_ ?_)
      all_goals ((try simp only [sub, row, tok, tilePos]); blk_simp [idx_out t]; try omega)

end Cert.ProjIdeal.Final

end
-- ==== Proof.ProjKeyArr.lean ====
/- The arrays of the keys. -/
module

public import proofs.«01_k».proof.Proof.ProjAt

@[expose] public section

set_option maxRecDepth 16384

noncomputable section

namespace Cert.ProjIdeal.Final

open Idealize.ShloMosaic Idealize.ShloMosaic.TcCoe Idealize.SL.Sem
open Cert.ProjIdeal Cert.ProjIdeal.Gen
open Cert.ProjIdeal.Block
open Cert.ProjMath

variable (m : (ℓ : Loc nD τ sig) → Buf (Elt Ideal) ℓ)

set_option maxHeartbeats 4000000 in
/-- The keys of the selection. -/
theorem final11 (c : Dev nD) : (dats m 0 c).arrAt 11 cfg0.N = keyArr (args m c) 768 (by omega) 1 := by
  refine (dats m 0 c).arrAt_eq_of_covers 11 _ (by decide +kernel) fun t _ y => ?_
  blk_simp
  have H := reads m c t
  obtain ⟨p0, p1, p2, p3⟩ := pos t
  have ht := lt_N t
  rw [after0_11]
  by_cases q0 : t.val % 4 = 0
  · rw [outsAt0_A m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · rw [p3]; obtain rfl : w0 = 0 := Subsingleton.elim _ _; obtain rfl : w1 = 0 := Subsingleton.elim _ _
      refine (ks1_3 (headsAt H 768 (by omega) _) (t.val % 4 * 1024 + 768) (by omega) (row_pos t 768 (by omega))
      (fun l => (ld_gain x6 1 _ l).trans (H.h6 1 l)) w2 w3).trans
        (keyLane_eq _ ?_ ?_ ?_)
      all_goals ((try simp only [sub, row, tok, tilePos]); blk_simp [idx_out t]; try omega)
    · rw [p3]; obtain rfl : w0 = 0 := Subsingleton.elim _ _; obtain rfl : w1 = 0 := Subsingleton.elim _ _
      refine (ks0_3 (headsAt H 768 (by omega) _) (t.val % 4 * 1024 + 768) (by omega) (row_pos t 768 (by omega))
      (fun l => (ld_gain x6 1 _ l).trans (H.h6 1 l)) w2 w3).trans
        (keyLane_eq _ ?_ ?_ ?_)
      all_goals ((try simp only [sub, row, tok, tilePos]); blk_simp [idx_out t]; try omega)
    · rw [p2]; obtain rfl : w0 = 0 := Subsingleton.elim _ _; obtain rfl : w1 = 0 := Subsingleton.elim _ _
      refine (ks1_2 (headsAt H 512 (by omega) _) (t.val % 4 * 1024 + 512) (by omega) (row_pos t 512 (by omega))
      (fun l => (ld_gain x6 1 _ l).trans (H.h6 1 l)) w2 w3).trans
        (keyLane_eq _ ?_ ?_ ?_)
      all_goals ((try simp only [sub, row, tok, tilePos]); blk_simp [idx_out t]; try omega)
    · rw [p2]; obtain rfl : w0 = 0 := Subsingleton.elim _ _; obtain rfl : w1 = 0 := Subsingleton.elim _ _
      refine (ks0_2 (headsAt H 512 (by omega) _) (t.val % 4 * 1024 + 512) (by omega) (row_pos t 512 (by omega))
      (fun l => (ld_gain x6 1 _ l).trans (H.h6 1 l)) w2 w3).trans
        (keyLane_eq _ ?_ ?_ ?_)
      all_goals ((try simp only [sub, row, tok, tilePos]); blk_simp [idx_out t]; try omega)
    · rw [p1]; obtain rfl : w0 = 0 := Subsingleton.elim _ _; obtain rfl : w1 = 0 := Subsingleton.elim _ _
      refine (ks1_1 (headsAt H 256 (by omega) _) (t.val % 4 * 1024 + 256) (by omega) (row_pos t 256 (by omega))
      (fun l => (ld_gain x6 1 _ l).trans (H.h6 1 l)) w2 w3).trans
        (keyLane_eq _ ?_ ?_ ?_)
      all_goals ((try simp only [sub, row, tok, tilePos]); blk_simp [idx_out t]; try omega)
    · rw [p1]; obtain rfl : w0 = 0 := Subsingleton.elim _ _; obtain rfl : w1 = 0 := Subsingleton.elim _ _
      refine (ks0_1 (headsAt H 256 (by omega) _) (t.val % 4 * 1024 + 256) (by omega) (row_pos t 256 (by omega))
      (fun l => (ld_gain x6 1 _ l).trans (H.h6 1 l)) w2 w3).trans
        (keyLane_eq _ ?_ ?_ ?_)
      all_goals ((try simp only [sub, row, tok, tilePos]); blk_simp [idx_out t]; try omega)
    · rw [p0]; obtain rfl : w0 = 0 := Subsingleton.elim _ _; obtain rfl : w1 = 0 := Subsingleton.elim _ _
      refine (ks1_0 (headsAt H 0 (by omega) _) (t.val % 4 * 1024 + 0) (by omega) (row_pos t 0 (by omega))
      (fun l => (ld_gain x6 1 _ l).trans (H.h6 1 l)) w2 w3).trans
        (keyLane_eq _ ?_ ?_ ?_)
      all_goals ((try simp only [sub, row, tok, tilePos]); blk_simp [idx_out t]; try omega)
    · rw [p0]; obtain rfl : w0 = 0 := Subsingleton.elim _ _; obtain rfl : w1 = 0 := Subsingleton.elim _ _
      refine (ks0_0 (headsAt H 0 (by omega) _) (t.val % 4 * 1024 + 0) (by omega) (row_pos t 0 (by omega))
      (fun l => (ld_gain x6 1 _ l).trans (H.h6 1 l)) w2 w3).trans
        (keyLane_eq _ ?_ ?_ ?_)
      all_goals ((try simp only [sub, row, tok, tilePos]); blk_simp [idx_out t]; try omega)
  · rw [outsAt0_B m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · rw [p3]; obtain rfl : w0 = 0 := Subsingleton.elim _ _; obtain rfl : w1 = 0 := Subsingleton.elim _ _
      refine (ks1_3 (headsAt H 768 (by omega) _) (t.val % 4 * 1024 + 768) (by omega) (row_pos t 768 (by omega))
      (fun l => (ld_gain x6 1 _ l).trans (H.h6 1 l)) w2 w3).trans
        (keyLane_eq _ ?_ ?_ ?_)
      all_goals ((try simp only [sub, row, tok, tilePos]); blk_simp [idx_out t]; try omega)
    · rw [p3]; obtain rfl : w0 = 0 := Subsingleton.elim _ _; obtain rfl : w1 = 0 := Subsingleton.elim _ _
      refine (ks0_3 (headsAt H 768 (by omega) _) (t.val % 4 * 1024 + 768) (by omega) (row_pos t 768 (by omega))
      (fun l => (ld_gain x6 1 _ l).trans (H.h6 1 l)) w2 w3).trans
        (keyLane_eq _ ?_ ?_ ?_)
      all_goals ((try simp only [sub, row, tok, tilePos]); blk_simp [idx_out t]; try omega)
    · rw [p2]; obtain rfl : w0 = 0 := Subsingleton.elim _ _; obtain rfl : w1 = 0 := Subsingleton.elim _ _
      refine (ks1_2 (headsAt H 512 (by omega) _) (t.val % 4 * 1024 + 512) (by omega) (row_pos t 512 (by omega))
      (fun l => (ld_gain x6 1 _ l).trans (H.h6 1 l)) w2 w3).trans
        (keyLane_eq _ ?_ ?_ ?_)
      all_goals ((try simp only [sub, row, tok, tilePos]); blk_simp [idx_out t]; try omega)
    · rw [p2]; obtain rfl : w0 = 0 := Subsingleton.elim _ _; obtain rfl : w1 = 0 := Subsingleton.elim _ _
      refine (ks0_2 (headsAt H 512 (by omega) _) (t.val % 4 * 1024 + 512) (by omega) (row_pos t 512 (by omega))
      (fun l => (ld_gain x6 1 _ l).trans (H.h6 1 l)) w2 w3).trans
        (keyLane_eq _ ?_ ?_ ?_)
      all_goals ((try simp only [sub, row, tok, tilePos]); blk_simp [idx_out t]; try omega)
    · rw [p1]; obtain rfl : w0 = 0 := Subsingleton.elim _ _; obtain rfl : w1 = 0 := Subsingleton.elim _ _
      refine (ks1_1 (headsAt H 256 (by omega) _) (t.val % 4 * 1024 + 256) (by omega) (row_pos t 256 (by omega))
      (fun l => (ld_gain x6 1 _ l).trans (H.h6 1 l)) w2 w3).trans
        (keyLane_eq _ ?_ ?_ ?_)
      all_goals ((try simp only [sub, row, tok, tilePos]); blk_simp [idx_out t]; try omega)
    · rw [p1]; obtain rfl : w0 = 0 := Subsingleton.elim _ _; obtain rfl : w1 = 0 := Subsingleton.elim _ _
      refine (ks0_1 (headsAt H 256 (by omega) _) (t.val % 4 * 1024 + 256) (by omega) (row_pos t 256 (by omega))
      (fun l => (ld_gain x6 1 _ l).trans (H.h6 1 l)) w2 w3).trans
        (keyLane_eq _ ?_ ?_ ?_)
      all_goals ((try simp only [sub, row, tok, tilePos]); blk_simp [idx_out t]; try omega)
    · rw [p0]; obtain rfl : w0 = 0 := Subsingleton.elim _ _; obtain rfl : w1 = 0 := Subsingleton.elim _ _
      refine (ks1_0 (headsAt H 0 (by omega) _) (t.val % 4 * 1024 + 0) (by omega) (row_pos t 0 (by omega))
      (fun l => (ld_gain x6 1 _ l).trans (H.h6 1 l)) w2 w3).trans
        (keyLane_eq _ ?_ ?_ ?_)
      all_goals ((try simp only [sub, row, tok, tilePos]); blk_simp [idx_out t]; try omega)
    · rw [p0]; obtain rfl : w0 = 0 := Subsingleton.elim _ _; obtain rfl : w1 = 0 := Subsingleton.elim _ _
      refine (ks0_0 (headsAt H 0 (by omega) _) (t.val % 4 * 1024 + 0) (by omega) (row_pos t 0 (by omega))
      (fun l => (ld_gain x6 1 _ l).trans (H.h6 1 l)) w2 w3).trans
        (keyLane_eq _ ?_ ?_ ?_)
      all_goals ((try simp only [sub, row, tok, tilePos]); blk_simp [idx_out t]; try omega)

set_option maxHeartbeats 4000000 in
/-- The keys of the window. -/
theorem final13 (c : Dev nD) : (dats m 0 c).arrAt 13 cfg0.N = keyArr (args m c) 1024 (by omega) 2 := by
  refine (dats m 0 c).arrAt_eq_of_covers 13 _ (by decide +kernel) fun t _ y => ?_
  blk_simp
  have H := reads m c t
  obtain ⟨p0, p1, p2, p3⟩ := pos t
  have ht := lt_N t
  rw [after0_13]
  by_cases q0 : t.val % 4 = 0
  · rw [outsAt0_A m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · rw [p3]; obtain rfl : w0 = 0 := Subsingleton.elim _ _; obtain rfl : w1 = 0 := Subsingleton.elim _ _
      refine (kw1_3 (headsAt H 768 (by omega) _) (t.val % 4 * 1024 + 768) (by omega) (row_pos t 768 (by omega))
      (fun l => (ld_gain x6 2 _ l).trans (H.h6 2 l)) w2 w3).trans
        (keyLane_eq _ ?_ ?_ ?_)
      all_goals ((try simp only [sub, row, tok, tilePos]); blk_simp [idx_out t]; try omega)
    · rw [p3]; obtain rfl : w0 = 0 := Subsingleton.elim _ _; obtain rfl : w1 = 0 := Subsingleton.elim _ _
      refine (kw0_3 (headsAt H 768 (by omega) _) (t.val % 4 * 1024 + 768) (by omega) (row_pos t 768 (by omega))
      (fun l => (ld_gain x6 2 _ l).trans (H.h6 2 l)) w2 w3).trans
        (keyLane_eq _ ?_ ?_ ?_)
      all_goals ((try simp only [sub, row, tok, tilePos]); blk_simp [idx_out t]; try omega)
    · rw [p2]; obtain rfl : w0 = 0 := Subsingleton.elim _ _; obtain rfl : w1 = 0 := Subsingleton.elim _ _
      refine (kw1_2 (headsAt H 512 (by omega) _) (t.val % 4 * 1024 + 512) (by omega) (row_pos t 512 (by omega))
      (fun l => (ld_gain x6 2 _ l).trans (H.h6 2 l)) w2 w3).trans
        (keyLane_eq _ ?_ ?_ ?_)
      all_goals ((try simp only [sub, row, tok, tilePos]); blk_simp [idx_out t]; try omega)
    · rw [p2]; obtain rfl : w0 = 0 := Subsingleton.elim _ _; obtain rfl : w1 = 0 := Subsingleton.elim _ _
      refine (kw0_2 (headsAt H 512 (by omega) _) (t.val % 4 * 1024 + 512) (by omega) (row_pos t 512 (by omega))
      (fun l => (ld_gain x6 2 _ l).trans (H.h6 2 l)) w2 w3).trans
        (keyLane_eq _ ?_ ?_ ?_)
      all_goals ((try simp only [sub, row, tok, tilePos]); blk_simp [idx_out t]; try omega)
    · rw [p1]; obtain rfl : w0 = 0 := Subsingleton.elim _ _; obtain rfl : w1 = 0 := Subsingleton.elim _ _
      refine (kw1_1 (headsAt H 256 (by omega) _) (t.val % 4 * 1024 + 256) (by omega) (row_pos t 256 (by omega))
      (fun l => (ld_gain x6 2 _ l).trans (H.h6 2 l)) w2 w3).trans
        (keyLane_eq _ ?_ ?_ ?_)
      all_goals ((try simp only [sub, row, tok, tilePos]); blk_simp [idx_out t]; try omega)
    · rw [p1]; obtain rfl : w0 = 0 := Subsingleton.elim _ _; obtain rfl : w1 = 0 := Subsingleton.elim _ _
      refine (kw0_1 (headsAt H 256 (by omega) _) (t.val % 4 * 1024 + 256) (by omega) (row_pos t 256 (by omega))
      (fun l => (ld_gain x6 2 _ l).trans (H.h6 2 l)) w2 w3).trans
        (keyLane_eq _ ?_ ?_ ?_)
      all_goals ((try simp only [sub, row, tok, tilePos]); blk_simp [idx_out t]; try omega)
    · rw [p0]; obtain rfl : w0 = 0 := Subsingleton.elim _ _; obtain rfl : w1 = 0 := Subsingleton.elim _ _
      refine (kw1_0 (headsAt H 0 (by omega) _) (t.val % 4 * 1024 + 0) (by omega) (row_pos t 0 (by omega))
      (fun l => (ld_gain x6 2 _ l).trans (H.h6 2 l)) w2 w3).trans
        (keyLane_eq _ ?_ ?_ ?_)
      all_goals ((try simp only [sub, row, tok, tilePos]); blk_simp [idx_out t]; try omega)
    · rw [p0]; obtain rfl : w0 = 0 := Subsingleton.elim _ _; obtain rfl : w1 = 0 := Subsingleton.elim _ _
      refine (kw0_0 (headsAt H 0 (by omega) _) (t.val % 4 * 1024 + 0) (by omega) (row_pos t 0 (by omega))
      (fun l => (ld_gain x6 2 _ l).trans (H.h6 2 l)) w2 w3).trans
        (keyLane_eq _ ?_ ?_ ?_)
      all_goals ((try simp only [sub, row, tok, tilePos]); blk_simp [idx_out t]; try omega)
  · rw [outsAt0_B m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · rw [p3]; obtain rfl : w0 = 0 := Subsingleton.elim _ _; obtain rfl : w1 = 0 := Subsingleton.elim _ _
      refine (kw1_3 (headsAt H 768 (by omega) _) (t.val % 4 * 1024 + 768) (by omega) (row_pos t 768 (by omega))
      (fun l => (ld_gain x6 2 _ l).trans (H.h6 2 l)) w2 w3).trans
        (keyLane_eq _ ?_ ?_ ?_)
      all_goals ((try simp only [sub, row, tok, tilePos]); blk_simp [idx_out t]; try omega)
    · rw [p3]; obtain rfl : w0 = 0 := Subsingleton.elim _ _; obtain rfl : w1 = 0 := Subsingleton.elim _ _
      refine (kw0_3 (headsAt H 768 (by omega) _) (t.val % 4 * 1024 + 768) (by omega) (row_pos t 768 (by omega))
      (fun l => (ld_gain x6 2 _ l).trans (H.h6 2 l)) w2 w3).trans
        (keyLane_eq _ ?_ ?_ ?_)
      all_goals ((try simp only [sub, row, tok, tilePos]); blk_simp [idx_out t]; try omega)
    · rw [p2]; obtain rfl : w0 = 0 := Subsingleton.elim _ _; obtain rfl : w1 = 0 := Subsingleton.elim _ _
      refine (kw1_2 (headsAt H 512 (by omega) _) (t.val % 4 * 1024 + 512) (by omega) (row_pos t 512 (by omega))
      (fun l => (ld_gain x6 2 _ l).trans (H.h6 2 l)) w2 w3).trans
        (keyLane_eq _ ?_ ?_ ?_)
      all_goals ((try simp only [sub, row, tok, tilePos]); blk_simp [idx_out t]; try omega)
    · rw [p2]; obtain rfl : w0 = 0 := Subsingleton.elim _ _; obtain rfl : w1 = 0 := Subsingleton.elim _ _
      refine (kw0_2 (headsAt H 512 (by omega) _) (t.val % 4 * 1024 + 512) (by omega) (row_pos t 512 (by omega))
      (fun l => (ld_gain x6 2 _ l).trans (H.h6 2 l)) w2 w3).trans
        (keyLane_eq _ ?_ ?_ ?_)
      all_goals ((try simp only [sub, row, tok, tilePos]); blk_simp [idx_out t]; try omega)
    · rw [p1]; obtain rfl : w0 = 0 := Subsingleton.elim _ _; obtain rfl : w1 = 0 := Subsingleton.elim _ _
      refine (kw1_1 (headsAt H 256 (by omega) _) (t.val % 4 * 1024 + 256) (by omega) (row_pos t 256 (by omega))
      (fun l => (ld_gain x6 2 _ l).trans (H.h6 2 l)) w2 w3).trans
        (keyLane_eq _ ?_ ?_ ?_)
      all_goals ((try simp only [sub, row, tok, tilePos]); blk_simp [idx_out t]; try omega)
    · rw [p1]; obtain rfl : w0 = 0 := Subsingleton.elim _ _; obtain rfl : w1 = 0 := Subsingleton.elim _ _
      refine (kw0_1 (headsAt H 256 (by omega) _) (t.val % 4 * 1024 + 256) (by omega) (row_pos t 256 (by omega))
      (fun l => (ld_gain x6 2 _ l).trans (H.h6 2 l)) w2 w3).trans
        (keyLane_eq _ ?_ ?_ ?_)
      all_goals ((try simp only [sub, row, tok, tilePos]); blk_simp [idx_out t]; try omega)
    · rw [p0]; obtain rfl : w0 = 0 := Subsingleton.elim _ _; obtain rfl : w1 = 0 := Subsingleton.elim _ _
      refine (kw1_0 (headsAt H 0 (by omega) _) (t.val % 4 * 1024 + 0) (by omega) (row_pos t 0 (by omega))
      (fun l => (ld_gain x6 2 _ l).trans (H.h6 2 l)) w2 w3).trans
        (keyLane_eq _ ?_ ?_ ?_)
      all_goals ((try simp only [sub, row, tok, tilePos]); blk_simp [idx_out t]; try omega)
    · rw [p0]; obtain rfl : w0 = 0 := Subsingleton.elim _ _; obtain rfl : w1 = 0 := Subsingleton.elim _ _
      refine (kw0_0 (headsAt H 0 (by omega) _) (t.val % 4 * 1024 + 0) (by omega) (row_pos t 0 (by omega))
      (fun l => (ld_gain x6 2 _ l).trans (H.h6 2 l)) w2 w3).trans
        (keyLane_eq _ ?_ ?_ ?_)
      all_goals ((try simp only [sub, row, tok, tilePos]); blk_simp [idx_out t]; try omega)

end Cert.ProjIdeal.Final

end
-- ==== Proof.ProjValArr.lean ====
/- The arrays of the values and of the branch gates. -/
module

public import proofs.«01_k».proof.Proof.ProjAt

@[expose] public section

set_option maxRecDepth 16384

noncomputable section

namespace Cert.ProjIdeal.Final

open Idealize.ShloMosaic Idealize.ShloMosaic.TcCoe Idealize.SL.Sem
open Cert.ProjIdeal Cert.ProjIdeal.Gen
open Cert.ProjIdeal.Block
open Cert.ProjMath

variable (m : (ℓ : Loc nD τ sig) → Buf (Elt Ideal) ℓ)

set_option maxHeartbeats 4000000 in
/-- The values of the selection. -/
theorem final12 (c : Dev nD) : (dats m 0 c).arrAt 12 cfg0.N = valArr (args m c) 896 (by omega) := by
  refine (dats m 0 c).arrAt_eq_of_covers 12 _ (by decide +kernel) fun t _ y => ?_
  blk_simp
  have H := reads m c t
  obtain ⟨p0, p1, p2, p3⟩ := pos t
  have ht := lt_N t
  rw [after0_12]
  by_cases q0 : t.val % 4 = 0
  · rw [outsAt0_A m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · obtain rfl : w0 = 0 := Subsingleton.elim _ _; obtain rfl : w1 = 0 := Subsingleton.elim _ _; obtain rfl : w2 = 0 := Subsingleton.elim _ _
      refine (vs1_3 (headsAt H 768 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs0_3 (headsAt H 768 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs1_2 (headsAt H 512 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs0_2 (headsAt H 512 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs1_1 (headsAt H 256 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs0_1 (headsAt H 256 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs1_0 (headsAt H 0 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs0_0 (headsAt H 0 (by omega) _) w3 w4).trans
        (value_eq _ ?_ ?_ ?_)
      all_goals ((try simp only [sub, row, tok, tilePos]); blk_simp [idx_out t]; try omega)
  · rw [outsAt0_B m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · obtain rfl : w0 = 0 := Subsingleton.elim _ _; obtain rfl : w1 = 0 := Subsingleton.elim _ _; obtain rfl : w2 = 0 := Subsingleton.elim _ _
      refine (vs1_3 (headsAt H 768 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs0_3 (headsAt H 768 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs1_2 (headsAt H 512 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs0_2 (headsAt H 512 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs1_1 (headsAt H 256 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs0_1 (headsAt H 256 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs1_0 (headsAt H 0 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vs0_0 (headsAt H 0 (by omega) _) w3 w4).trans
        (value_eq _ ?_ ?_ ?_)
      all_goals ((try simp only [sub, row, tok, tilePos]); blk_simp [idx_out t]; try omega)

set_option maxHeartbeats 4000000 in
/-- The values of the window. -/
theorem final14 (c : Dev nD) : (dats m 0 c).arrAt 14 cfg0.N = valArr (args m c) 1152 (by omega) := by
  refine (dats m 0 c).arrAt_eq_of_covers 14 _ (by decide +kernel) fun t _ y => ?_
  blk_simp
  have H := reads m c t
  obtain ⟨p0, p1, p2, p3⟩ := pos t
  have ht := lt_N t
  rw [after0_14]
  by_cases q0 : t.val % 4 = 0
  · rw [outsAt0_A m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · obtain rfl : w0 = 0 := Subsingleton.elim _ _; obtain rfl : w1 = 0 := Subsingleton.elim _ _; obtain rfl : w2 = 0 := Subsingleton.elim _ _
      refine (vw1_3 (headsAt H 768 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw0_3 (headsAt H 768 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw1_2 (headsAt H 512 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw0_2 (headsAt H 512 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw1_1 (headsAt H 256 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw0_1 (headsAt H 256 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw1_0 (headsAt H 0 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw0_0 (headsAt H 0 (by omega) _) w3 w4).trans
        (value_eq _ ?_ ?_ ?_)
      all_goals ((try simp only [sub, row, tok, tilePos]); blk_simp [idx_out t]; try omega)
  · rw [outsAt0_B m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · obtain rfl : w0 = 0 := Subsingleton.elim _ _; obtain rfl : w1 = 0 := Subsingleton.elim _ _; obtain rfl : w2 = 0 := Subsingleton.elim _ _
      refine (vw1_3 (headsAt H 768 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw0_3 (headsAt H 768 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw1_2 (headsAt H 512 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw0_2 (headsAt H 512 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw1_1 (headsAt H 256 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw0_1 (headsAt H 256 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw1_0 (headsAt H 0 (by omega) _) w3 w4).trans
        (value_eq _ ?_ ?_ ?_)
      all_goals ((try simp only [sub, row, tok, tilePos]); blk_simp [idx_out t]; try omega)
    · obtain rfl : w0 = 0 := Subsingleton.elim _ _; obtain rfl : w1 = 0 := Subsingleton.elim _ _; obtain rfl : w2 = 0 := Subsingleton.elim _ _
      refine (vw0_0 (headsAt H 0 (by omega) _) w3 w4).trans
        (value_eq _ ?_ ?_ ?_)
      all_goals ((try simp only [sub, row, tok, tilePos]); blk_simp [idx_out t]; try omega)

set_option maxHeartbeats 4000000 in
/-- The branch gates. -/
theorem final15 (c : Dev nD) : (dats m 0 c).arrAt 15 cfg0.N = gateArr (args m c) := by
  refine (dats m 0 c).arrAt_eq_of_covers 15 _ (by decide +kernel) fun t _ y => ?_
  blk_simp
  have H := reads m c t
  obtain ⟨p0, p1, p2, p3⟩ := pos t
  have ht := lt_N t
  rw [after0_15]
  by_cases q0 : t.val % 4 = 0
  · rw [outsAt0_A m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · obtain rfl : w0 = 0 := Subsingleton.elim _ _; obtain rfl : w1 = 0 := Subsingleton.elim _ _
      refine (gate1_3 (headsAt H 768 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate0_3 (headsAt H 768 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate1_2 (headsAt H 512 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate0_2 (headsAt H 512 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate1_1 (headsAt H 256 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate0_1 (headsAt H 256 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate1_0 (headsAt H 0 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate0_0 (headsAt H 0 (by omega) _) w2 w3).trans
        (gate_eq _ ?_ ?_ ?_)
      all_goals ((try simp only [sub, row, tok, tilePos]); blk_simp [idx_out t]; try omega)
  · rw [outsAt0_B m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · obtain rfl : w0 = 0 := Subsingleton.elim _ _; obtain rfl : w1 = 0 := Subsingleton.elim _ _
      refine (gate1_3 (headsAt H 768 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate0_3 (headsAt H 768 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate1_2 (headsAt H 512 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate0_2 (headsAt H 512 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate1_1 (headsAt H 256 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate0_1 (headsAt H 256 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate1_0 (headsAt H 0 (by omega) _) w2 w3).trans
        (gate_eq _ ?_ ?_ ?_)
      all_goals ((try simp only [sub, row, tok, tilePos]); blk_simp [idx_out t]; try omega)
    · obtain rfl : w0 = 0 := Subsingleton.elim _ _; obtain rfl : w1 = 0 := Subsingleton.elim _ _
      refine (gate0_0 (headsAt H 0 (by omega) _) w2 w3).trans
        (gate_eq _ ?_ ?_ ?_)
      all_goals ((try simp only [sub, row, tok, tilePos]); blk_simp [idx_out t]; try omega)

end Cert.ProjIdeal.Final

end
-- ==== Proof.ProjConv.lean ====
/- What one sub-block computes of the convolution branch. -/
module

public import proofs.«01_k».proof.Proof.ProjBlock

@[expose] public section

set_option maxRecDepth 16384

noncomputable section

namespace Cert.ProjIdeal.Block

open Idealize.ShloMosaic Idealize.ShloMosaic.TcCoe Idealize.SL.Sem
open Cert.ProjIdeal Cert.ProjIdeal.Gen
open Cert.ProjMath

section
variable {A : Args} {R : Fin 256 → Fin 32768} {X : FVec Ideal S256x1024 .bf16}
variable {wB wC wX wG : FVec Ideal S1024x1024 .bf16} {wb : FVec Ideal S1024x1024 .bf16} {cw : FVec Ideal S3x1024 .f32}
variable {b1 b2 : FVec Ideal S256x1024 .f32}

/-- Three summands in the opposite order. -/
theorem sum3 (a b c : EReal) : a + b + c = c + b + a := by
  rw [add_comm (a + b) c, add_comm a b, add_assoc]

/-- The convolution's input in sub-block 0: the product of two projections. -/
theorem u_0 (hX : ∀ r l, X (ix2 r l) = xn A (R r) l)
    (hC : ∀ k (j : Fin 1024), wC (ix2 k j) = A.w (ix3 0 k ⟨2328 + j.val, by omega⟩))
    (hD : ∀ k (j : Fin 1024), wX (ix2 k j) = A.w (ix3 0 k ⟨3352 + j.val, by omega⟩)) (r : Fin 256) (l : Fin 1024) :
    k0_pay56 (F := Ideal) X (k0_pay54 X wC) wX (ix2 r l) = u A (R r) l := by
  pointwise [k0_pay56, k0_pay55, k0_pay54]
  simp only [hX, hC, hD, u, proj]

/-- The same in sub-block 1. -/
theorem u_1 (hX : ∀ r l, X (ix2 r l) = xn A (R r) l)
    (hC : ∀ k (j : Fin 1024), wC (ix2 k j) = A.w (ix3 0 k ⟨2328 + j.val, by omega⟩))
    (hD : ∀ k (j : Fin 1024), wX (ix2 k j) = A.w (ix3 0 k ⟨3352 + j.val, by omega⟩)) (r : Fin 256) (l : Fin 1024) :
    k0_pay111 (F := Ideal) X (k0_pay109 wC) (constant S256x1024 FTy.f32 0#32) wX (ix2 r l) = u A (R r) l := u_0 hX hC hD r l

/-- The same in sub-block 2. -/
theorem u_2 (hX : ∀ r l, X (ix2 r l) = xn A (R r) l)
    (hC : ∀ k (j : Fin 1024), wC (ix2 k j) = A.w (ix3 0 k ⟨2328 + j.val, by omega⟩))
    (hD : ∀ k (j : Fin 1024), wX (ix2 k j) = A.w (ix3 0 k ⟨3352 + j.val, by omega⟩)) (r : Fin 256) (l : Fin 1024) :
    k0_pay164 (F := Ideal) X wC wX (ix2 r l) = u A (R r) l := u_0 hX hC hD r l

/-- The same in sub-block 3. -/
theorem u_3 (hX : ∀ r l, X (ix2 r l) = xn A (R r) l)
    (hC : ∀ k (j : Fin 1024), wC (ix2 k j) = A.w (ix3 0 k ⟨2328 + j.val, by omega⟩))
    (hD : ∀ k (j : Fin 1024), wX (ix2 k j) = A.w (ix3 0 k ⟨3352 + j.val, by omega⟩)) (r : Fin 256) (l : Fin 1024) :
    k0_pay219 (F := Ideal) X wC wX (ix2 r l) = u A (R r) l := u_0 hX hC hD r l

/-- The gated convolution branch in sub-block 0, from the inputs one and two tokens back. -/
theorem branch_0 (hX : ∀ r l, X (ix2 r l) = xn A (R r) l)
    (hB : ∀ k (j : Fin 1024), wB (ix2 k j) = A.w (ix3 0 k ⟨1304 + j.val, by omega⟩))
    (hC : ∀ k (j : Fin 1024), wC (ix2 k j) = A.w (ix3 0 k ⟨2328 + j.val, by omega⟩))
    (hD : ∀ k (j : Fin 1024), wX (ix2 k j) = A.w (ix3 0 k ⟨3352 + j.val, by omega⟩))
    (hG : ∀ k (j : Fin 1024), wG (ix2 k j) = A.w (ix3 0 k ⟨5400 + j.val, by omega⟩))
    (hb : ∀ j l, wb (ix2 j l) = A.wb (ix3 0 j l)) (hc : ∀ j l, cw (ix2 j l) = A.cw (ix3 0 j l))
    (h1 : ∀ r l, b1 (ix2 r l) = uBack A 1 (R r) l) (h2 : ∀ r l, b2 (ix2 r l) = uBack A 2 (R r) l)
    (r : Fin 256) (l : Fin 1024) :
    k0_pay57 (F := Ideal) X (k0_pay54 X wC) wX cw b1 b2 wB wb wG (ix2 r l) = branch A (R r) l := by
  pointwise [k0_pay57, k0_pay55, k0_pay54]
  simp only [hX, hB, hC, hD, hG, hb, hc, h1, h2]
  unfold branch conv u proj Ideal.logistic
  refine congrArg₂ (· * ·) rfl (Finset.sum_congr rfl fun j _ => congrArg (· * _) (congrArg (_ * ·) ?_))
  exact sum3 _ _ _

/-- The same in sub-block 1. -/
theorem branch_1 (hX : ∀ r l, X (ix2 r l) = xn A (R r) l)
    (hB : ∀ k (j : Fin 1024), wB (ix2 k j) = A.w (ix3 0 k ⟨1304 + j.val, by omega⟩))
    (hC : ∀ k (j : Fin 1024), wC (ix2 k j) = A.w (ix3 0 k ⟨2328 + j.val, by omega⟩))
    (hD : ∀ k (j : Fin 1024), wX (ix2 k j) = A.w (ix3 0 k ⟨3352 + j.val, by omega⟩))
    (hG : ∀ k (j : Fin 1024), wG (ix2 k j) = A.w (ix3 0 k ⟨5400 + j.val, by omega⟩))
    (hb : ∀ j l, wb (ix2 j l) = A.wb (ix3 0 j l)) (hc : ∀ j l, cw (ix2 j l) = A.cw (ix3 0 j l))
    (h1 : ∀ r l, b1 (ix2 r l) = uBack A 1 (R r) l) (h2 : ∀ r l, b2 (ix2 r l) = uBack A 2 (R r) l)
    (r : Fin 256) (l : Fin 1024) :
    k0_pay112 (F := Ideal) X (k0_pay109 wC) (constant S256x1024 FTy.f32 0#32) wX cw b1 b2 wB wb wG (ix2 r l) = branch A (R r) l :=
  branch_0 hX hB hC hD hG hb hc h1 h2 r l

/-- The same in sub-block 2. -/
theorem branch_2 (hX : ∀ r l, X (ix2 r l) = xn A (R r) l)
    (hB : ∀ k (j : Fin 1024), wB (ix2 k j) = A.w (ix3 0 k ⟨1304 + j.val, by omega⟩))
    (hC : ∀ k (j : Fin 1024), wC (ix2 k j) = A.w (ix3 0 k ⟨2328 + j.val, by omega⟩))
    (hD : ∀ k (j : Fin 1024), wX (ix2 k j) = A.w (ix3 0 k ⟨3352 + j.val, by omega⟩))
    (hG : ∀ k (j : Fin 1024), wG (ix2 k j) = A.w (ix3 0 k ⟨5400 + j.val, by omega⟩))
    (hb : ∀ j l, wb (ix2 j l) = A.wb (ix3 0 j l)) (hc : ∀ j l, cw (ix2 j l) = A.cw (ix3 0 j l))
    (h1 : ∀ r l, b1 (ix2 r l) = uBack A 1 (R r) l) (h2 : ∀ r l, b2 (ix2 r l) = uBack A 2 (R r) l)
    (r : Fin 256) (l : Fin 1024) :
    k0_pay165 (F := Ideal) X wC wX cw b1 b2 wB wb wG (ix2 r l) = branch A (R r) l :=
  branch_0 hX hB hC hD hG hb hc h1 h2 r l

/-- The same in sub-block 3. -/
theorem branch_3 (hX : ∀ r l, X (ix2 r l) = xn A (R r) l)
    (hB : ∀ k (j : Fin 1024), wB (ix2 k j) = A.w (ix3 0 k ⟨1304 + j.val, by omega⟩))
    (hC : ∀ k (j : Fin 1024), wC (ix2 k j) = A.w (ix3 0 k ⟨2328 + j.val, by omega⟩))
    (hD : ∀ k (j : Fin 1024), wX (ix2 k j) = A.w (ix3 0 k ⟨3352 + j.val, by omega⟩))
    (hG : ∀ k (j : Fin 1024), wG (ix2 k j) = A.w (ix3 0 k ⟨5400 + j.val, by omega⟩))
    (hb : ∀ j l, wb (ix2 j l) = A.wb (ix3 0 j l)) (hc : ∀ j l, cw (ix2 j l) = A.cw (ix3 0 j l))
    (h1 : ∀ r l, b1 (ix2 r l) = uBack A 1 (R r) l) (h2 : ∀ r l, b2 (ix2 r l) = uBack A 2 (R r) l)
    (r : Fin 256) (l : Fin 1024) :
    k0_pay222 (F := Ideal) (k0_pay220 X wC wX cw b1 b2 wB wb) (k0_pay221 X wG) (ix2 r l) = branch A (R r) l :=
  branch_0 hX hB hC hD hG hb hc h1 h2 r l

end

end Cert.ProjIdeal.Block

end
-- ==== Proof.ProjScratch.lean ====
/- What the scratch rows of the convolution hold. -/
module

public import proofs.«01_k».proof.Proof.ProjAt
public import proofs.«01_k».proof.Proof.ProjConv
public import Idealize.ShloMosaic.Lib.WritesUnit

@[expose] public section

set_option maxRecDepth 16384

noncomputable section

namespace Cert.ProjIdeal.Final

open Idealize.ShloMosaic Idealize.ShloMosaic.TcCoe Idealize.SL.Sem
open Cert.ProjIdeal Cert.ProjIdeal.Gen
open Cert.ProjIdeal.Block
open Cert.ProjMath

/-- What row `ρ` of the scratch holds at point `t`: the convolution's input of the point's token `ρ - 8`; in the first
    eight rows that of the tokens before the point, or zero where a sequence starts. -/
def sc (A : Args) (t : Fin cfg0.N) (ρ : Fin 1032) (l : Fin 1024) : EReal :=
  if ρ.val < 8 ∧ t.val % 4 = 0 then 0 else u A ⟨t.val * 1024 + ρ.val - 8, by have := lt_N t; omega⟩ l

/-- The same as an array. -/
def scArr (A : Args) (t : Fin cfg0.N) : FVec Ideal S1032x1024 .f32 := fun y => sc A t (y 0) (y 1)

variable {A : Args} {t : Fin cfg0.N}

/-- A row of the point's own tokens. -/
theorem sc_row (ρ : Fin 1032) (l : Fin 1024) (R : Fin 32768) (h : 8 ≤ ρ.val) (hR : R.val + 8 = t.val * 1024 + ρ.val) :
    sc A t ρ l = u A R l := by
  unfold sc
  rw [if_neg (by omega)]
  exact congrArg (fun q => u A q l) (Fin.ext (by simp only; omega))

/-- A row of the tokens before the point, inside a sequence. -/
theorem sc_before (ρ : Fin 1032) (l : Fin 1024) (R : Fin 32768) (h : t.val % 4 ≠ 0)
    (hR : R.val + 8 = t.val * 1024 + ρ.val) : sc A t ρ l = u A R l := by
  unfold sc
  rw [if_neg (by omega)]
  exact congrArg (fun q => u A q l) (Fin.ext (by simp only; omega))

/-- The row one or two above a token's row holds the input one or two tokens back. -/
theorem sc_back (k : ℕ) (hk : k ≤ 2) (ρ : Fin 1032) (l : Fin 1024) (r : Fin 1024) (h : ρ.val + k = 8 + r.val) :
    sc A t ρ l = uBack A k (row t r) l := by
  have ht := lt_N t
  unfold sc uBack
  by_cases q : ρ.val < 8 ∧ t.val % 4 = 0
  · rw [if_pos q, dif_neg (by simp only [row]; omega)]
  · rw [if_neg q, dif_pos (by simp only [row]; omega)]
    exact congrArg (fun q => u A q l) (Fin.ext (by simp only [row]; omega))

/-- A list of stores puts `sc` into every row it covers. -/
def Good (A : Args) (t : Fin cfg0.N) (L : List (View.Piece (Elt Ideal) S1032x1024 .f32)) : Prop :=
  ∀ p ∈ L, ∀ x : p.1.shape.Idx, p.2 x = scArr A t (p.1.emb x)

/-- One more store of rows from `o` on. -/
theorem good_cons {o n : ℕ} {inb : ∀ d : Fin 2, (![o, 0] : Fin 2 → ℕ) d + (![n, 1024] : Fin 2 → ℕ) d ≤ S1032x1024.size d}
    {V : FVec Ideal ⟨2, ![n, 1024]⟩ .f32} {L : List (View.Piece (Elt Ideal) S1032x1024 .f32)} (ho : o + n ≤ 1032)
    (hV : ∀ (r : Fin n) (l : Fin 1024), V (ix2 r l) = sc A t ⟨o + r.val, by omega⟩ l) (hL : Good A t L) :
    Good A t (⟨Rect.unit (s := S1032x1024) ![o, 0] ![n, 1024] inb, V⟩ :: L) :=
  List.forall_mem_cons.mpr ⟨fun x => by
    obtain ⟨r, l, rfl⟩ : ∃ (r : Fin n) (l : Fin 1024), x = ix2 r l := ⟨x 0, x 1, by
      funext a; match a with | ⟨0, _⟩ => rfl | ⟨1, _⟩ => rfl⟩
    refine (hV r l).trans (congrArg₂ (sc A t) (Fin.ext ?_) (Fin.ext ?_))
    · exact (Rect.idx_unit_val (s := S1032x1024) ![o, 0] ![n, 1024] inb (ix2 r l) 0).symm
    · exact ((Rect.idx_unit_val (s := S1032x1024) ![o, 0] ![n, 1024] inb (ix2 r l) 1).trans (Nat.zero_add _)).symm, hL⟩

/-- Rows in the range of a store are covered by it. -/
theorem mem_rows {o n : ℕ} {inb : ∀ d : Fin 2, (![o, 0] : Fin 2 → ℕ) d + (![n, 1024] : Fin 2 → ℕ) d ≤ S1032x1024.size d}
    (y : S1032x1024.Idx) (h : o ≤ (y 0).val) (h' : (y 0).val < o + n) :
    y ∈ (Rect.unit (s := S1032x1024) ![o, 0] ![n, 1024] inb).set := by
  refine Rect.mem_set_unit.mpr fun a => ?_
  match a with
  | ⟨0, _⟩ => exact ⟨h, h'⟩
  | ⟨1, _⟩ => exact ⟨Nat.zero_le _, (y 1).isLt.trans_le (Nat.le_of_eq (Nat.zero_add _).symm)⟩

/-- Reading rows back from the stores. -/
theorem readBack {o n : ℕ} {inb : ∀ d : Fin 2, (![o, 0] : Fin 2 → ℕ) d + (![n, 1024] : Fin 2 → ℕ) d ≤ S1032x1024.size d}
    {L : List (View.Piece (Elt Ideal) S1032x1024 .f32)} (ho : o + n ≤ 1032) (hL : Good A t L)
    (hc : ∀ y : S1032x1024.Idx, o ≤ (y 0).val → (y 0).val < o + n → ∃ p ∈ L, y ∈ p.1.set) (r : Fin n) (l : Fin 1024) :
    ((View.whole cc0_scratch0).readCov L (Rect.unit (s := S1032x1024) ![o, 0] ![n, 1024] inb).toLoadRect
      : FVec Ideal ⟨2, ![n, 1024]⟩ .f32) (ix2 r l) = sc A t ⟨o + r.val, by omega⟩ l := by
  have e0 : ((Rect.unit (s := S1032x1024) ![o, 0] ![n, 1024] inb).toLoadRect.idx (ix2 r l) 0).val = o + r.val :=
    Rect.idx_unit_val _ _ _ _ _
  have e1 : ((Rect.unit (s := S1032x1024) ![o, 0] ![n, 1024] inb).toLoadRect.idx (ix2 r l) 1).val = l.val :=
    (Rect.idx_unit_val _ _ _ _ _).trans (Nat.zero_add _)
  rw [View.readCov_eq_canon']
  refine (View.canon_apply_of_pieces (Val := Elt Ideal) (e := .f32) (scArr A t) L hL _ (hc _ ?_ ?_)).trans ?_
  · rw [e0]; omega
  · rw [e0]; omega
  · exact congrArg₂ (sc A t) (Fin.ext e0) (Fin.ext e1)

/-- Reading rows back that the newest two stores cover. -/
theorem readBack2 {a k b j o n : ℕ}
    {inb1 : ∀ d : Fin 2, (![a, 0] : Fin 2 → ℕ) d + (![k, 1024] : Fin 2 → ℕ) d ≤ S1032x1024.size d}
    {inb2 : ∀ d : Fin 2, (![b, 0] : Fin 2 → ℕ) d + (![j, 1024] : Fin 2 → ℕ) d ≤ S1032x1024.size d}
    {inb : ∀ d : Fin 2, (![o, 0] : Fin 2 → ℕ) d + (![n, 1024] : Fin 2 → ℕ) d ≤ S1032x1024.size d}
    {V : FVec Ideal ⟨2, ![k, 1024]⟩ .f32} {V' : FVec Ideal ⟨2, ![j, 1024]⟩ .f32}
    {L : List (View.Piece (Elt Ideal) S1032x1024 .f32)} (ho : o + n ≤ 1032)
    (hL : Good A t (⟨Rect.unit (s := S1032x1024) ![a, 0] ![k, 1024] inb1, V⟩
      :: ⟨Rect.unit (s := S1032x1024) ![b, 0] ![j, 1024] inb2, V'⟩ :: L))
    (h1 : b + j = a) (h2 : b ≤ o) (h3 : o + n ≤ a + k) (r : Fin n) (l : Fin 1024) :
    ((View.whole cc0_scratch0).readCov (⟨Rect.unit (s := S1032x1024) ![a, 0] ![k, 1024] inb1, V⟩
      :: ⟨Rect.unit (s := S1032x1024) ![b, 0] ![j, 1024] inb2, V'⟩ :: L)
      (Rect.unit (s := S1032x1024) ![o, 0] ![n, 1024] inb).toLoadRect
      : FVec Ideal ⟨2, ![n, 1024]⟩ .f32) (ix2 r l) = sc A t ⟨o + r.val, by omega⟩ l := by
  refine readBack ho hL (fun y q q' => ?_) r l
  by_cases c : a ≤ (y 0).val
  · exact ⟨_, .head _, mem_rows (inb := inb1) y c (by omega)⟩
  · exact ⟨_, .tail _ (.head _), mem_rows (inb := inb2) y (by omega) (by omega)⟩

/-- Reading rows after one store over carried contents. -/
theorem loadBack {X : FVec Ideal S1032x1024 .f32} {f : (View.whole cc0_scratch0).ty.Contents (Elt Ideal)}
    (hf : View.read (Elt Ideal) (View.whole cc0_scratch0) f = X)
    (hX : ∀ (ρ : Fin 1032) (l : Fin 1024), ρ.val < 8 → X (ix2 ρ l) = sc A t ρ l)
    {V : FVec Ideal S256x1024 .f32} (hV : ∀ (r : Fin 256) (l : Fin 1024), V (ix2 r l) = sc A t ⟨8 + r.val, by omega⟩ l)
    {inb8 : ∀ d : Fin 2, (![8, 0] : Fin 2 → ℕ) d + (![256, 1024] : Fin 2 → ℕ) d ≤ S1032x1024.size d}
    {o : ℕ} (ho : o ≤ 8)
    {inb : ∀ d : Fin 2, (![o, 0] : Fin 2 → ℕ) d + (![256, 1024] : Fin 2 → ℕ) d ≤ S1032x1024.size d}
    (r : Fin 256) (l : Fin 1024) :
    View.ld (Val := Elt Ideal) (e' := .f32) (View.read (Elt Ideal) (View.whole cc0_scratch0)
      ((View.whole cc0_scratch0).writes (Elt Ideal) f
        [⟨Rect.unit (s := S1032x1024) ![8, 0] ![256, 1024] inb8, V⟩]))
      (Rect.unit (s := S1032x1024) ![o, 0] ![256, 1024] inb) (ix2 r l) = sc A t ⟨o + r.val, by omega⟩ l := by
  have e : (Rect.unit (s := S1032x1024) ![o, 0] ![256, 1024] inb).idx (ix2 r l) = ix2 ⟨o + r.val, by omega⟩ l := by
    funext a
    match a with
    | ⟨0, _⟩ => exact Fin.ext (Rect.idx_unit_val _ _ _ _ _)
    | ⟨1, _⟩ => exact Fin.ext ((Rect.idx_unit_val _ _ _ _ _).trans (Nat.zero_add _))
  rw [View.ld_apply, e]
  by_cases q : o + r.val < 8
  · refine (View.read_writes_cons_rows_of_not_mem (View.whole cc0_scratch0) f (o := 8) (W := 256) inb8 V [] _ rfl rfl
      (Or.inl q)).trans ?_
    rw [View.writes_nil, hf]
    exact hX _ l q
  · refine (View.read_writes_cons_rows_of_mem (View.whole cc0_scratch0) f (o := 8) inb8 V [] _
      (ix2 ⟨o + r.val - 8, by omega⟩ l) rfl ?_ rfl).trans ((hV _ l).trans ?_)
    · change o + r.val = 8 + (o + r.val - 8); omega
    · exact congrArg (fun q => sc A t q l) (Fin.ext (by simp only; omega))

end Cert.ProjIdeal.Final

end
-- ==== Proof.ProjBranch.lean ====
/- What the carried scratch and the array of the convolution branch hold. -/
module

public import proofs.«01_k».proof.Proof.ProjScratch
public import Idealize.ShloMosaic.Lib.Pipeline.ReadBack

@[expose] public section

set_option maxRecDepth 16384

noncomputable section

namespace Cert.ProjIdeal.Final

open Idealize.ShloMosaic Idealize.ShloMosaic.TcCoe Idealize.SL.Sem
open Cert.ProjIdeal Cert.ProjIdeal.Gen
open Cert.ProjIdeal.Block
open Cert.ProjMath

variable (m : (ℓ : Loc nD τ sig) → Buf (Elt Ideal) ℓ)

section
variable {A : Args} {t : Fin cfg0.N}
variable {x0 : FVec Ideal S1024x1024 .f32} {x1 : FVec Ideal S1x1024 .f32} {x2 : FVec Ideal S1024x1408 .bf16}
  {x3 : FVec Ideal S1024x5120 .bf16} {x4 : FVec Ideal S1024x1024 .bf16} {x5 : FVec Ideal S64x1 .f32}
  {x6 : FVec Ideal S3x128 .f32} {x7 : FVec Ideal S3x1024 .f32}

/-- The normalised tokens of the sub-block from row `o` on. -/
theorem xnAt (H : Reads A (row t) x0 x1 x2 x3 x4 x5 x6 x7) (o : ℕ) (ho : o + 256 ≤ 1024)
    (inb : ∀ d : Fin 2, (![o, 0] : Fin 2 → ℕ) d + S256x1024.size d ≤ S1024x1024.size d) (r : Fin 256) (l : Fin 1024) :
    k0_pay3 (F := Ideal)
      (View.ld (Val := Elt Ideal) (e' := .f32) x0 (Rect.unit (s := S1024x1024) ![o, 0] S256x1024.size inb)) x1 (ix2 r l)
      = xn A (sub (row t) o ho r) l :=
  xn_apply (fun r l => (ld_row x0 o ho inb r l).trans (H.h0 _ l)) H.h1 r l

/-- The projection's columns from `e` on, as loaded. -/
theorem colsAt (H : Reads A (row t) x0 x1 x2 x3 x4 x5 x6 x7) (o e : ℕ) (ho : o + 1024 ≤ 5120) (he : 1304 + o = e)
    (inb : ∀ d : Fin 2, (![0, o] : Fin 2 → ℕ) d + S1024x1024.size d ≤ S1024x5120.size d) (k j : Fin 1024) :
    View.ld (Val := Elt Ideal) (e' := .bf16) x3 (Rect.unit (s := S1024x5120) ![0, o] S1024x1024.size inb) (ix2 k j)
      = A.w (ix3 0 k ⟨e + j.val, by omega⟩) :=
  (ld_col x3 o ho inb k j).trans ((H.h3 k _).trans
    (congrArg _ (congrArg (ix3 0 k) (Fin.ext (by change 1304 + (o + j.val) = e + j.val; omega)))))

/-- What sub-block 0 stores in the scratch. -/
theorem stored_0 (H : Reads A (row t) x0 x1 x2 x3 x4 x5 x6 x7) (r : Fin 256) (l : Fin 1024) :
    (k0_pay56 (k0_pay3 (F := Ideal) (View.ld (Val := Elt Ideal) (e' := .f32) x0 (Rect.unit (s := S1024x1024) ![0, 0] S256x1024.size inb_S1024x1024_S256x1024_0_0)) x1) (k0_pay54 (k0_pay3 (F := Ideal) (View.ld (Val := Elt Ideal) (e' := .f32) x0 (Rect.unit (s := S1024x1024) ![0, 0] S256x1024.size inb_S1024x1024_S256x1024_0_0)) x1) (View.ld (Val := Elt Ideal) (e' := .bf16) x3 (Rect.unit (s := S1024x5120) ![0, 1024] S1024x1024.size inb_S1024x5120_S1024x1024_0_1024))) (View.ld (Val := Elt Ideal) (e' := .bf16) x3 (Rect.unit (s := S1024x5120) ![0, 2048] S1024x1024.size inb_S1024x5120_S1024x1024_0_2048))) (ix2 r l)
      = sc A t ⟨8 + r.val, by omega⟩ l :=
  (u_0 (xnAt H 0 (by omega) _) (colsAt H 1024 2328 (by omega) rfl _) (colsAt H 2048 3352 (by omega) rfl _) r l).trans
    (sc_row _ l _ (by simp only; omega) (by simp only [sub, row]; omega)).symm

/-- What sub-block 1 stores in the scratch. -/
theorem stored_1 (H : Reads A (row t) x0 x1 x2 x3 x4 x5 x6 x7) (r : Fin 256) (l : Fin 1024) :
    (k0_pay111 (k0_pay59 (F := Ideal) (View.ld (Val := Elt Ideal) (e' := .f32) x0 (Rect.unit (s := S1024x1024) ![256, 0] S256x1024.size inb_S1024x1024_S256x1024_256_0)) x1) (k0_pay109 (View.ld (Val := Elt Ideal) (e' := .bf16) x3 (Rect.unit (s := S1024x5120) ![0, 1024] S1024x1024.size inb_S1024x5120_S1024x1024_0_1024))) (constant S256x1024 FTy.f32 0#32) (View.ld (Val := Elt Ideal) (e' := .bf16) x3 (Rect.unit (s := S1024x5120) ![0, 2048] S1024x1024.size inb_S1024x5120_S1024x1024_0_2048))) (ix2 r l)
      = sc A t ⟨264 + r.val, by omega⟩ l :=
  (u_1 (xnAt H 256 (by omega) _) (colsAt H 1024 2328 (by omega) rfl _) (colsAt H 2048 3352 (by omega) rfl _) r l).trans
    (sc_row _ l _ (by simp only; omega) (by simp only [sub, row]; omega)).symm

/-- What sub-block 2 stores in the scratch. -/
theorem stored_2 (H : Reads A (row t) x0 x1 x2 x3 x4 x5 x6 x7) (r : Fin 256) (l : Fin 1024) :
    (k0_pay164 (k0_pay114 (F := Ideal) (View.ld (Val := Elt Ideal) (e' := .f32) x0 (Rect.unit (s := S1024x1024) ![512, 0] S256x1024.size inb_S1024x1024_S256x1024_512_0)) x1) (View.ld (Val := Elt Ideal) (e' := .bf16) x3 (Rect.unit (s := S1024x5120) ![0, 1024] S1024x1024.size inb_S1024x5120_S1024x1024_0_1024)) (View.ld (Val := Elt Ideal) (e' := .bf16) x3 (Rect.unit (s := S1024x5120) ![0, 2048] S1024x1024.size inb_S1024x5120_S1024x1024_0_2048))) (ix2 r l)
      = sc A t ⟨520 + r.val, by omega⟩ l :=
  (u_2 (xnAt H 512 (by omega) _) (colsAt H 1024 2328 (by omega) rfl _) (colsAt H 2048 3352 (by omega) rfl _) r l).trans
    (sc_row _ l _ (by simp only; omega) (by simp only [sub, row]; omega)).symm

/-- What sub-block 3 stores in the scratch. -/
theorem stored_3 (H : Reads A (row t) x0 x1 x2 x3 x4 x5 x6 x7) (r : Fin 256) (l : Fin 1024) :
    (k0_pay219 (k0_pay167 (F := Ideal) (View.ld (Val := Elt Ideal) (e' := .f32) x0 (Rect.unit (s := S1024x1024) ![768, 0] S256x1024.size inb_S1024x1024_S256x1024_768_0)) x1) (View.ld (Val := Elt Ideal) (e' := .bf16) x3 (Rect.unit (s := S1024x5120) ![0, 1024] S1024x1024.size inb_S1024x5120_S1024x1024_0_1024)) (View.ld (Val := Elt Ideal) (e' := .bf16) x3 (Rect.unit (s := S1024x5120) ![0, 2048] S1024x1024.size inb_S1024x5120_S1024x1024_0_2048))) (ix2 r l)
      = sc A t ⟨776 + r.val, by omega⟩ l :=
  (u_3 (xnAt H 768 (by omega) _) (colsAt H 1024 2328 (by omega) rfl _) (colsAt H 2048 3352 (by omega) rfl _) r l).trans
    (sc_row _ l _ (by simp only; omega) (by simp only [sub, row]; omega)).symm

/-- No store. -/
theorem good_nil : Good A t [] := fun _ h => absurd h List.not_mem_nil

/-- The zeros at the start of a sequence. -/
theorem good_zero (q0 : t.val % 4 = 0)
    {inb : ∀ d : Fin 2, (![0, 0] : Fin 2 → ℕ) d + (![8, 1024] : Fin 2 → ℕ) d ≤ S1032x1024.size d} :
    Good A t [⟨Rect.unit (s := S1032x1024) ![0, 0] ![8, 1024] inb, k0_pay2 (F := Ideal)⟩] :=
  good_cons (by omega) (fun r l => by
    have e : k0_pay2 (F := Ideal) (ix2 r l) = 0 := by pointwise [k0_pay2]
    refine e.trans ?_
    unfold sc
    rw [if_pos ⟨by simp only; omega, q0⟩]) good_nil
end

set_option maxHeartbeats 2000000 in
/-- After a point, the scratch's first eight rows hold the convolution's inputs of the point's last eight tokens. -/
theorem carry (c : Dev nD) (t : Fin cfg0.N) (r : Fin 8) (l : Fin 1024) :
    (outsAt0 m c t.val t.isLt).2.2.2.2.2.2.2.2.2.2 (ix2 ⟨r.val, by omega⟩ l)
      = u (args m c) (row t ⟨1016 + r.val, by omega⟩) l := by
  have H := reads m c t
  have e : ∀ inb, (ix2 ⟨r.val, by omega⟩ l : S1032x1024.Idx)
      = (Rect.unit (s := S1032x1024) ![0, 0] S8x1024.size inb).emb (ix2 r l) := fun inb => by
    funext a
    match a with
    | ⟨0, _⟩ => exact Fin.ext ((Rect.idx_unit_val (s := S1032x1024) ![0, 0] S8x1024.size inb (ix2 r l) 0).trans (Nat.zero_add _)).symm
    | ⟨1, _⟩ => exact Fin.ext ((Rect.idx_unit_val (s := S1032x1024) ![0, 0] S8x1024.size inb (ix2 r l) 1).trans (Nat.zero_add _)).symm
  by_cases q0 : t.val % 4 = 0
  · rw [outsAt0_A m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    rw [e inb_S1032x1024_S8x1024_0_0, View.canon_cons_emb]
    unfold k0_pay1
    rw [shapeCast_self]
    refine (readBack2 (a := 776) (k := 256) (b := 520) (j := 256) (o := 1024) (n := 8) (by omega) (good_cons (o := 776) (n := 256) (by omega) (stored_3 H) (good_cons (o := 520) (n := 256) (by omega) (stored_2 H) (good_cons (o := 264) (n := 256) (by omega) (stored_1 H) (good_cons (o := 8) (n := 256) (by omega) (stored_0 H) (good_zero q0))))) rfl (by omega) (by omega) r l).trans
      (sc_row _ l _ (by simp only; omega) (by simp only [row]; omega))
  · rw [outsAt0_B m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    rw [e inb_S1032x1024_S8x1024_0_0, View.canon_cons_emb]
    unfold k0_pay1
    rw [shapeCast_self]
    refine (readBack2 (a := 776) (k := 256) (b := 520) (j := 256) (o := 1024) (n := 8) (by omega) (good_cons (o := 776) (n := 256) (by omega) (stored_3 H) (good_cons (o := 520) (n := 256) (by omega) (stored_2 H) (good_cons (o := 264) (n := 256) (by omega) (stored_1 H) (good_cons (o := 8) (n := 256) (by omega) (stored_0 H) good_nil)))) rfl (by omega) (by omega) r l).trans
      (sc_row _ l _ (by simp only; omega) (by simp only [row]; omega))

/-- Equal places hold equal entries of the branch. -/
theorem branch_eq (A : Args) {R R' : Fin 32768} {n n' : Fin 1024} (e : R.val = R'.val) (e1 : n.val = n'.val) :
    branch A R n = branch A R' n' := by
  obtain rfl := Fin.ext e; obtain rfl := Fin.ext e1; rfl

set_option maxHeartbeats 4000000 in
/-- The gated convolution branch. -/
theorem final17 (c : Dev nD) : (dats m 0 c).arrAt 17 cfg0.N = branchArr (args m c) := by
  refine (dats m 0 c).arrAt_eq_of_covers 17 _ (by decide +kernel) fun t _ y => ?_
  blk_simp
  have H := reads m c t
  have ht := lt_N t
  rw [after0_17]
  by_cases q0 : t.val % 4 = 0
  · rw [outsAt0_A m c t q0]
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · refine (branch_3 (R := sub (row t) 768 (by omega)) (xnAt H 768 (by omega) _) (colsAt H 0 1304 (by omega) rfl _)
        (colsAt H 1024 2328 (by omega) rfl _) (colsAt H 2048 3352 (by omega) rfl _) (colsAt H 4096 5400 (by omega) rfl _)
        H.h4 H.h7
        (fun r l => (readBack2 (a := 776) (k := 256) (b := 520) (j := 256) (o := 775) (n := 256) (by omega) (good_cons (o := 776) (n := 256) (by omega) (stored_3 H) (good_cons (o := 520) (n := 256) (by omega) (stored_2 H) (good_cons (o := 264) (n := 256) (by omega) (stored_1 H) (good_cons (o := 8) (n := 256) (by omega) (stored_0 H) (good_zero q0))))) rfl (by omega) (by omega) r l).trans
        (sc_back 1 (by omega) _ l ⟨768 + r.val, by omega⟩ (by simp only; omega)))
        (fun r l => (readBack2 (a := 776) (k := 256) (b := 520) (j := 256) (o := 774) (n := 256) (by omega) (good_cons (o := 776) (n := 256) (by omega) (stored_3 H) (good_cons (o := 520) (n := 256) (by omega) (stored_2 H) (good_cons (o := 264) (n := 256) (by omega) (stored_1 H) (good_cons (o := 8) (n := 256) (by omega) (stored_0 H) (good_zero q0))))) rfl (by omega) (by omega) r l).trans
        (sc_back 2 (by omega) _ l ⟨768 + r.val, by omega⟩ (by simp only; omega))) w0 w1).trans (branch_eq _ ?_ ?_)
      all_goals ((try simp only [sub, row]); blk_simp [idx_out t]; try omega)
    · refine (branch_2 (R := sub (row t) 512 (by omega)) (xnAt H 512 (by omega) _) (colsAt H 0 1304 (by omega) rfl _)
        (colsAt H 1024 2328 (by omega) rfl _) (colsAt H 2048 3352 (by omega) rfl _) (colsAt H 4096 5400 (by omega) rfl _)
        H.h4 H.h7
        (fun r l => (readBack2 (a := 520) (k := 256) (b := 264) (j := 256) (o := 519) (n := 256) (by omega) (good_cons (o := 520) (n := 256) (by omega) (stored_2 H) (good_cons (o := 264) (n := 256) (by omega) (stored_1 H) (good_cons (o := 8) (n := 256) (by omega) (stored_0 H) (good_zero q0)))) rfl (by omega) (by omega) r l).trans
        (sc_back 1 (by omega) _ l ⟨512 + r.val, by omega⟩ (by simp only; omega)))
        (fun r l => (readBack2 (a := 520) (k := 256) (b := 264) (j := 256) (o := 518) (n := 256) (by omega) (good_cons (o := 520) (n := 256) (by omega) (stored_2 H) (good_cons (o := 264) (n := 256) (by omega) (stored_1 H) (good_cons (o := 8) (n := 256) (by omega) (stored_0 H) (good_zero q0)))) rfl (by omega) (by omega) r l).trans
        (sc_back 2 (by omega) _ l ⟨512 + r.val, by omega⟩ (by simp only; omega))) w0 w1).trans (branch_eq _ ?_ ?_)
      all_goals ((try simp only [sub, row]); blk_simp [idx_out t]; try omega)
    · refine (branch_1 (R := sub (row t) 256 (by omega)) (xnAt H 256 (by omega) _) (colsAt H 0 1304 (by omega) rfl _)
        (colsAt H 1024 2328 (by omega) rfl _) (colsAt H 2048 3352 (by omega) rfl _) (colsAt H 4096 5400 (by omega) rfl _)
        H.h4 H.h7
        (fun r l => (readBack2 (a := 264) (k := 256) (b := 8) (j := 256) (o := 263) (n := 256) (by omega) (good_cons (o := 264) (n := 256) (by omega) (stored_1 H) (good_cons (o := 8) (n := 256) (by omega) (stored_0 H) (good_zero q0))) rfl (by omega) (by omega) r l).trans
        (sc_back 1 (by omega) _ l ⟨256 + r.val, by omega⟩ (by simp only; omega)))
        (fun r l => (readBack2 (a := 264) (k := 256) (b := 8) (j := 256) (o := 262) (n := 256) (by omega) (good_cons (o := 264) (n := 256) (by omega) (stored_1 H) (good_cons (o := 8) (n := 256) (by omega) (stored_0 H) (good_zero q0))) rfl (by omega) (by omega) r l).trans
        (sc_back 2 (by omega) _ l ⟨256 + r.val, by omega⟩ (by simp only; omega))) w0 w1).trans (branch_eq _ ?_ ?_)
      all_goals ((try simp only [sub, row]); blk_simp [idx_out t]; try omega)
    · refine (branch_0 (R := sub (row t) 0 (by omega)) (xnAt H 0 (by omega) _) (colsAt H 0 1304 (by omega) rfl _)
        (colsAt H 1024 2328 (by omega) rfl _) (colsAt H 2048 3352 (by omega) rfl _) (colsAt H 4096 5400 (by omega) rfl _)
        H.h4 H.h7
        (fun r l => (readBack2 (a := 8) (k := 256) (b := 0) (j := 8) (o := 7) (n := 256) (by omega) (good_cons (o := 8) (n := 256) (by omega) (stored_0 H) (good_zero q0)) rfl (by omega) (by omega) r l).trans
        (sc_back 1 (by omega) _ l ⟨0 + r.val, by omega⟩ (by simp only; omega)))
        (fun r l => (readBack2 (a := 8) (k := 256) (b := 0) (j := 8) (o := 6) (n := 256) (by omega) (good_cons (o := 8) (n := 256) (by omega) (stored_0 H) (good_zero q0)) rfl (by omega) (by omega) r l).trans
        (sc_back 2 (by omega) _ l ⟨0 + r.val, by omega⟩ (by simp only; omega))) w0 w1).trans (branch_eq _ ?_ ?_)
      all_goals ((try simp only [sub, row]); blk_simp [idx_out t]; try omega)
  · rw [outsAt0_B m c t q0]
    have HX : ∀ (ρ : Fin 1032) (l : Fin 1024), ρ.val < 8 →
        (outsAt0 m c (t.val - 1) (Nat.lt_of_le_of_lt (Nat.sub_le _ _) t.isLt)).2.2.2.2.2.2.2.2.2.2 (ix2 ρ l)
          = sc (args m c) t ρ l := fun ρ l q =>
      (carry m c ⟨t.val - 1, Nat.lt_of_le_of_lt (Nat.sub_le _ _) t.isLt⟩ ⟨ρ.val, q⟩ l).trans
        (sc_before ρ l _ q0 (by simp only [row]; omega)).symm
    generalize iblk m c 0 t = x0 at H ⊢
    generalize iblk m c 1 t = x1 at H ⊢
    generalize iblk m c 2 t = x2 at H ⊢
    generalize iblk m c 3 t = x3 at H ⊢
    generalize iblk m c 4 t = x4 at H ⊢
    generalize iblk m c 5 t = x5 at H ⊢
    generalize iblk m c 6 t = x6 at H ⊢
    generalize iblk m c 7 t = x7 at H ⊢
    frame_out
    canon_tiles w h
    all_goals idx_vars w
    · refine (branch_3 (R := sub (row t) 768 (by omega)) (xnAt H 768 (by omega) _) (colsAt H 0 1304 (by omega) rfl _)
        (colsAt H 1024 2328 (by omega) rfl _) (colsAt H 2048 3352 (by omega) rfl _) (colsAt H 4096 5400 (by omega) rfl _)
        H.h4 H.h7
        (fun r l => (readBack2 (a := 776) (k := 256) (b := 520) (j := 256) (o := 775) (n := 256) (by omega) (good_cons (o := 776) (n := 256) (by omega) (stored_3 H) (good_cons (o := 520) (n := 256) (by omega) (stored_2 H) (good_cons (o := 264) (n := 256) (by omega) (stored_1 H) (good_cons (o := 8) (n := 256) (by omega) (stored_0 H) good_nil)))) rfl (by omega) (by omega) r l).trans
        (sc_back 1 (by omega) _ l ⟨768 + r.val, by omega⟩ (by simp only; omega)))
        (fun r l => (readBack2 (a := 776) (k := 256) (b := 520) (j := 256) (o := 774) (n := 256) (by omega) (good_cons (o := 776) (n := 256) (by omega) (stored_3 H) (good_cons (o := 520) (n := 256) (by omega) (stored_2 H) (good_cons (o := 264) (n := 256) (by omega) (stored_1 H) (good_cons (o := 8) (n := 256) (by omega) (stored_0 H) good_nil)))) rfl (by omega) (by omega) r l).trans
        (sc_back 2 (by omega) _ l ⟨768 + r.val, by omega⟩ (by simp only; omega))) w0 w1).trans (branch_eq _ ?_ ?_)
      all_goals ((try simp only [sub, row]); blk_simp [idx_out t]; try omega)
    · refine (branch_2 (R := sub (row t) 512 (by omega)) (xnAt H 512 (by omega) _) (colsAt H 0 1304 (by omega) rfl _)
        (colsAt H 1024 2328 (by omega) rfl _) (colsAt H 2048 3352 (by omega) rfl _) (colsAt H 4096 5400 (by omega) rfl _)
        H.h4 H.h7
        (fun r l => (readBack2 (a := 520) (k := 256) (b := 264) (j := 256) (o := 519) (n := 256) (by omega) (good_cons (o := 520) (n := 256) (by omega) (stored_2 H) (good_cons (o := 264) (n := 256) (by omega) (stored_1 H) (good_cons (o := 8) (n := 256) (by omega) (stored_0 H) good_nil))) rfl (by omega) (by omega) r l).trans
        (sc_back 1 (by omega) _ l ⟨512 + r.val, by omega⟩ (by simp only; omega)))
        (fun r l => (readBack2 (a := 520) (k := 256) (b := 264) (j := 256) (o := 518) (n := 256) (by omega) (good_cons (o := 520) (n := 256) (by omega) (stored_2 H) (good_cons (o := 264) (n := 256) (by omega) (stored_1 H) (good_cons (o := 8) (n := 256) (by omega) (stored_0 H) good_nil))) rfl (by omega) (by omega) r l).trans
        (sc_back 2 (by omega) _ l ⟨512 + r.val, by omega⟩ (by simp only; omega))) w0 w1).trans (branch_eq _ ?_ ?_)
      all_goals ((try simp only [sub, row]); blk_simp [idx_out t]; try omega)
    · refine (branch_1 (R := sub (row t) 256 (by omega)) (xnAt H 256 (by omega) _) (colsAt H 0 1304 (by omega) rfl _)
        (colsAt H 1024 2328 (by omega) rfl _) (colsAt H 2048 3352 (by omega) rfl _) (colsAt H 4096 5400 (by omega) rfl _)
        H.h4 H.h7
        (fun r l => (readBack2 (a := 264) (k := 256) (b := 8) (j := 256) (o := 263) (n := 256) (by omega) (good_cons (o := 264) (n := 256) (by omega) (stored_1 H) (good_cons (o := 8) (n := 256) (by omega) (stored_0 H) good_nil)) rfl (by omega) (by omega) r l).trans
        (sc_back 1 (by omega) _ l ⟨256 + r.val, by omega⟩ (by simp only; omega)))
        (fun r l => (readBack2 (a := 264) (k := 256) (b := 8) (j := 256) (o := 262) (n := 256) (by omega) (good_cons (o := 264) (n := 256) (by omega) (stored_1 H) (good_cons (o := 8) (n := 256) (by omega) (stored_0 H) good_nil)) rfl (by omega) (by omega) r l).trans
        (sc_back 2 (by omega) _ l ⟨256 + r.val, by omega⟩ (by simp only; omega))) w0 w1).trans (branch_eq _ ?_ ?_)
      all_goals ((try simp only [sub, row]); blk_simp [idx_out t]; try omega)
    · refine (branch_0 (R := sub (row t) 0 (by omega)) (xnAt H 0 (by omega) _) (colsAt H 0 1304 (by omega) rfl _)
        (colsAt H 1024 2328 (by omega) rfl _) (colsAt H 2048 3352 (by omega) rfl _) (colsAt H 4096 5400 (by omega) rfl _)
        H.h4 H.h7
        (fun r l => (loadBack (o := 7) (read_unread_whole _ _ _) HX (stored_0 H) (by omega) r l).trans
        (sc_back 1 (by omega) _ l ⟨0 + r.val, by omega⟩ (by simp only; omega)))
        (fun r l => (loadBack (o := 6) (read_unread_whole _ _ _) HX (stored_0 H) (by omega) r l).trans
        (sc_back 2 (by omega) _ l ⟨0 + r.val, by omega⟩ (by simp only; omega))) w0 w1).trans (branch_eq _ ?_ ?_)
      all_goals ((try simp only [sub, row]); blk_simp [idx_out t]; try omega)

end Cert.ProjIdeal.Final

end
-- ==== Proof.ProjValue.lean ====
/- The first projection and its reference compute the same ten arrays. -/
module

public import proofs.«01_k».proof.Proof.ProjSpec
public import proofs.«01_k».proof.Proof.ProjCols
public import proofs.«01_k».proof.Proof.ProjQuery
public import proofs.«01_k».proof.Proof.ProjKeyArr
public import proofs.«01_k».proof.Proof.ProjValArr
public import proofs.«01_k».proof.Proof.ProjBranch
public import proofs.«01_k».proof.Defs

@[expose] public section

set_option maxRecDepth 16384

noncomputable section

namespace Cert.ProjIdeal.Final

open Idealize.ShloMosaic Idealize.ShloMosaic.TcCoe Idealize.SL.Sem
open Cert.ProjIdeal Cert.ProjIdeal.Gen
open Cert.ProjMath

variable (m : (ℓ : Loc nD τ sig) → Buf (Elt Ideal) ℓ)

/-- Arguments that agree are the same. -/
theorem args_eq {m : (ℓ : Loc nD τ sig) → Buf (Elt Ideal) ℓ}
    {m' : (ℓ : Loc Cert.ProjRefIdeal.nD Cert.ProjRefIdeal.τ Cert.ProjRefIdeal.sig) → Buf (Elt Ideal) ℓ} (c : Dev nD)
    (e0 : m' ((c.tc : Thread _ Cert.ProjRefIdeal.τ).loc Cert.ProjRefIdeal.main_arg0) = m ((c.tc : Thread nD τ).loc main_arg0))
    (e1 : m' ((c.tc : Thread _ Cert.ProjRefIdeal.τ).loc Cert.ProjRefIdeal.main_arg1) = m ((c.tc : Thread nD τ).loc main_arg1))
    (e2 : m' ((c.tc : Thread _ Cert.ProjRefIdeal.τ).loc Cert.ProjRefIdeal.main_arg2) = m ((c.tc : Thread nD τ).loc main_arg2))
    (e3 : m' ((c.tc : Thread _ Cert.ProjRefIdeal.τ).loc Cert.ProjRefIdeal.main_arg3) = m ((c.tc : Thread nD τ).loc main_arg3))
    (e4 : m' ((c.tc : Thread _ Cert.ProjRefIdeal.τ).loc Cert.ProjRefIdeal.main_arg4) = m ((c.tc : Thread nD τ).loc main_arg4))
    (e5 : m' ((c.tc : Thread _ Cert.ProjRefIdeal.τ).loc Cert.ProjRefIdeal.main_arg5) = m ((c.tc : Thread nD τ).loc main_arg5))
    (e6 : m' ((c.tc : Thread _ Cert.ProjRefIdeal.τ).loc Cert.ProjRefIdeal.main_arg6) = m ((c.tc : Thread nD τ).loc main_arg6)) :
    Cert.ProjRef.refArgs m' c = args m c := by
  unfold Cert.ProjRef.refArgs args
  rw [e0, e1, e2, e3, e4, e5, e6]

/-- The kernel's run: it ends, with the ten results the formulas' arrays and the arguments unchanged. -/
theorem run (g : Dev nD → PrngReg) :
    θ_run defs (onTc (τ := τ) (main (F := Ideal))) ⟨m, fun _ => 0, g⟩ fun r => ∀ c : Dev nD,
      r.2.mem ((c.tc : Thread nD τ).loc main_v22_0) = qArr (args m c)
      ∧ r.2.mem ((c.tc : Thread nD τ).loc main_v22_1) = colArr (args m c) 512 (by omega)
      ∧ r.2.mem ((c.tc : Thread nD τ).loc main_v22_2) = colArr (args m c) 640 (by omega)
      ∧ r.2.mem ((c.tc : Thread nD τ).loc main_v22_3) = keyArr (args m c) 768 (by omega) 1
      ∧ r.2.mem ((c.tc : Thread nD τ).loc main_v22_4) = valArr (args m c) 896 (by omega)
      ∧ r.2.mem ((c.tc : Thread nD τ).loc main_v22_5) = keyArr (args m c) 1024 (by omega) 2
      ∧ r.2.mem ((c.tc : Thread nD τ).loc main_v22_6) = valArr (args m c) 1152 (by omega)
      ∧ r.2.mem ((c.tc : Thread nD τ).loc main_v22_7) = gateArr (args m c)
      ∧ r.2.mem ((c.tc : Thread nD τ).loc main_v22_8) = sgaArr (args m c)
      ∧ r.2.mem ((c.tc : Thread nD τ).loc main_v22_9) = branchArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c =>
    have hc := (h.1 c).1
    ⟨(hc 8).trans (final8 m c),
    (hc 9).trans (final9 m c),
    (hc 10).trans (final10 m c),
    (hc 11).trans (final11 m c),
    (hc 12).trans (final12 m c),
    (hc 13).trans (final13 m c),
    (hc 14).trans (final14 m c),
    (hc 15).trans (final15 m c),
    (hc 16).trans (final16 m c),
    (hc 17).trans (final17 m c), h.2 c⟩)
    (Idealize.ShloMosaic.θ_run_and (Cert.ProjIdeal.Gen.run_main m g) (Cert.ProjIdeal.Gen.unchanged m g))

/-- Both programs compute the formulas. -/
theorem algebraic : Cert.algebraic_ProjIdeal_ProjRefIdeal := by
  intro m g m' g' hpre hagree
  refine ⟨fun c => qArr (args m c),
    fun c => colArr (args m c) 512 (by omega),
    fun c => colArr (args m c) 640 (by omega),
    fun c => keyArr (args m c) 768 (by omega) 1,
    fun c => valArr (args m c) 896 (by omega),
    fun c => keyArr (args m c) 1024 (by omega) 2,
    fun c => valArr (args m c) 1152 (by omega),
    fun c => gateArr (args m c),
    fun c => sgaArr (args m c),
    fun c => branchArr (args m c), run m g,
    (θ_run _ _ _).mono (fun r h c => ?_) (Cert.ProjRef.run m' g')⟩
  obtain ⟨e0, e1, e2, e3, e4, e5, e6⟩ := hagree c
  have e := args_eq c e0 e1 e2 e3 e4 e5 e6
  have hh := h c
  rw [e] at hh
  exact hh

end Cert.ProjIdeal.Final

end
-- ==== Proof.CmpMath.lean ====
/- The compressed keys and values of the layer as plain formulas over extended reals: overlapping blocks of 32 tokens at
   a stride of 16, a learned position added to each token, one linear map per block. -/
module

public import proofs.«01_k».proof.Proof.Gen.CmpIdeal.Frame
public import Idealize.ShloMosaic.Lib.Pointwise

@[expose] public section

set_option maxRecDepth 16384

noncomputable section

namespace Cert.CmpMath

open Idealize.ShloMosaic Idealize.ShloMosaic.TcCoe Idealize.SL.Sem
open Cert.CmpIdeal Cert.CmpIdeal.Gen

/-- The seven argument arrays of the call. -/
structure Args where
  /-- the tokens' keys, two groups of 64 lanes -/
  k : FVec Ideal S32768x128 .f32
  /-- the tokens' values -/
  v : FVec Ideal S32768x128 .f32
  /-- the keys' gains -/
  kg : FVec Ideal S1x3x64 .f32
  /-- the positions added to the keys of a block -/
  pk : FVec Ideal S1x32x64 .f32
  /-- the positions added to the values of a block -/
  pv : FVec Ideal S1x32x64 .f32
  /-- the map of the blocks' keys -/
  wk : FVec Ideal S1x2048x64 .f32
  /-- the map of the blocks' values -/
  wv : FVec Ideal S1x2048x64 .f32

/-- The token at place `l` of chunk `c` of sequence `b`; a chunk is 16 tokens. -/
def tok (b : Fin 8) (c : Fin 256) (l : Fin 16) : Fin 32768 := ⟨b.val * 4096 + (c.val * 16 + l.val), by omega⟩

/-- Token `l` of block `c`, lane `d` of group `g`, with its position added. A block is its chunk and the next; the last
    block has no second half, which counts as zero. -/
def entry (x : FVec Ideal S32768x128 .f32) (pos : FVec Ideal S1x32x64 .f32) (b : Fin 8) (c : Fin 256) (g : Fin 2)
    (l : Fin 32) (d : Fin 64) : EReal :=
  if h : l.val < 16 then x (ix2 (tok b c ⟨l.val, h⟩) ⟨g.val * 64 + d.val, by omega⟩) + pos (ix3 0 l d)
  else if h' : c.val < 255 then
    x (ix2 (tok b ⟨c.val + 1, by omega⟩ ⟨l.val - 16, by omega⟩) ⟨g.val * 64 + d.val, by omega⟩) + pos (ix3 0 l d)
  else 0

/-- Lane `e` of compressed block `c`: the linear map of the block's 2048 numbers. -/
def comp (x : FVec Ideal S32768x128 .f32) (pos : FVec Ideal S1x32x64 .f32) (w : FVec Ideal S1x2048x64 .f32)
    (b : Fin 8) (c : Fin 256) (g : Fin 2) (e : Fin 64) : EReal :=
  ∑ k : Fin 2048, entry x pos b c g ⟨k.val / 64, by omega⟩ ⟨k.val % 64, by omega⟩ * w (ix3 0 k e)

/-- The reciprocal root mean square of 64 numbers. -/
def rms (f : Fin 64 → EReal) : EReal :=
  Ideal.rsqrt (Ideal.div (∑ j : Fin 64, f j * f j) (Ideal.ofBits .f32 0x42800000#32) + Ideal.ofBits .f32 0x358637BD#32)

variable (A : Args)

/-- The normalised compressed key. -/
def key (b : Fin 8) (g : Fin 2) (c : Fin 256) (e : Fin 64) : EReal :=
  comp A.k A.pk A.wk b c g e * rms (comp A.k A.pk A.wk b c g) * A.kg (ix3 0 0 e)

/-- The lanes beside the key of block `c`, which ends at position `16 c + 31`: ones in lanes 0, 1 and 4, the position's
    upper part in lane 2, its lower six bits in lane 3. -/
def lane (c : Fin 256) (l : Fin 64) : EReal :=
  if l.val = 0 ∨ l.val = 1 ∨ l.val = 4 then 1
  else if l.val = 2 then ((((c.val * 16 + 31) / 64 : ℕ) : ℝ) : EReal)
  else if l.val = 3 then ((((c.val * 16 + 31) % 64 : ℕ) : ℝ) : EReal) else 0

/-- A key with its lanes. -/
def keyLane (b : Fin 8) (g : Fin 2) (c : Fin 256) (l : Fin 128) : EReal :=
  if h : l.val < 64 then key A b g c ⟨l.val, h⟩ else lane c ⟨l.val - 64, by omega⟩

/-- The compressed keys as an array. -/
def keyArr : FVec Ideal S8x2x256x128 .bf16 := fun i => keyLane A (i 0) (i 1) (i 2) (i 3)

/-- The compressed values as an array. -/
def valArr : FVec Ideal S8x2x64x256 .bf16 := fun i => comp A.v A.pv A.wv (i 0) (i 3) (i 1) (i 2)

/-- The upper part of a block's last position, as the integer shift computes it. -/
theorem shr_pos (a : ArithUnit) (c : Fin 256) :
    FloatOps.sitofp (F := Ideal) FTy.f32 (IntOp.shrsi a (BitVec.ofNat 32 (c.val * 16 + 31)) 6#32)
      = ((((c.val * 16 + 31) / 64 : ℕ) : ℝ) : EReal) := by
  have h : ∀ a : ArithUnit, ∀ c : Fin 256,
      (IntOp.shrsi a (BitVec.ofNat 32 (c.val * 16 + 31)) 6#32).toInt = (((c.val * 16 + 31) / 64 : ℕ) : ℤ) := by
    intro a; cases a <;> decide +kernel
  change (((IntOp.shrsi a (BitVec.ofNat 32 (c.val * 16 + 31)) 6#32).toInt : ℝ) : EReal) = _
  rw [h a c, Int.cast_natCast]

/-- Its lower six bits, as the integer mask computes them. -/
theorem and_pos (c : Fin 256) :
    FloatOps.sitofp (F := Ideal) FTy.f32 (IntOp.andi (BitVec.ofNat 32 (c.val * 16 + 31)) 63#32)
      = ((((c.val * 16 + 31) % 64 : ℕ) : ℝ) : EReal) := by
  have h : ∀ c : Fin 256,
      (IntOp.andi (BitVec.ofNat 32 (c.val * 16 + 31)) 63#32).toInt = (((c.val * 16 + 31) % 64 : ℕ) : ℤ) := by
    decide +kernel
  change (((IntOp.andi (BitVec.ofNat 32 (c.val * 16 + 31)) 63#32).toInt : ℝ) : EReal) = _
  rw [h c, Int.cast_natCast]

/-- A block's last position, as the program computes it. -/
theorem pos_word (c : Fin 256) : IntOp.addi (IntOp.muli (BitVec.ofNat 32 c.val) 16#32) 31#32
    = BitVec.ofNat 32 (c.val * 16 + 31) := by
  revert c
  decide +kernel

/-- A number times the pattern of 1/64 is the number divided by the pattern of 64. -/
theorem div_64 (x : EReal) : x * Ideal.ofBits .f32 0x3C800000#32 = Ideal.div x (Ideal.ofBits .f32 0x42800000#32) := by
  have e : Ideal.ofBits .f32 0x42800000#32 = ((64 : ℝ) : EReal) := by
    simp [Ideal.ofBits, Ideal.ieee, -EReal.coe_mul]; norm_num
  have e' : Ideal.ofBits .f32 0x3C800000#32 = (((64 : ℝ)⁻¹ : ℝ) : EReal) := by
    simp [Ideal.ofBits, Ideal.ieee, -EReal.coe_mul]; norm_num
  rw [e, e', Ideal.div, if_neg (by norm_num), EReal.coe_inv]

/-- A sum over `a` rows of `b` lanes. -/
theorem sum_rows (a b : ℕ) (f : Fin (a * b) → EReal) :
    ∑ x, f x = ∑ i : Fin a, ∑ j : Fin b, f (finProdFinEquiv (i, j)) := by
  rw [← Fintype.sum_prod_type' (f := fun i j => f (finProdFinEquiv (i, j)))]
  exact (Fintype.sum_equiv finProdFinEquiv _ _ fun _ => rfl).symm

/-- The map of a block, token by token. -/
theorem comp_rows (x : FVec Ideal S32768x128 .f32) (pos : FVec Ideal S1x32x64 .f32) (w : FVec Ideal S1x2048x64 .f32)
    (b : Fin 8) (c : Fin 256) (g : Fin 2) (e : Fin 64) : comp x pos w b c g e
      = ∑ l : Fin 32, ∑ d : Fin 64, entry x pos b c g l d * w (ix3 0 ⟨l.val * 64 + d.val, by omega⟩ e) := by
  unfold comp
  refine (sum_rows 32 64 _).trans (Finset.sum_congr rfl fun l _ => Finset.sum_congr rfl fun d _ => ?_)
  have hv : (finProdFinEquiv (l, d)).val = d.val + 64 * l.val := rfl
  refine congrArg₂ (· * ·) (congrArg₂ (entry x pos b c g) (Fin.ext ?_) (Fin.ext ?_)) (congrArg (fun q => w (ix3 0 q e)) (Fin.ext ?_))
  · simp only [hv]; omega
  · simp only [hv]; omega
  · simp only [hv]; omega

end Cert.CmpMath

end
-- ==== Proof.CmpSpec.lean ====
/- The reference program of the compression read down to its formulas. -/
module

public import proofs.«01_k».proof.Proof.Gen.CmpRefIdeal.Run
public import proofs.«01_k».proof.Proof.CmpMath
public import Idealize.ShloMosaic.Lib.Pointwise

@[expose] public section

set_option maxRecDepth 16384

noncomputable section

namespace Cert.CmpRef

open Idealize.ShloMosaic Idealize.ShloMosaic.TcCoe Idealize.SL.Sem
open Idealize.ShloMosaic.StableHlo Cert.CmpRefIdeal Cert.CmpRefIdeal.Gen
open Cert.CmpMath

/-- The integer zero as a float. -/
theorem sitofp_zero : FloatOps.sitofp (F := Ideal) FTy.f32 (0#32) = (0 : EReal) := by
  change (((0#32 : BitVec 32).toInt : ℝ) : EReal) = 0
  simp

/-- The first half of every block with its positions, as an array term. -/
def rlo (x : FVec Ideal S32768x128 .f32) (pos : FVec Ideal S1x32x64 .f32) : FVec Ideal S8x256x16x2x64 .f32 :=
  addf (shapeCast _ x shapeCasts_S32768x128_S8x256x16x2x64) (broadcastInDim S8x256x16x2x64 ![0, 1, 2, 3, 4] bcast_S1x1x16x1x64_S8x256x16x2x64_0_1_2_3_4 (broadcastInDim S1x1x16x1x64 ![2, 4] bcast_S16x64_S1x1x16x1x64_2_4 (extractStridedSlice S16x64 ![0, 0] (shapeCast _ pos shapeCasts_S1x32x64_S32x64) slices_S32x64_S16x64_0_0)))

/-- The second half, zero for the last block, as an array term. -/
def rhi (x : FVec Ideal S32768x128 .f32) (pos : FVec Ideal S1x32x64 .f32) : FVec Ideal S8x256x16x2x64 .f32 :=
  pad S8x256x16x2x64 ![0, 0, 0, 0, 0] ![0, 1, 0, 0, 0] ![0, 0, 0, 0, 0] (extractStridedSlice S8x255x16x2x64 ![0, 1, 0, 0, 0] (addf (shapeCast _ x shapeCasts_S32768x128_S8x256x16x2x64) (broadcastInDim S8x256x16x2x64 ![0, 1, 2, 3, 4] bcast_S1x1x16x1x64_S8x256x16x2x64_0_1_2_3_4 (broadcastInDim S1x1x16x1x64 ![2, 4] bcast_S16x64_S1x1x16x1x64_2_4 (extractStridedSlice S16x64 ![16, 0] (shapeCast _ pos shapeCasts_S1x32x64_S32x64) slices_S32x64_S16x64_16_0)))) slices_S8x256x16x2x64_S8x255x16x2x64_0_1_0_0_0) (sitofp .f32 (constantI S_ 32 0#32)) pads_S8x255x16x2x64_S8x256x16x2x64_000_010_000_000_000 h_S_

/-- The blocks, each group's 2048 numbers in a row, as an array term. -/
def rflat (x : FVec Ideal S32768x128 .f32) (pos : FVec Ideal S1x32x64 .f32) : FVec Ideal S8x256x2x2048 .f32 :=
  shapeCast _ (transpose S8x256x2x32x64 [0, 1, 3, 2, 4] (concatenate S8x256x32x2x64 2 [⟨S8x256x16x2x64, (rlo x pos)⟩, ⟨S8x256x16x2x64, (rhi x pos)⟩] concatenates_S8x256x16x2x64_S8x256x16x2x64_S8x256x32x2x64_d2) transposes_S8x256x32x2x64_S8x256x2x32x64_0_1_3_2_4) shapeCasts_S8x256x2x32x64_S8x256x2x2048

/-- Their linear map, as an array term. -/
def rmap (x : FVec Ideal S32768x128 .f32) (pos : FVec Ideal S1x32x64 .f32) (w : FVec Ideal S1x2048x64 .f32) :
    FVec Ideal S8x256x2x64 .f32 :=
  Host.dotGeneral dot_S8x256x2x2048_S2048x64_S8x256x2x64_3_0_012_1_n_n none (rflat x pos) (shapeCast _ w shapeCasts_S1x2048x64_S2048x64)

variable (x : FVec Ideal S32768x128 .f32) (pos : FVec Ideal S1x32x64 .f32) (w : FVec Ideal S1x2048x64 .f32)

/-- An entry of a first half. -/
theorem rlo_apply (b : Fin 8) (c : Fin 256) (l : Fin 16) (g : Fin 2) (d : Fin 64) :
    rlo x pos (ix5 b c l g d) = entry x pos b c g ⟨l.val, by omega⟩ d := by
  refine Eq.trans ?_ (dif_pos l.isLt).symm
  pointwise [rlo]
  refine congrArg₂ (· + ·) (congrArg x (congrArg₂ ix2 (Fin.ext ?_) (Fin.ext ?_))) rfl
  all_goals first | rfl | (simp only [tok]; omega)

/-- An entry of a second half. -/
theorem rhi_apply (b : Fin 8) (c : Fin 256) (l : Fin 16) (g : Fin 2) (d : Fin 64) :
    rhi x pos (ix5 b c l g d) = entry x pos b c g ⟨16 + l.val, by omega⟩ d := by
  refine Eq.trans ?_ (dif_neg (by simp only; omega)).symm
  pointwise [rhi]
  simp only [sitofp_zero]
  by_cases h : c.val < 255
  · rw [dif_pos h, dif_pos h]
    refine congrArg₂ (· + ·) (congrArg x (congrArg₂ ix2 (Fin.ext ?_) rfl)) rfl
    simp only [tok]
    omega
  · rw [dif_neg h, dif_neg h]

/-- An entry of the blocks. -/
theorem rflat_apply (b : Fin 8) (c : Fin 256) (g : Fin 2) (k : Fin 2048) :
    rflat x pos (ix4 b c g k) = entry x pos b c g ⟨k.val / 64, by omega⟩ ⟨k.val % 64, by omega⟩ := by
  have h0 := rlo_apply x pos
  have h1 := rhi_apply x pos
  unfold rflat
  generalize rlo x pos = X at h0 ⊢
  generalize rhi x pos = Y at h1 ⊢
  pointwise []
  simp only [h0, h1]
  by_cases h : k.val / 64 < 16
  · rw [dif_pos h]
  · rw [dif_neg h]
    exact congrArg (fun q => entry x pos b c g q _) (Fin.ext (by simp only; omega))

/-- An entry of the map. -/
theorem rmap_apply (b : Fin 8) (c : Fin 256) (g : Fin 2) (e : Fin 64) :
    rmap x pos w (ix4 b c g e) = comp x pos w b c g e := by
  have h0 := rflat_apply x pos
  unfold rmap
  generalize rflat x pos = X at h0 ⊢
  pointwise []
  simp only [h0, comp]

/-- The last positions of the blocks. -/
def rend : IVec S256x1 32 :=
  addi (muli (broadcastInDim S256x1 ![0] bcast_S256_S256x1_0 (iotaInDim S256 32 0)) (broadcastInDim S256x1 ![] bcast_S_S256x1 (constantI S_ 32 16#32))) (broadcastInDim S256x1 ![] bcast_S_S256x1 (constantI S_ 32 31#32))

/-- The ones. -/
def rone : FVec Ideal S256x1 .f32 :=
  broadcastInDim S256x1 ![] bcast_S_S256x1 (constant (F := Ideal) S_ .f32 0x3F800000#32)

/-- The lanes beside the keys. -/
def rlanes : FVec Ideal S8x2x256x64 .f32 :=
  broadcastInDim S8x2x256x64 ![0, 1, 2, 3] bcast_S1x1x256x64_S8x2x256x64_0_1_2_3 (broadcastInDim S1x1x256x64 ![2, 3] bcast_S256x64_S1x1x256x64_2_3 ((concatenate S256x64 1 [⟨S256x1, (rone : FVec Ideal S256x1 .f32)⟩, ⟨S256x1, (rone : FVec Ideal S256x1 .f32)⟩, ⟨S256x1, ((sitofp .f32 (Host.shrsi rend (broadcastInDim S256x1 ![] bcast_S_S256x1 (constantI S_ 32 6#32)))) : FVec Ideal S256x1 .f32)⟩, ⟨S256x1, ((sitofp .f32 (andi rend (broadcastInDim S256x1 ![] bcast_S_S256x1 (constantI S_ 32 63#32)))) : FVec Ideal S256x1 .f32)⟩, ⟨S256x1, (rone : FVec Ideal S256x1 .f32)⟩, ⟨S256x59, ((broadcastInDim S256x59 ![] bcast_S_S256x59 (constant (F := Ideal) S_ .f32 0x00000000#32)) : FVec Ideal S256x59 .f32)⟩] concatenates_S256x1_S256x1_S256x1_S256x1_S256x1_S256x59_S256x64_d1 : FVec Ideal S256x64 .f32)))

/-- Their entries. -/
theorem rlanes_apply (b : Fin 8) (g : Fin 2) (c : Fin 256) (l : Fin 64) : rlanes (ix4 b g c l) = lane c l := by
  pointwise [rlanes, rend, rone]
  simp only [pos_word, shr_pos, and_pos, lane]
  split_ifs <;> first | rfl | (exfalso; omega)

variable {A : Args}

/-- The compressed values. -/
theorem val_eq {C : FVec Ideal S8x256x2x64 .f32} (hC : ∀ b c g e, C (ix4 b c g e) = comp A.v A.pv A.wv b c g e) :
    (truncf .bf16 (transpose S8x2x64x256 [0, 2, 3, 1] C transposes_S8x256x2x64_S8x2x64x256_0_2_3_1) bitsLt_bf16_f32 : FVec Ideal S8x2x64x256 .bf16) = valArr A := by
  funext i
  idx_vars i
  pointwise [valArr]
  simp only [hC]

/-- The normalised compressed keys with their lanes. -/
theorem key_eq {C : FVec Ideal S8x256x2x64 .f32} (hC : ∀ b c g e, C (ix4 b c g e) = comp A.k A.pk A.wk b c g e) :
    (truncf .bf16 (concatenate S8x2x256x128 3 [⟨S8x2x256x64, (transpose S8x2x256x64 [0, 2, 1, 3] (mulf (mulf C (broadcastInDim S8x256x2x64 ![0, 1, 2, 3] bcast_S8x256x2x1_S8x256x2x64_0_1_2_3 (Host.rsqrt (addf (Host.divf (broadcastInDim S8x256x2x1 ![0, 1, 2] bcast_S8x256x2_S8x256x2x1_0_1_2 (Host.reduceAdd (mulf C C) (constant S_ .f32 0x00000000#32) reducesTo_S8x256x2x64_S8x256x2_d3 h_S_)) (broadcastInDim S8x256x2x1 ![] bcast_S_S8x256x2x1 (constant S_ .f32 0x42800000#32))) (broadcastInDim S8x256x2x1 ![] bcast_S_S8x256x2x1 (constant S_ .f32 0x358637BD#32)))))) (broadcastInDim S8x256x2x64 ![0, 1, 2, 3] bcast_S1x1x1x64_S8x256x2x64_0_1_2_3 (broadcastInDim S1x1x1x64 ![3] bcast_S64_S1x1x1x64_3 (shapeCast _ (extractStridedSlice S1x1x64 ![0, 0, 0] A.kg slices_S1x3x64_S1x1x64_0_0_0) shapeCasts_S1x1x64_S64)))) transposes_S8x256x2x64_S8x2x256x64_0_2_1_3)⟩, ⟨S8x2x256x64, rlanes⟩] concatenates_S8x2x256x64_S8x2x256x64_S8x2x256x128_d3) bitsLt_bf16_f32 : FVec Ideal S8x2x256x128 .bf16) = keyArr A := by
  have hl := rlanes_apply
  generalize rlanes = L at hl ⊢
  funext i
  idx_vars i
  pointwise [keyArr]
  simp only [hC, hl, keyLane, key, rms]

/-- The reference program's argument arrays. -/
def refArgs (m : (ℓ : Loc nD τ sig) → Buf (Elt Ideal) ℓ) (c : Dev nD) : Args :=
  ⟨m ((c.tc : Thread nD τ).loc main_arg0), m ((c.tc : Thread nD τ).loc main_arg1),
   m ((c.tc : Thread nD τ).loc main_arg2), m ((c.tc : Thread nD τ).loc main_arg3),
   m ((c.tc : Thread nD τ).loc main_arg4), m ((c.tc : Thread nD τ).loc main_arg5),
   m ((c.tc : Thread nD τ).loc main_arg6)⟩

/-- The reference's run: it ends, with the two results the formulas' arrays and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68) = keyArr (refArgs m c)
      ∧ r.2.mem ((c.tc : Thread nD τ).loc main_v70) = valArr (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.CmpRefIdeal.Value.run m ρ)
  obtain ⟨h0, h1, hr⟩ := h c
  unfold Cert.CmpRefIdeal.Value.res_main_v68 at h0
  exact ⟨h0.trans (key_eq (A := refArgs m c) (rmap_apply (refArgs m c).k (refArgs m c).pk (refArgs m c).wk)),
    h1.trans (val_eq (A := refArgs m c) (rmap_apply (refArgs m c).v (refArgs m c).pv (refArgs m c).wv)), hr⟩

end Cert.CmpRef

end
-- ==== Proof.CmpBlock.lean ====
/- What one grid point (one sequence) of the compression computes from its input blocks. -/
module

public import proofs.«01_k».proof.Proof.CmpMath

@[expose] public section

set_option maxRecDepth 16384

noncomputable section

namespace Cert.CmpIdeal.Block

open Idealize.ShloMosaic Idealize.ShloMosaic.TcCoe Idealize.SL.Sem
open Cert.CmpIdeal Cert.CmpIdeal.Gen
open Cert.CmpMath

/-- Place `l` of every chunk: every sixteenth row from row `l` on. -/
def rows (y : FVec Ideal S4096x128 .f32) (l : ℕ) : FVec Ideal S256x128 .f32 :=
  fun i => y (ix2 ⟨(i 0).val * 16 + l % 16, by have := (i 0).isLt; change (i 0).val < 256 at this; omega⟩ (i 1))

/-- Row `l` of the positions. -/
def prow (y : FVec Ideal S32x256 .f32) (l : ℕ) : FVec Ideal S1x256 .f32 := fun i => y (ix2 ⟨l % 32, by omega⟩ (i 1))

/-- Slab `l` of the weights. -/
def slab (y : FVec Ideal S32x256x384 .bf16) (l : ℕ) : FVec Ideal S1x256x384 .bf16 :=
  fun i => y (ix3 ⟨l % 32, by omega⟩ (i 1) (i 2))

/-- One product: the tokens at one place of the chunks, keys and values side by side, with their positions added. -/
def prod (u v : FVec Ideal S256x128 .f32) (p : FVec Ideal S1x256 .f32) (w : FVec Ideal S1x256x384 .bf16) :
    FVec Ideal S256x384 .f32 :=
  matmul dot_S256x256_S256x384_S256x384_1_0_0_1_n_n none
    (truncf .bf16 (addf (concatenate S256x256 1 [⟨S256x128, u⟩, ⟨S256x128, v⟩] concatenates_S256x128_S256x128_S256x256_d1)
      (broadcastTo S256x256 (shapeCast S1x256 p shapeCasts_S1x256_S1x256) broadcasts_S1x256_S256x256)) bitsLt_bf16_f32)
    (shapeCast S256x384 w shapeCasts_S1x256x384_S256x384) (constant S256x384 .f32 0x00000000#32)

/-- The sum of the first `n` products, positions and weights from `o` on. -/
def acc (r0 r1 : ℕ → FVec Ideal S256x128 .f32) (p : ℕ → FVec Ideal S1x256 .f32) (w : ℕ → FVec Ideal S1x256x384 .bf16)
    (o : ℕ) : ℕ → FVec Ideal S256x384 .f32
  | 0 => broadcast S256x384 (Scalar.ofBits .f32 0x00000000#32)
  | n + 1 => addf (acc r0 r1 p w o n) (prod (r0 n) (r1 n) (p (o + n)) (w (o + n)))

/-- The body's first accumulator. -/
theorem chain_lo (r0 r1 : ℕ → FVec Ideal S256x128 .f32) (p : ℕ → FVec Ideal S1x256 .f32)
    (w : ℕ → FVec Ideal S1x256x384 .bf16) :
    (k0_pay48 (k0_pay43 (k0_pay41 (k0_pay35 (k0_pay29 (k0_pay26 (k0_pay20 (k0_pay13 (k0_pay10 (k0_pay4 (r0 0) (r1 0)
    (p 0) (w 0)) (k0_pay7 (r0 1) (r1 1) (p 1)) (w 1) (r0 2) (r1 2) (p 2) (w 2)) (r0 3) (r1 3) (p 3) (w 3)) (k0_pay16
    (r0 4) (r1 4) (p 4)) (k0_pay18 (w 4)) (constant S256x384 .f32 0x00000000#32) (r0 5) (r1 5) (p 5) (w 5))
    (k0_pay23 (r0 6) (r1 6) (p 6)) (w 6) (r0 7) (r1 7) (p 7) (w 7)) (r0 8) (r1 8) (p 8) (w 8)) (k0_pay32 (r0 9) (r1
    9) (p 9)) (w 9) (r0 10) (r1 10) (p 10) (w 10)) (k0_pay37 (r0 11) (r1 11)) (p 11) (w 11) (r0 12) (r1 12) (p 12)
    (w 12)) (r0 13) (r1 13) (p 13) (w 13)) (k0_pay46 (r0 14) (r1 14) (p 14)) (w 14) (r0 15) (r1 15) (p 15) (w 15))
      = acc r0 r1 p w 0 16 := rfl

/-- The body's second accumulator. -/
theorem chain_hi (r0 r1 : ℕ → FVec Ideal S256x128 .f32) (p : ℕ → FVec Ideal S1x256 .f32)
    (w : ℕ → FVec Ideal S1x256x384 .bf16) :
    (k0_pay49 (k0_pay44 (k0_pay38 (k0_pay36 (k0_pay30 (k0_pay24 (k0_pay21 (k0_pay14 (k0_pay11 (k0_pay5 (r0 0) (r1 0)
    (p 16) (w 16)) (k0_pay6 (r0 1) (r1 1)) (k0_pay8 (p 17)) (w 17) (r0 2) (r1 2) (p 18) (w 18)) (r0 3) (r1 3) (p 19)
    (w 19)) (k0_pay17 (r0 4) (r1 4) (p 20)) (w 20) (r0 5) (r1 5) (p 21) (w 21)) (k0_pay22 (r0 6) (r1 6)) (p 22) (w
    22)) (k0_pay27 (r0 7) (r1 7) (p 23) (w 23)) (r0 8) (r1 8) (p 24) (w 24)) (k0_pay33 (r0 9) (r1 9) (p 25)) (w 25)
    (r0 10) (r1 10) (p 26) (w 26)) (k0_pay37 (r0 11) (r1 11)) (p 27) (w 27)) (k0_pay40 (r0 12) (r1 12) (p 28)) (w
    28) (r0 13) (r1 13) (p 29) (w 29)) (k0_pay45 (r0 14) (r1 14)) (p 30) (w 30) (r0 15) (r1 15) (p 31) (w 31))
      = acc r0 r1 p w 16 16 := rfl

/-- The lanes of both inputs side by side. -/
def side (u v : FVec Ideal S256x128 .f32) (r : Fin 256) (l : Fin 256) : EReal :=
  if h : l.val < 128 then u (ix2 r ⟨l.val, h⟩) else v (ix2 r ⟨l.val - 128, by omega⟩)

/-- One product, entry by entry. -/
theorem prod_apply (u v : FVec Ideal S256x128 .f32) (p : FVec Ideal S1x256 .f32) (w : FVec Ideal S1x256x384 .bf16)
    (r : Fin 256) (j : Fin 384) :
    prod u v p w (ix2 r j) = ∑ l : Fin 256, (side u v r l + p (ix2 0 l)) * w (ix3 0 l j) := by
  pointwise [prod, side]

/-- The sum of products, entry by entry. -/
theorem acc_apply (r0 r1 : ℕ → FVec Ideal S256x128 .f32) (p : ℕ → FVec Ideal S1x256 .f32)
    (w : ℕ → FVec Ideal S1x256x384 .bf16) (o n : ℕ) (r : Fin 256) (j : Fin 384) : acc r0 r1 p w o n (ix2 r j)
      = ∑ k : Fin n, ∑ l : Fin 256, (side (r0 k.val) (r1 k.val) r l + p (o + k.val) (ix2 0 l)) * w (o + k.val) (ix3 0 l j) := by
  induction n with
  | zero =>
    pointwise [acc]
    exact (Fin.sum_univ_zero _).symm
  | succ n ih =>
    rw [Fin.sum_univ_castSucc]
    refine congrArg₂ (fun a b : EReal => a + b) ih ?_
    exact prod_apply _ _ _ _ _ _

/-- A sum over four segments of 64 lanes of which only segment `n` counts. -/
theorem sum_segment (f : Fin 256 → EReal) (w : Fin 64 → EReal) (n : Fin 4) :
    (∑ l : Fin 256, f l * (if l.val / 64 = n.val then w ⟨l.val % 64, by omega⟩ else 0))
      = ∑ d : Fin 64, f ⟨n.val * 64 + d.val, by omega⟩ * w d := by
  refine (sum_rows 4 64 _).trans ((Finset.sum_eq_single n (fun i _ hi => ?_) (fun h => absurd (Finset.mem_univ n) h)).trans ?_)
  · refine Finset.sum_eq_zero fun d _ => ?_
    have hv : (finProdFinEquiv (i, d)).val = d.val + 64 * i.val := rfl
    have hi' : i.val ≠ n.val := fun q => hi (Fin.ext q)
    rw [if_neg (by rw [hv]; omega), mul_zero]
  · refine Finset.sum_congr rfl fun d _ => ?_
    have hv : (finProdFinEquiv (n, d)).val = d.val + 64 * n.val := rfl
    rw [if_pos (by rw [hv]; omega)]
    refine congrArg₂ (· * ·) (congrArg f (Fin.ext ?_)) (congrArg w (Fin.ext ?_))
    · rw [hv]; simp only; omega
    · simp only [hv]; omega

/-- The column of the accumulators where segment `n` starts: the keys' two groups, then the values' two. -/
def start (n : Fin 4) : ℕ := if n.val < 2 then 128 * n.val else 128 + 64 * n.val

/-- Segments end inside the accumulators. -/
theorem start_le (n : Fin 4) : start n + 64 ≤ 384 := by
  unfold start; split_ifs <;> omega

/-- What the input blocks of the point for sequence `b` hold: the keys and values of the sequence, the positions for the
    keys' two groups and the values' two groups side by side, the weights on the diagonal of four segments with zeros
    elsewhere, the keys' gains padded by zeros. -/
structure Reads (A : Args) (b : Fin 8) (y0 y1 : FVec Ideal S4096x128 .f32) (y2 : FVec Ideal S32x256 .f32)
    (y3 : FVec Ideal S32x256x384 .bf16) (y4 : FVec Ideal S3x128 .f32) : Prop where
  h0 : ∀ (n : Fin 4096) l, y0 (ix2 n l) = A.k (ix2 ⟨b.val * 4096 + n.val, by omega⟩ l)
  h1 : ∀ (n : Fin 4096) l, y1 (ix2 n l) = A.v (ix2 ⟨b.val * 4096 + n.val, by omega⟩ l)
  h2 : ∀ l (n : Fin 4) (d : Fin 64), y2 (ix2 l ⟨n.val * 64 + d.val, by omega⟩)
    = if n.val < 2 then A.pk (ix3 0 l d) else A.pv (ix3 0 l d)
  h3 : ∀ (l : Fin 32) (i : Fin 256) (n : Fin 4) (e : Fin 64),
    y3 (ix3 l i ⟨start n + e.val, by have := start_le n; omega⟩)
      = if i.val / 64 = n.val then (if n.val < 2 then A.wk (ix3 0 ⟨l.val * 64 + i.val % 64, by omega⟩ e)
          else A.wv (ix3 0 ⟨l.val * 64 + i.val % 64, by omega⟩ e)) else 0
  h3z : ∀ (l : Fin 32) (i : Fin 256) (n : Fin 2) (e : Fin 64), y3 (ix3 l i ⟨128 * n.val + (64 + e.val), by omega⟩) = 0
  h4 : ∀ l : Fin 128, y4 (ix2 0 l) = if h : l.val < 64 then A.kg (ix3 0 0 ⟨l.val, h⟩) else 0

section
variable {A : Args} {b : Fin 8} {y0 y1 : FVec Ideal S4096x128 .f32} {y2 : FVec Ideal S32x256 .f32}
  {y3 : FVec Ideal S32x256x384 .bf16} {y4 : FVec Ideal S3x128 .f32}

/-- The array, positions and map of segment `n`. -/
def sx (A : Args) (n : Fin 4) : FVec Ideal S32768x128 .f32 := if n.val < 2 then A.k else A.v
/-- The same for the positions. -/
def sp (A : Args) (n : Fin 4) : FVec Ideal S1x32x64 .f32 := if n.val < 2 then A.pk else A.pv
/-- The same for the map. -/
def sw (A : Args) (n : Fin 4) : FVec Ideal S1x2048x64 .f32 := if n.val < 2 then A.wk else A.wv
/-- The group of segment `n`. -/
def sg (n : Fin 4) : Fin 2 := ⟨n.val % 2, by omega⟩

/-- The token row of a place of a chunk. -/
theorem side_apply (H : Reads A b y0 y1 y2 y3 y4) (k : Fin 16) (r : Fin 256) (n : Fin 4) (d : Fin 64) :
    side (rows y0 k.val) (rows y1 k.val) r ⟨n.val * 64 + d.val, by omega⟩
      = sx A n (ix2 (tok b r k) ⟨(sg n).val * 64 + d.val, by omega⟩) := by
  have hk : k.val % 16 = k.val := Nat.mod_eq_of_lt k.isLt
  unfold side sx
  by_cases h : n.val < 2
  · rw [dif_pos (show n.val * 64 + d.val < 128 by omega), if_pos h]
    refine (H.h0 _ _).trans (congrArg A.k (congrArg₂ ix2 (Fin.ext ?_) (Fin.ext ?_)))
    · simp only [tok, ix2, hk]
    · simp only [sg]; change n.val * 64 + d.val = _; omega
  · rw [dif_neg (show ¬ n.val * 64 + d.val < 128 by omega), if_neg h]
    refine (H.h1 _ _).trans (congrArg A.v (congrArg₂ ix2 (Fin.ext ?_) (Fin.ext ?_)))
    · simp only [tok, ix2, hk]
    · simp only [sg]; change n.val * 64 + d.val - 128 = _; omega

/-- A segment's columns of an accumulator. -/
theorem acc_segment (H : Reads A b y0 y1 y2 y3 y4) (o : ℕ) (ho : o + 16 ≤ 32) (r : Fin 256) (n : Fin 4) (e : Fin 64) :
    acc (rows y0) (rows y1) (prow y2) (slab y3) o 16 (ix2 r ⟨start n + e.val, by have := start_le n; omega⟩)
      = ∑ k : Fin 16, ∑ d : Fin 64, (sx A n (ix2 (tok b r k) ⟨(sg n).val * 64 + d.val, by omega⟩)
          + sp A n (ix3 0 ⟨o + k.val, by omega⟩ d)) * sw A n (ix3 0 ⟨(o + k.val) * 64 + d.val, by omega⟩ e) := by
  refine (acc_apply _ _ _ _ _ _ _ _).trans (Finset.sum_congr rfl fun k _ => ?_)
  have hk : (o + k.val) % 32 = o + k.val := Nat.mod_eq_of_lt (by omega)
  have hw : ∀ l : Fin 256, slab y3 (o + k.val) (ix3 0 l ⟨start n + e.val, by have := start_le n; omega⟩)
      = if l.val / 64 = n.val then (fun d : Fin 64 => sw A n (ix3 0 ⟨(o + k.val) * 64 + d.val, by omega⟩ e)) ⟨l.val % 64, by omega⟩
        else 0 := fun l => by
    refine (H.h3 ⟨(o + k.val) % 32, by omega⟩ l n e).trans ?_
    split_ifs with q q' <;> simp only [sw, *, if_true, if_false]
  refine ((Finset.sum_congr rfl fun l _ => congrArg (_ * ·) (hw l)).trans (sum_segment
    (fun l => side (rows y0 k.val) (rows y1 k.val) r l + prow y2 (o + k.val) (ix2 0 l))
    (fun d => sw A n (ix3 0 ⟨(o + k.val) * 64 + d.val, by omega⟩ e)) n)).trans ?_
  refine Finset.sum_congr rfl fun d _ => congrArg (· * _) (congrArg₂ (fun a b : EReal => a + b) (side_apply H k r n d) ?_)
  refine (H.h2 ⟨(o + k.val) % 32, by omega⟩ n d).trans ?_
  unfold sp
  split_ifs <;> simp only [hk]

/-- The columns beside the keys' segments are zero. -/
theorem acc_zero (H : Reads A b y0 y1 y2 y3 y4) (o : ℕ) (r : Fin 256) (n : Fin 2) (e : Fin 64) :
    acc (rows y0) (rows y1) (prow y2) (slab y3) o 16 (ix2 r ⟨128 * n.val + (64 + e.val), by omega⟩) = 0 := by
  refine (acc_apply _ _ _ _ _ _ _ _).trans (Finset.sum_eq_zero fun k _ => Finset.sum_eq_zero fun l _ => ?_)
  refine (congrArg (_ * ·) (H.h3z ⟨(o + k.val) % 32, by omega⟩ l n e)).trans (mul_zero _)

/-- The second accumulator one row up, with a row of zeros at the end. -/
def shifted (y0 y1 : FVec Ideal S4096x128 .f32) (y2 : FVec Ideal S32x256 .f32) (y3 : FVec Ideal S32x256x384 .bf16) :
    FVec Ideal S256x384 .f32 := fun i =>
  if h : (i 0).val < 255 then acc (rows y0) (rows y1) (prow y2) (slab y3) 16 16 (ix2 ⟨(i 0).val + 1, by omega⟩ (i 1)) else 0

/-- The sum of both accumulators. -/
def total (y0 y1 : FVec Ideal S4096x128 .f32) (y2 : FVec Ideal S32x256 .f32) (y3 : FVec Ideal S32x256x384 .bf16) :
    FVec Ideal S256x384 .f32 := addf (acc (rows y0) (rows y1) (prow y2) (slab y3) 0 16) (shifted y0 y1 y2 y3)

/-- A segment of the sum is the compressed block. -/
theorem total_segment (H : Reads A b y0 y1 y2 y3 y4) (r : Fin 256) (n : Fin 4) (e : Fin 64) :
    total y0 y1 y2 y3 (ix2 r ⟨start n + e.val, by have := start_le n; omega⟩)
      = comp (sx A n) (sp A n) (sw A n) b r (sg n) e := by
  refine Eq.trans ?_ ((comp_rows _ _ _ _ _ _ _).trans (Fin.sum_univ_add (a := 16) (b := 16) _)).symm
  refine congrArg₂ (fun a b : EReal => a + b) ((acc_segment H 0 (by omega) r n e).trans ?_) ?_
  · refine Finset.sum_congr rfl fun k _ => Finset.sum_congr rfl fun d _ => ?_
    unfold entry
    rw [dif_pos (show (Fin.castAdd 16 k).val < 16 from k.isLt)]
    refine congrArg₂ (· * ·) (congrArg (_ + ·) (congrArg (fun q => sp A n (ix3 0 q d)) (Fin.ext (Nat.zero_add _))))
      (congrArg (fun q => sw A n (ix3 0 q e)) (Fin.ext ?_))
    change (0 + k.val) * 64 + d.val = k.val * 64 + d.val
    omega
  · unfold shifted
    by_cases h : r.val < 255
    · refine (dif_pos h).trans ((acc_segment H 16 (by omega) ⟨r.val + 1, by omega⟩ n e).trans ?_)
      refine Finset.sum_congr rfl fun k _ => Finset.sum_congr rfl fun d _ => ?_
      unfold entry
      rw [dif_neg (show ¬ (Fin.natAdd 16 k).val < 16 by simp), dif_pos h]
      refine congrArg₂ (· * ·) (congrArg₂ (fun a b : EReal => a + b)
        (congrArg (fun q => sx A n (ix2 (tok b ⟨r.val + 1, by omega⟩ q) _)) (Fin.ext ?_)) rfl) rfl
      change k.val = 16 + k.val - 16
      omega
    · refine (dif_neg h).trans (Finset.sum_eq_zero fun k _ => Finset.sum_eq_zero fun d _ => ?_).symm
      unfold entry
      rw [dif_neg (show ¬ (Fin.natAdd 16 k).val < 16 by simp), dif_neg h, zero_mul]

/-- The columns beside the keys' segments of the sum are zero. -/
theorem total_zero (H : Reads A b y0 y1 y2 y3 y4) (r : Fin 256) (n : Fin 2) (e : Fin 64) :
    total y0 y1 y2 y3 (ix2 r ⟨128 * n.val + (64 + e.val), by omega⟩) = 0 := by
  refine (congrArg₂ (fun a b : EReal => a + b) (acc_zero H 0 r n e) (show shifted y0 y1 y2 y3 _ = 0 from ?_)).trans (add_zero _)
  unfold shifted
  split_ifs with h
  · exact acc_zero H 16 ⟨r.val + 1, by change r.val < 255 at h; omega⟩ n e
  · rfl

/-- A key group's 128 columns: the compressed block, then zeros. -/
theorem total_key (H : Reads A b y0 y1 y2 y3 y4) (r : Fin 256) (g : Fin 2) (l : Fin 128) :
    total y0 y1 y2 y3 (ix2 r ⟨128 * g.val + l.val, by omega⟩)
      = if h : l.val < 64 then comp A.k A.pk A.wk b r g ⟨l.val, h⟩ else 0 := by
  by_cases h : l.val < 64
  · rw [dif_pos h]
    have q := total_segment H r ⟨g.val, by omega⟩ ⟨l.val, h⟩
    have e1 : sx A ⟨g.val, by omega⟩ = A.k := if_pos g.isLt
    have e2 : sp A ⟨g.val, by omega⟩ = A.pk := if_pos g.isLt
    have e3 : sw A ⟨g.val, by omega⟩ = A.wk := if_pos g.isLt
    have e4 : sg ⟨g.val, by omega⟩ = g := Fin.ext (Nat.mod_eq_of_lt g.isLt)
    rw [e1, e2, e3, e4] at q
    refine Eq.trans (congrArg (fun q => total y0 y1 y2 y3 (ix2 r q)) (Fin.ext ?_)) q
    simp only [start, if_pos g.isLt]
  · rw [dif_neg h]
    refine Eq.trans (congrArg (fun q => total y0 y1 y2 y3 (ix2 r q)) (Fin.ext ?_)) (total_zero H r g ⟨l.val - 64, by omega⟩)
    simp only
    omega

/-- A value group's 64 columns. -/
theorem total_val (H : Reads A b y0 y1 y2 y3 y4) (r : Fin 256) (g : Fin 2) (e : Fin 64) :
    total y0 y1 y2 y3 (ix2 r ⟨256 + (64 * g.val + e.val), by omega⟩) = comp A.v A.pv A.wv b r g e := by
  have q := total_segment H r ⟨2 + g.val, by omega⟩ e
  have hn : ¬ (2 + g.val) < 2 := by omega
  have e1 : sx A ⟨2 + g.val, by omega⟩ = A.v := if_neg hn
  have e2 : sp A ⟨2 + g.val, by omega⟩ = A.pv := if_neg hn
  have e3 : sw A ⟨2 + g.val, by omega⟩ = A.wv := if_neg hn
  have e4 : sg ⟨2 + g.val, by omega⟩ = g := Fin.ext (by simp only [sg]; omega)
  rw [e1, e2, e3, e4] at q
  refine Eq.trans (congrArg (fun q => total y0 y1 y2 y3 (ix2 r q)) (Fin.ext ?_)) q
  simp only [start, if_neg hn]
  omega

end

end Cert.CmpIdeal.Block

end
-- ==== Proof.CmpOut.lean ====
/- The blocks a grid point of the compression stores. -/
module

public import proofs.«01_k».proof.Proof.CmpBlock

@[expose] public section

set_option maxRecDepth 16384

noncomputable section

namespace Cert.CmpIdeal.Block

open Idealize.ShloMosaic Idealize.ShloMosaic.TcCoe Idealize.SL.Sem
open Cert.CmpIdeal Cert.CmpIdeal.Gen
open Cert.CmpMath

/-- Which lanes hold ones. -/
theorem one_lanes (l : Fin 128) :
    IntOp.ori (IntOp.ori (IntOp.cmpi .eq (BitVec.ofNat 32 l.val) 64#32) (IntOp.cmpi .eq (BitVec.ofNat 32 l.val) 65#32))
      (IntOp.cmpi .eq (BitVec.ofNat 32 l.val) 68#32)
      = if l.val = 64 ∨ l.val = 65 ∨ l.val = 68 then 1#1 else 0#1 := by
  revert l
  decide +kernel

/-- Which lane is lane 66. -/
theorem lane_66 (l : Fin 128) :
    IntOp.cmpi .eq (BitVec.ofNat 32 l.val) 66#32 = if l.val = 66 then 1#1 else 0#1 := by
  revert l
  decide +kernel

/-- Which lane is lane 67. -/
theorem lane_67 (l : Fin 128) :
    IntOp.cmpi .eq (BitVec.ofNat 32 l.val) 67#32 = if l.val = 67 then 1#1 else 0#1 := by
  revert l
  decide +kernel

/-- The lanes beside the keys. -/
theorem lanes_apply (r : Fin 256) (l : Fin 128) :
    k0_pay53 (F := Ideal) (ix2 r l) = if h : l.val < 64 then 0 else lane r ⟨l.val - 64, by omega⟩ := by
  pointwise [k0_pay53]
  rw [pos_word, shr_pos, and_pos, one_lanes, lane_66, lane_67]
  unfold lane Scalar.select
  simp only
  by_cases h : l.val < 64
  · rw [dif_pos h, if_neg (show ¬ (l.val = 64 ∨ l.val = 65 ∨ l.val = 68) by omega), if_neg (show ¬ l.val = 66 by omega),
      if_neg (show ¬ l.val = 67 by omega)]
    rfl
  rw [dif_neg h]
  by_cases h1 : l.val = 64 ∨ l.val = 65 ∨ l.val = 68
  · rw [if_pos h1, if_pos (show l.val - 64 = 0 ∨ l.val - 64 = 1 ∨ l.val - 64 = 4 by omega)]
    rfl
  rw [if_neg h1, if_neg (show ¬ (l.val - 64 = 0 ∨ l.val - 64 = 1 ∨ l.val - 64 = 4) by omega)]
  by_cases h2 : l.val = 66
  · rw [if_pos h2, if_pos (show l.val - 64 = 2 by omega)]
    rfl
  rw [if_neg h2, if_neg (show ¬ l.val - 64 = 2 by omega)]
  by_cases h3 : l.val = 67
  · rw [if_pos h3, if_pos (show l.val - 64 = 3 by omega)]
    rfl
  rw [if_neg h3, if_neg (show ¬ l.val - 64 = 3 by omega)]
  rfl

/-- The squares of 64 numbers followed by 64 zeros sum to those of the 64 numbers. -/
theorem sum_sq_pad (f : Fin 64 → EReal) :
    (∑ l : Fin 128, (if h : l.val < 64 then f ⟨l.val, h⟩ else 0) * (if h : l.val < 64 then f ⟨l.val, h⟩ else 0))
      = ∑ j : Fin 64, f j * f j := by
  refine (Fin.sum_univ_add (a := 64) (b := 64) _).trans ?_
  simp

section
variable {A : Args} {b : Fin 8} {T : FVec Ideal S256x384 .f32} {w : FVec Ideal S1x128 .f32}

/-- A tensor holds the compressed blocks in its segments and zeros beside the keys'. -/
structure Total (A : Args) (b : Fin 8) (T : FVec Ideal S256x384 .f32) : Prop where
  key : ∀ (r : Fin 256) (g : Fin 2) (l : Fin 128), T (ix2 r ⟨128 * g.val + l.val, by omega⟩)
    = if h : l.val < 64 then comp A.k A.pk A.wk b r g ⟨l.val, h⟩ else 0
  val : ∀ (r : Fin 256) (g : Fin 2) (e : Fin 64), T (ix2 r ⟨256 + (64 * g.val + e.val), by omega⟩)
    = comp A.v A.pv A.wv b r g e

/-- The first group's keys. -/
theorem key0_apply (hT : Total A b T) (hw : ∀ l : Fin 128, w (ix2 0 l) = if h : l.val < 64 then A.kg (ix3 0 0 ⟨l.val, h⟩) else 0)
    (r : Fin 256) (l : Fin 128) : k0_pay56 (F := Ideal) T k0_pay53 w (ix4 0 0 r l) = keyLane A b 0 r l := by
  have hK : ∀ l : Fin 128, T (ix2 r ⟨l.val, by omega⟩) = if h : l.val < 64 then comp A.k A.pk A.wk b r 0 ⟨l.val, h⟩ else 0 :=
    fun l => by
      refine Eq.trans (congrArg (fun q => T (ix2 r q)) (Fin.ext ?_)) (hT.key r 0 l)
      exact (Nat.zero_add _).symm
  have hL := lanes_apply r
  generalize k0_pay53 (F := Ideal) = L at hL ⊢
  pointwise [k0_pay56]
  simp only [hK, hL, hw, div_64]
  rw [sum_sq_pad (comp A.k A.pk A.wk b r 0)]
  unfold keyLane key rms
  split_ifs with h
  · rw [add_zero]
  · rw [zero_mul, zero_mul, zero_add]

/-- The second group's keys. -/
theorem key1_apply (hT : Total A b T) (hw : ∀ l : Fin 128, w (ix2 0 l) = if h : l.val < 64 then A.kg (ix3 0 0 ⟨l.val, h⟩) else 0)
    (r : Fin 256) (l : Fin 128) :
    k0_pay1 (F := Ideal) k0_pay53 (k0_pay58 T) (k0_pay59 w) (ix4 0 0 r l) = keyLane A b 1 r l := by
  have hK : ∀ l : Fin 128, T (ix2 r ⟨128 + l.val, by omega⟩) = if h : l.val < 64 then comp A.k A.pk A.wk b r 1 ⟨l.val, h⟩ else 0 :=
    fun l => hT.key r 1 l
  have hL := lanes_apply r
  generalize k0_pay53 (F := Ideal) = L at hL ⊢
  pointwise [k0_pay1, k0_pay58, k0_pay59]
  simp only [hK, hL, hw, div_64]
  rw [sum_sq_pad (comp A.k A.pk A.wk b r 1)]
  unfold keyLane key rms
  split_ifs with h
  · rw [add_zero]
  · rw [zero_mul, zero_mul, zero_add]

/-- The first group's values. -/
theorem val0_apply {U V : FVec Ideal S256x384 .f32} (hT : Total A b (addf U V)) (e : Fin 64) (r : Fin 256) :
    k0_pay57 (F := Ideal) (k0_pay54 U V) (ix4 0 0 e r) = comp A.v A.pv A.wv b r 0 e := by
  have hV : ∀ (r : Fin 256) (e : Fin 64), (addf U V : FVec Ideal S256x384 .f32) (ix2 r ⟨256 + e.val, by omega⟩)
      = comp A.v A.pv A.wv b r 0 e := fun r e => by
    refine Eq.trans (congrArg (fun q => (addf U V : FVec Ideal S256x384 .f32) (ix2 r q)) (Fin.ext ?_)) (hT.val r 0 e)
    change 256 + e.val = 256 + (64 * 0 + e.val); omega
  have e' : k0_pay52 (F := Ideal) U V = addf U V := rfl
  unfold k0_pay54
  rw [e']
  generalize (addf U V : FVec Ideal S256x384 .f32) = T at hV ⊢
  pointwise [k0_pay57, k0_pay55]
  exact hV r e

/-- The second group's values. -/
theorem val1_apply {U V : FVec Ideal S256x384 .f32} (hT : Total A b (addf U V)) (e : Fin 64) (r : Fin 256) :
    k0_pay2 (F := Ideal) (k0_pay55 (k0_pay54 U V)) (ix4 0 0 e r) = comp A.v A.pv A.wv b r 1 e := by
  have hV : ∀ (r : Fin 256) (e : Fin 64), (addf U V : FVec Ideal S256x384 .f32) (ix2 r ⟨256 + (64 + e.val), by omega⟩)
      = comp A.v A.pv A.wv b r 1 e := fun r e => hT.val r 1 e
  have e' : k0_pay52 (F := Ideal) U V = addf U V := rfl
  unfold k0_pay54
  rw [e']
  generalize (addf U V : FVec Ideal S256x384 .f32) = T at hV ⊢
  pointwise [k0_pay2, k0_pay55]
  exact hV r e

end

end Cert.CmpIdeal.Block

end
-- ==== Proof.CmpPack.lean ====
/- The arrays the host code of the compression packs before the call: the positions side by side, and the weights as
   blocks of a wider array with zeros elsewhere. -/
module

public import proofs.«01_k».proof.Proof.CmpOut
public import Idealize.ShloMosaic.Lib.Pipeline.ValueKit
public import Idealize.ShloMosaic.Lib.StableHlo.RunRead

@[expose] public section

set_option maxRecDepth 16384

noncomputable section

namespace Cert.CmpIdeal.Final

open Idealize.ShloMosaic Idealize.ShloMosaic.TcCoe Idealize.SL.Sem
open Cert.CmpIdeal Cert.CmpIdeal.Gen

/-- The integer zero as a number of either width. -/
theorem sitofp_zero (f : FTy) : FloatOps.sitofp (F := Ideal) f (0#32 : BitVec 32) = 0 := by
  change (((0#32 : BitVec 32).toInt : ℝ) : EReal) = 0
  simp

/-- A map of blocks cut into its 32 slabs. -/
def slabs (w : FVec Ideal S1x2048x64 .f32) : FVec Ideal S32x64x64 .bf16 :=
  truncf .bf16 (shapeCast S32x64x64 (shapeCast S2048x64 w shapeCasts_S1x2048x64_S2048x64) shapeCasts_S2048x64_S32x64x64)
    bitsLt_bf16_f32

/-- The slabs, entry by entry. -/
theorem slabs_apply (w : FVec Ideal S1x2048x64 .f32) (l : Fin 32) (i e : Fin 64) :
    slabs w (ix3 l i e) = w (ix3 0 ⟨l.val * 64 + i.val, by omega⟩ e) := by
  pointwise [slabs]

/-- The padding value. -/
def zeroPad : FVec Ideal S_ .bf16 := sitofp .bf16 (constantI S_ 32 0#32)

/-- The slabs in the columns from 0 on. -/
def pad0 (w : FVec Ideal S1x2048x64 .f32) : FVec Ideal S32x64x384 .bf16 :=
  pad S32x64x384 ![0, 0, 0] ![0, 0, 320] ![0, 0, 0] (slabs w) zeroPad pads_S32x64x64_S32x64x384_000_000_03200 h_S_

/-- Entry by entry. -/
theorem pad0_apply (w : FVec Ideal S1x2048x64 .f32) (l : Fin 32) (i : Fin 64) (j : Fin 384) : pad0 w (ix3 l i j)
    = if h : 0 ≤ j.val ∧ j.val < 0 + 64 then w (ix3 0 ⟨l.val * 64 + i.val, by omega⟩ ⟨j.val - 0, by omega⟩) else 0 := by
  pointwise [pad0, zeroPad]
  split_ifs
  all_goals first | exact slabs_apply w l i _ | exact sitofp_zero _ | (exfalso; omega)

/-- The slabs in the columns from 128 on. -/
def pad128 (w : FVec Ideal S1x2048x64 .f32) : FVec Ideal S32x64x384 .bf16 :=
  pad S32x64x384 ![0, 0, 128] ![0, 0, 192] ![0, 0, 0] (slabs w) zeroPad pads_S32x64x64_S32x64x384_000_000_1281920 h_S_

/-- Entry by entry. -/
theorem pad128_apply (w : FVec Ideal S1x2048x64 .f32) (l : Fin 32) (i : Fin 64) (j : Fin 384) : pad128 w (ix3 l i j)
    = if h : 128 ≤ j.val ∧ j.val < 128 + 64 then w (ix3 0 ⟨l.val * 64 + i.val, by omega⟩ ⟨j.val - 128, by omega⟩) else 0 := by
  pointwise [pad128, zeroPad]
  split_ifs
  all_goals first | exact slabs_apply w l i _ | exact sitofp_zero _ | (exfalso; omega)

/-- The slabs in the columns from 256 on. -/
def pad256 (w : FVec Ideal S1x2048x64 .f32) : FVec Ideal S32x64x384 .bf16 :=
  pad S32x64x384 ![0, 0, 256] ![0, 0, 64] ![0, 0, 0] (slabs w) zeroPad pads_S32x64x64_S32x64x384_000_000_256640 h_S_

/-- Entry by entry. -/
theorem pad256_apply (w : FVec Ideal S1x2048x64 .f32) (l : Fin 32) (i : Fin 64) (j : Fin 384) : pad256 w (ix3 l i j)
    = if h : 256 ≤ j.val ∧ j.val < 256 + 64 then w (ix3 0 ⟨l.val * 64 + i.val, by omega⟩ ⟨j.val - 256, by omega⟩) else 0 := by
  pointwise [pad256, zeroPad]
  split_ifs
  all_goals first | exact slabs_apply w l i _ | exact sitofp_zero _ | (exfalso; omega)

/-- The slabs in the columns from 320 on. -/
def pad320 (w : FVec Ideal S1x2048x64 .f32) : FVec Ideal S32x64x384 .bf16 :=
  pad S32x64x384 ![0, 0, 320] ![0, 0, 0] ![0, 0, 0] (slabs w) zeroPad pads_S32x64x64_S32x64x384_000_000_32000 h_S_

/-- Entry by entry. -/
theorem pad320_apply (w : FVec Ideal S1x2048x64 .f32) (l : Fin 32) (i : Fin 64) (j : Fin 384) : pad320 w (ix3 l i j)
    = if h : 320 ≤ j.val ∧ j.val < 320 + 64 then w (ix3 0 ⟨l.val * 64 + i.val, by omega⟩ ⟨j.val - 320, by omega⟩) else 0 := by
  pointwise [pad320, zeroPad]
  split_ifs
  all_goals first | exact slabs_apply w l i _ | exact sitofp_zero _ | (exfalso; omega)

/-- The packed weights as an array term. -/
def packed (wk wv : FVec Ideal S1x2048x64 .f32) : FVec Ideal S32x256x384 .bf16 :=
  concatenate S32x256x384 1 [⟨S32x64x384, pad0 wk⟩, ⟨S32x64x384, pad128 wk⟩, ⟨S32x64x384, pad256 wv⟩, ⟨S32x64x384, pad320 wv⟩]
    concatenates_S32x64x384_S32x64x384_S32x64x384_S32x64x384_S32x256x384_d1

/-- The packed positions as an array term. -/
def packedPos (pk pv : FVec Ideal S1x32x64 .f32) : FVec Ideal S32x256 .f32 :=
  concatenate S32x256 1 [⟨S32x64, shapeCast S32x64 pk shapeCasts_S1x32x64_S32x64⟩,
    ⟨S32x64, shapeCast S32x64 pk shapeCasts_S1x32x64_S32x64⟩, ⟨S32x64, shapeCast S32x64 pv shapeCasts_S1x32x64_S32x64⟩,
    ⟨S32x64, shapeCast S32x64 pv shapeCasts_S1x32x64_S32x64⟩] concatenates_S32x64_S32x64_S32x64_S32x64_S32x256_d1

/-- Four arrays side by side, entry by entry. -/
theorem cat_apply (a b c d : FVec Ideal S32x64x384 .bf16) (l : Fin 32) (i : Fin 256) (j : Fin 384) :
    (concatenate S32x256x384 1 [⟨S32x64x384, a⟩, ⟨S32x64x384, b⟩, ⟨S32x64x384, c⟩, ⟨S32x64x384, d⟩]
      concatenates_S32x64x384_S32x64x384_S32x64x384_S32x64x384_S32x256x384_d1 : FVec Ideal S32x256x384 .bf16) (ix3 l i j)
      = if i.val < 64 then a (ix3 l ⟨i.val % 64, by omega⟩ j) else if i.val < 128 then b (ix3 l ⟨i.val % 64, by omega⟩ j)
        else if i.val < 192 then c (ix3 l ⟨i.val % 64, by omega⟩ j) else d (ix3 l ⟨i.val % 64, by omega⟩ j) := by
  pointwise []
  split_ifs
  all_goals repeat' split
  all_goals first
    | (exfalso; omega)
    | (refine congrArg (fun q => a (ix3 l q j)) (Fin.ext ?_); first | omega | (simp only; omega))
    | (refine congrArg (fun q => b (ix3 l q j)) (Fin.ext ?_); first | omega | (simp only; omega))
    | (refine congrArg (fun q => c (ix3 l q j)) (Fin.ext ?_); first | omega | (simp only; omega))
    | (refine congrArg (fun q => d (ix3 l q j)) (Fin.ext ?_); first | omega | (simp only; omega))

/-- A segment's columns of the packed weights. -/
theorem packed_segment (wk wv : FVec Ideal S1x2048x64 .f32) (l : Fin 32) (i : Fin 256) (n : Fin 4) (e : Fin 64)
    (j : Fin 384) (hj : j.val = Block.start n + e.val) : packed wk wv (ix3 l i j)
      = if i.val / 64 = n.val then (if n.val < 2 then wk (ix3 0 ⟨l.val * 64 + i.val % 64, by omega⟩ e)
          else wv (ix3 0 ⟨l.val * 64 + i.val % 64, by omega⟩ e)) else 0 := by
  have h1 : n.val < 2 → Block.start n = 128 * n.val := fun h => if_pos h
  have h2 : ¬ n.val < 2 → Block.start n = 128 + 64 * n.val := fun h => if_neg h
  generalize Block.start n = s at *
  refine (cat_apply _ _ _ _ l i j).trans ?_
  rw [pad0_apply, pad128_apply, pad256_apply, pad320_apply]
  split_ifs
  all_goals repeat' split
  all_goals first
    | rfl
    | (exfalso; omega)
    | (refine congrArg₂ (fun p q => wk (ix3 0 p q)) (Fin.ext ?_) (Fin.ext ?_) <;> first | rfl | omega | (simp only; omega))
    | (refine congrArg₂ (fun p q => wv (ix3 0 p q)) (Fin.ext ?_) (Fin.ext ?_) <;> first | rfl | omega | (simp only; omega))

/-- The columns beside the keys' segments of the packed weights. -/
theorem packed_zero (wk wv : FVec Ideal S1x2048x64 .f32) (l : Fin 32) (i : Fin 256) (n : Fin 2) (e : Fin 64)
    (j : Fin 384) (hj : j.val = 128 * n.val + (64 + e.val)) : packed wk wv (ix3 l i j) = 0 := by
  refine (cat_apply _ _ _ _ l i j).trans ?_
  rw [pad0_apply, pad128_apply, pad256_apply, pad320_apply]
  split_ifs
  all_goals repeat' split
  all_goals first | rfl | (exfalso; omega)

/-- The packed positions, entry by entry. -/
theorem packedPos_apply (pk pv : FVec Ideal S1x32x64 .f32) (l : Fin 32) (n : Fin 4) (d : Fin 64) :
    packedPos pk pv (ix2 l ⟨n.val * 64 + d.val, by omega⟩) = if n.val < 2 then pk (ix3 0 l d) else pv (ix3 0 l d) := by
  pointwise [packedPos]
  split_ifs
  all_goals repeat' split
  all_goals first
    | (exfalso; omega)
    | (refine congrArg (fun q => pk (ix3 0 l q)) (Fin.ext ?_); first | omega | (simp only; omega))
    | (refine congrArg (fun q => pv (ix3 0 l q)) (Fin.ext ?_); first | omega | (simp only; omega))

variable (m : (ℓ : Loc nD τ sig) → Buf (Elt Ideal) ℓ)

/-- The host code before the call. -/
abbrev ops : List (HloOp τ sig (Elt Ideal)) := List.flatten [hostOps0, hostOps0_1, hostOps0_2, hostOps0_3, hostOps0_4,
  hostOps0_5, hostOps0_6, hostOps0_7, hostOps0_8, hostOps0_9]

/-- The keys' positions before they are packed. -/
theorem upto_v2 (c : Dev nD) : (StableHlo.upto ops (fun b => m (c, b)) 22 (Proc.devRef .tc main_v2) : FVec Ideal S32x64 .f32)
    = shapeCast S32x64 (m ((c.tc : Thread nD τ).loc main_arg3) : FVec Ideal S1x32x64 .f32) shapeCasts_S1x32x64_S32x64 := by
  after_reads_simp
  rfl

/-- The values' positions before they are packed. -/
theorem upto_v3 (c : Dev nD) : (StableHlo.upto ops (fun b => m (c, b)) 22 (Proc.devRef .tc main_v3) : FVec Ideal S32x64 .f32)
    = shapeCast S32x64 (m ((c.tc : Thread nD τ).loc main_arg4) : FVec Ideal S1x32x64 .f32) shapeCasts_S1x32x64_S32x64 := by
  after_reads_simp
  rfl

/-- The packed positions when the call starts. -/
theorem entry_v14 (c : Dev nD) : (V m c main_v14 : FVec Ideal S32x256 .f32)
    = packedPos (m ((c.tc : Thread nD τ).loc main_arg3)) (m ((c.tc : Thread nD τ).loc main_arg4)) := by
  unfold V
  after_reads_simp
  exact congrArg₂ (fun a b : FVec Ideal S32x64 .f32 => concatenate S32x256 1 [⟨S32x64, a⟩, ⟨S32x64, a⟩, ⟨S32x64, b⟩, ⟨S32x64, b⟩]
    concatenates_S32x64_S32x64_S32x64_S32x64_S32x256_d1) (upto_v2 m c) (upto_v3 m c)

/-- The slabs in the columns from 0 on, before they are packed. -/
theorem upto_v7 (c : Dev nD) :
    (StableHlo.upto ops (fun b => m (c, b)) 23 (Proc.devRef .tc main_v7) : FVec Ideal S32x64x384 .bf16)
      = pad0 (m ((c.tc : Thread nD τ).loc main_arg5)) := by
  after_reads_simp
  rfl

/-- The slabs in the columns from 128 on, before they are packed. -/
theorem upto_v9 (c : Dev nD) :
    (StableHlo.upto ops (fun b => m (c, b)) 23 (Proc.devRef .tc main_v9) : FVec Ideal S32x64x384 .bf16)
      = pad128 (m ((c.tc : Thread nD τ).loc main_arg5)) := by
  after_reads_simp
  rfl

/-- The slabs in the columns from 256 on, before they are packed. -/
theorem upto_v11 (c : Dev nD) :
    (StableHlo.upto ops (fun b => m (c, b)) 23 (Proc.devRef .tc main_v11) : FVec Ideal S32x64x384 .bf16)
      = pad256 (m ((c.tc : Thread nD τ).loc main_arg6)) := by
  after_reads_simp
  rfl

/-- The slabs in the columns from 320 on, before they are packed. -/
theorem upto_v13 (c : Dev nD) :
    (StableHlo.upto ops (fun b => m (c, b)) 23 (Proc.devRef .tc main_v13) : FVec Ideal S32x64x384 .bf16)
      = pad320 (m ((c.tc : Thread nD τ).loc main_arg6)) := by
  after_reads_simp
  rfl

/-- Arrays that are equal are equal side by side. -/
theorem cat_congr {a b c d a' b' c' d' : FVec Ideal S32x64x384 .bf16} (ha : a = a') (hb : b = b') (hc : c = c') (hd : d = d') :
    (concatenate S32x256x384 1 [⟨S32x64x384, a⟩, ⟨S32x64x384, b⟩, ⟨S32x64x384, c⟩, ⟨S32x64x384, d⟩]
      concatenates_S32x64x384_S32x64x384_S32x64x384_S32x64x384_S32x256x384_d1 : FVec Ideal S32x256x384 .bf16)
      = concatenate S32x256x384 1 [⟨S32x64x384, a'⟩, ⟨S32x64x384, b'⟩, ⟨S32x64x384, c'⟩, ⟨S32x64x384, d'⟩]
        concatenates_S32x64x384_S32x64x384_S32x64x384_S32x64x384_S32x256x384_d1 := by
  subst ha hb hc hd
  rfl

/-- The packed weights when the call starts. -/
theorem entry_v15 (c : Dev nD) : (V m c main_v15 : FVec Ideal S32x256x384 .bf16)
    = packed (m ((c.tc : Thread nD τ).loc main_arg5)) (m ((c.tc : Thread nD τ).loc main_arg6)) := by
  unfold V
  after_reads_simp
  exact cat_congr (upto_v7 m c) (upto_v9 m c) (upto_v11 m c) (upto_v13 m c)

end Cert.CmpIdeal.Final

end
-- ==== Proof.CmpReads.lean ====
/- What the input blocks of a grid point of the compression hold, in terms of the argument arrays. -/
module

public import proofs.«01_k».proof.Proof.CmpPack

@[expose] public section

set_option maxRecDepth 16384

noncomputable section

namespace Cert.CmpIdeal.Final

open Idealize.ShloMosaic Idealize.ShloMosaic.TcCoe Idealize.SL.Sem
open Cert.CmpIdeal Cert.CmpIdeal.Gen

open Cert.CmpIdeal.Block
open Cert.CmpMath (Args)

variable (m : (ℓ : Loc nD τ sig) → Buf (Elt Ideal) ℓ)

/-- The kernel's argument arrays. -/
def args (c : Dev nD) : Args :=
  ⟨m ((c.tc : Thread nD τ).loc main_arg0), m ((c.tc : Thread nD τ).loc main_arg1),
   m ((c.tc : Thread nD τ).loc main_arg2), m ((c.tc : Thread nD τ).loc main_arg3),
   m ((c.tc : Thread nD τ).loc main_arg4), m ((c.tc : Thread nD τ).loc main_arg5),
   m ((c.tc : Thread nD τ).loc main_arg6)⟩

/-- The windows' block indices at every point: keys, values and results move with the point, the rest stays. -/
theorem idx : ∀ t : Fin cfg0.N, win0_0.index t = ![t.val, 0] ∧ win0_1.index t = ![t.val, 0]
    ∧ win0_2.index t = ![0, 0] ∧ win0_3.index t = ![0, 0, 0] ∧ win0_4.index t = ![0, 0]
    ∧ win0_5.index t = ![t.val, 0, 0, 0] ∧ win0_6.index t = ![t.val, 0, 0, 0] :=
  (by decide +kernel : ∀ t : Fin grid0.N, _)

/-- The sequence of a point. -/
def seq (t : Fin cfg0.N) : Fin 8 := ⟨t.val, t.isLt⟩

set_option maxHeartbeats 1000000 in
/-- The keys' block. -/
theorem read0 (c : Dev nD) (t : Fin cfg0.N) (n : Fin 4096) (l : Fin 128) :
    (iblk m c 0 t : FVec Ideal S4096x128 .f32) (ix2 n l)
      = (args m c).k (ix2 ⟨(seq t).val * 4096 + n.val, by have := (seq t).isLt; omega⟩ l) := by
  blk_simp [iblk, idx t, args]
  simp only [V, hostOps0, List.flatten_cons, List.flatten_nil, List.cons_append, List.nil_append, List.append_nil]
  entry_read
  pointwise [seq]
  blk_ext [idx t]

set_option maxHeartbeats 1000000 in
/-- The values' block. -/
theorem read1 (c : Dev nD) (t : Fin cfg0.N) (n : Fin 4096) (l : Fin 128) :
    (iblk m c 1 t : FVec Ideal S4096x128 .f32) (ix2 n l)
      = (args m c).v (ix2 ⟨(seq t).val * 4096 + n.val, by have := (seq t).isLt; omega⟩ l) := by
  blk_simp [iblk, idx t, args]
  simp only [V, hostOps0, List.flatten_cons, List.flatten_nil, List.cons_append, List.nil_append, List.append_nil]
  entry_read
  pointwise [seq]
  blk_ext [idx t]

/-- The positions' block. -/
theorem read2 (c : Dev nD) (t : Fin cfg0.N) (l : Fin 32) (n : Fin 4) (d : Fin 64) :
    (iblk m c 2 t : FVec Ideal S32x256 .f32) (ix2 l ⟨n.val * 64 + d.val, by omega⟩)
      = if n.val < 2 then (args m c).pk (ix3 0 l d) else (args m c).pv (ix3 0 l d) := by
  refine Eq.trans ?_ ((congrFun (entry_v14 m c) (ix2 l ⟨n.val * 64 + d.val, by omega⟩)).trans (packedPos_apply _ _ l n d))
  unfold iblk
  blk_ext [idx t]

/-- The weights' block is the packed array. -/
theorem read3 (c : Dev nD) (t : Fin cfg0.N) (l : Fin 32) (i : Fin 256) (j : Fin 384) :
    (iblk m c 3 t : FVec Ideal S32x256x384 .bf16) (ix3 l i j) = packed (args m c).wk (args m c).wv (ix3 l i j) := by
  refine Eq.trans ?_ (congrFun (entry_v15 m c) (ix3 l i j))
  unfold iblk
  blk_ext [idx t]

set_option maxHeartbeats 1000000 in
/-- The gains' block. -/
theorem read4 (c : Dev nD) (t : Fin cfg0.N) (l : Fin 128) :
    (iblk m c 4 t : FVec Ideal S3x128 .f32) (ix2 0 l)
      = if h : l.val < 64 then (args m c).kg (ix3 0 0 ⟨l.val, h⟩) else 0 := by
  blk_simp [iblk, idx t, args]
  simp only [V, hostOps0, hostOps0_1, List.flatten_cons, List.flatten_nil, List.cons_append, List.nil_append, List.append_nil]
  entry_read
  simp only [StableHlo.TRef.toBuf, StableHlo.TRef.ofBuf, StableHlo.TRef.of, cast_cast, cast_eq]
  pointwise []
  blk_simp [idx t]
  split_ifs
  · blk_ext [idx t]
  · exact sitofp_zero _

/-- The input blocks at point `t` hold the arrays' rows. -/
theorem reads (c : Dev nD) (t : Fin cfg0.N) : Reads (args m c) (seq t) (iblk m c 0 t) (iblk m c 1 t) (iblk m c 2 t)
    (iblk m c 3 t) (iblk m c 4 t) where
  h0 := read0 m c t
  h1 := read1 m c t
  h2 := read2 m c t
  h3 l i n e := (read3 m c t l i _).trans (packed_segment _ _ l i n e _ rfl)
  h3z l i n e := (read3 m c t l i _).trans (packed_zero _ _ l i n e _ rfl)
  h4 := read4 m c t

end Cert.CmpIdeal.Final

end
-- ==== Proof.CmpFinal.lean ====
/- The arrays the compression leaves: the compressed keys with their lanes, and the compressed values. -/
module

public import proofs.«01_k».proof.Proof.CmpReads
public import Idealize.ShloMosaic.Lib.WritesUnit
public import Idealize.ShloMosaic.Lib.WholeRead

@[expose] public section

set_option maxRecDepth 16384

noncomputable section

namespace Cert.CmpIdeal.Final

open Idealize.ShloMosaic Idealize.ShloMosaic.TcCoe Idealize.SL.Sem
open Cert.CmpIdeal Cert.CmpIdeal.Gen
open Cert.CmpIdeal.Block
open Cert.CmpMath

/-- A strided load of every sixteenth row is a place of every chunk. -/
theorem load_rows {sp : Space} (M : Memref sig .tc sp S4096x128 .f32) (hM : M.IsWhole) (Y : FVec Ideal S4096x128 .f32)
    (l : ℕ) (hl : l < 16)
    (inb : ∀ a : Fin 2, (![256, 128] : Fin 2 → ℕ) a = 0
      ∨ (![l, 0] : Fin 2 → ℕ) a + (![16, 1] : Fin 2 → ℕ) a * ((![256, 128] : Fin 2 → ℕ) a - 1) < S4096x128.size a) :
    View.readAt (Elt Ideal) M.view { off := ![l, 0], size := ![256, 128], stride := ![16, 1], inb := inb }
      (hM.unread (Val := Elt Ideal) Y) = rows Y l := by
  funext i
  refine (hM.readAt_unread (Val := Elt Ideal) Y _ i).trans (congrArg Y (funext fun a => Fin.ext ?_))
  match a with
  | ⟨0, _⟩ =>
    change l + 16 * (i 0).val = (i 0).val * 16 + l % 16
    rw [Nat.mod_eq_of_lt hl]
    omega
  | ⟨1, _⟩ =>
    change 0 + 1 * (i 1).val = (i 1).val
    omega

/-- A row of the positions as loaded. -/
theorem load_prow (Y : FVec Ideal S32x256 .f32) (l : ℕ) (hl : l < 32)
    (inb : ∀ d : Fin 2, (![l, 0] : Fin 2 → ℕ) d + S1x256.size d ≤ S32x256.size d) :
    View.ld (Val := Elt Ideal) (e' := .f32) Y (Rect.unit (s := S32x256) ![l, 0] S1x256.size inb) = prow Y l := by
  funext i
  rw [View.ld_apply]
  refine congrArg Y (funext fun a => Fin.ext ?_)
  rw [Rect.idx_unit_val]
  match a with
  | ⟨0, _⟩ =>
    have h0 : (i 0).val = 0 := Nat.lt_one_iff.mp (i 0).isLt
    change l + (i 0).val = l % 32
    rw [h0, Nat.mod_eq_of_lt hl, Nat.add_zero]
  | ⟨1, _⟩ => exact Nat.zero_add _

/-- A slab of the weights as loaded. -/
theorem load_slab (Y : FVec Ideal S32x256x384 .bf16) (l : ℕ) (hl : l < 32)
    (inb : ∀ d : Fin 3, (![l, 0, 0] : Fin 3 → ℕ) d + S1x256x384.size d ≤ S32x256x384.size d) :
    View.ld (Val := Elt Ideal) (e' := .bf16) Y (Rect.unit (s := S32x256x384) ![l, 0, 0] S1x256x384.size inb) = slab Y l := by
  funext i
  rw [View.ld_apply]
  refine congrArg Y (funext fun a => Fin.ext ?_)
  rw [Rect.idx_unit_val]
  match a with
  | ⟨0, _⟩ =>
    have h0 : (i 0).val = 0 := Nat.lt_one_iff.mp (i 0).isLt
    change l + (i 0).val = l % 32
    rw [h0, Nat.mod_eq_of_lt hl, Nat.add_zero]
  | ⟨1, _⟩ => exact Nat.zero_add _
  | ⟨2, _⟩ => exact Nat.zero_add _

/-- The gains' row as loaded. -/
theorem load_gain (Y : FVec Ideal S3x128 .f32)
    (inb : ∀ d : Fin 2, (![0, 0] : Fin 2 → ℕ) d + S1x128.size d ≤ S3x128.size d) (l : Fin 128) :
    View.ld (Val := Elt Ideal) (e' := .f32) Y (Rect.unit (s := S3x128) ![0, 0] S1x128.size inb) (ix2 0 l)
      = Y (ix2 0 l) := by
  rw [View.ld_apply]
  refine congrArg Y (funext fun a => Fin.ext ?_)
  rw [Rect.idx_unit_val]
  match a with
  | ⟨0, _⟩ => rfl
  | ⟨1, _⟩ => exact Nat.zero_add _

/-- What the scratch rows hold: the second accumulator, then zeros. -/
def scratch (T : FVec Ideal S256x384 .f32) : FVec Ideal S264x384 .f32 := fun y =>
  if h : (y 0).val < 256 then T (ix2 ⟨(y 0).val, h⟩ (y 1)) else 0

/-- An array moved one row up, with a row of zeros at the end. -/
def up (T : FVec Ideal S256x384 .f32) : FVec Ideal S256x384 .f32 := fun i =>
  if h : (i 0).val < 255 then T (ix2 ⟨(i 0).val + 1, by omega⟩ (i 1)) else 0

/-- A row before the last one comes from the row below. -/
theorem up_lt (T : FVec Ideal S256x384 .f32) (r : Fin 256) (l : Fin 384) (h : r.val < 255) :
    up T (ix2 r l) = T (ix2 ⟨r.val + 1, by omega⟩ l) := dif_pos h

/-- The last row is zero. -/
theorem up_last (T : FVec Ideal S256x384 .f32) (r : Fin 256) (l : Fin 384) (h : ¬ r.val < 255) :
    up T (ix2 r l) = 0 := dif_neg h

/-- A scratch row of the accumulator. -/
theorem scratch_lt (T : FVec Ideal S256x384 .f32) (y : S264x384.Idx) (r : Fin 256) (l : Fin 384) (hr : (y 0).val = r.val)
    (hl : (y 1).val = l.val) : scratch T y = T (ix2 r l) :=
  (dif_pos (by rw [hr]; exact r.isLt)).trans (congrArg T (congrArg₂ ix2 (Fin.ext hr) (Fin.ext hl)))

/-- A scratch row after the accumulator's. -/
theorem scratch_ge (T : FVec Ideal S256x384 .f32) (y : S264x384.Idx) (h : 256 ≤ (y 0).val) : scratch T y = 0 :=
  dif_neg (Nat.not_lt.mpr h)

/-- Rows in the range of a store are covered by it. -/
theorem mem_rows {o n : ℕ} {inb : ∀ d : Fin 2, (![o, 0] : Fin 2 → ℕ) d + (![n, 384] : Fin 2 → ℕ) d ≤ S264x384.size d}
    (y : S264x384.Idx) (h : o ≤ (y 0).val) (h' : (y 0).val < o + n) :
    y ∈ (Rect.unit (s := S264x384) ![o, 0] ![n, 384] inb).set := by
  refine Rect.mem_set_unit.mpr fun a => ?_
  match a with
  | ⟨0, _⟩ => exact ⟨h, h'⟩
  | ⟨1, _⟩ => exact ⟨Nat.zero_le _, (y 1).isLt.trans_le (Nat.le_of_eq (Nat.zero_add _).symm)⟩

/-- Reading the scratch one row further down gives the second accumulator one row up, with a row of zeros at the end. -/
theorem scratch_read (T : FVec Ideal S256x384 .f32)
    (inb1 : ∀ d : Fin 2, (![256, 0] : Fin 2 → ℕ) d + S8x384.size d ≤ S264x384.size d)
    (inb2 : ∀ d : Fin 2, (![0, 0] : Fin 2 → ℕ) d + S256x384.size d ≤ S264x384.size d)
    (inb : ∀ d : Fin 2, (![1, 0] : Fin 2 → ℕ) d + S256x384.size d ≤ S264x384.size d) :
    (View.readCov (Val := Elt Ideal) (View.whole cc0_scratch0)
      [⟨Rect.unit (s := S264x384) ![256, 0] S8x384.size inb1, (k0_pay51 : FVec Ideal S8x384 .f32)⟩,
        ⟨Rect.unit (s := S264x384) ![0, 0] S256x384.size inb2, (k0_pay50 T : FVec Ideal S256x384 .f32)⟩]
      (Rect.unit (s := S264x384) ![1, 0] S256x384.size inb).toLoadRect : FVec Ideal S256x384 .f32) = up T := by
  funext i
  obtain ⟨r, l, rfl⟩ : ∃ (r : Fin 256) (l : Fin 384), i = ix2 r l := ⟨i 0, i 1, by
    funext a; match a with | ⟨0, _⟩ => rfl | ⟨1, _⟩ => rfl⟩
  have e0 : ((Rect.unit (s := S264x384) ![1, 0] S256x384.size inb).toLoadRect.idx (ix2 r l) 0).val = 1 + r.val :=
    Rect.idx_unit_val _ _ _ _ _
  have e1 : ((Rect.unit (s := S264x384) ![1, 0] S256x384.size inb).toLoadRect.idx (ix2 r l) 1).val = l.val :=
    (Rect.idx_unit_val _ _ _ _ _).trans (Nat.zero_add _)
  have hr : r.val < 256 := r.isLt
  rw [View.readCov_eq_canon']
  refine Eq.trans (View.canon_apply_of_pieces (Val := Elt Ideal) (e := .f32) (scratch T) _ ?_ _ ?_) ?_
  · refine List.forall_mem_cons.mpr ⟨fun x => ?_, List.forall_mem_cons.mpr ⟨fun x => ?_, fun p hp => nomatch hp⟩⟩
    · have q : ((Rect.unit (s := S264x384) ![256, 0] S8x384.size inb1).emb x 0).val = 256 + (x 0).val :=
        Rect.idx_unit_val (s := S264x384) ![256, 0] S8x384.size inb1 x 0
      refine Eq.trans ?_ (scratch_ge T _ (by rw [q]; omega)).symm
      pointwise [k0_pay51]
    · obtain ⟨a, b, rfl⟩ : ∃ (a : Fin 256) (b : Fin 384), x = ix2 a b := ⟨x 0, x 1, by
        funext a; match a with | ⟨0, _⟩ => rfl | ⟨1, _⟩ => rfl⟩
      have q : ((Rect.unit (s := S264x384) ![0, 0] S256x384.size inb2).emb (ix2 a b) 0).val = a.val :=
        (Rect.idx_unit_val (s := S264x384) ![0, 0] S256x384.size inb2 (ix2 a b) 0).trans (Nat.zero_add _)
      have q1 : ((Rect.unit (s := S264x384) ![0, 0] S256x384.size inb2).emb (ix2 a b) 1).val = b.val :=
        (Rect.idx_unit_val (s := S264x384) ![0, 0] S256x384.size inb2 (ix2 a b) 1).trans (Nat.zero_add _)
      refine Eq.trans ?_ (scratch_lt T _ a b q q1).symm
      pointwise [k0_pay50]
  · by_cases q : r.val < 255
    · refine ⟨_, List.mem_cons_of_mem _ List.mem_cons_self, ?_⟩
      exact mem_rows (inb := inb2) _ (Nat.zero_le _) (e0.trans_lt (by omega))
    · refine ⟨_, List.mem_cons_self, ?_⟩
      exact mem_rows (inb := inb1) _ (Nat.le_trans (by omega) e0.ge) (e0.trans_lt (by omega))
  · by_cases q : r.val < 255
    · exact (scratch_lt T _ ⟨r.val + 1, by omega⟩ l (e0.trans (Nat.add_comm _ _)) e1).trans (up_lt T r l q).symm
    · exact (scratch_ge T _ (by rw [e0]; omega)).trans (up_last T r l q).symm

/-- The sum of the first accumulator and the second one moved up holds the compressed keys and values. -/
theorem sum_total {A : Args} {b : Fin 8} {y0 y1 : FVec Ideal S4096x128 .f32} {y2 : FVec Ideal S32x256 .f32}
    {y3 : FVec Ideal S32x256x384 .bf16} {y4 : FVec Ideal S3x128 .f32} (H : Reads A b y0 y1 y2 y3 y4) :
    Total A b (addf (acc (rows y0) (rows y1) (prow y2) (slab y3) 0 16) (up (acc (rows y0) (rows y1) (prow y2) (slab y3) 16 16))) :=
  ⟨fun r g l => total_key H r g l, fun r g e => total_val H r g e⟩

/-- An entry of the values' array, by coordinates. -/
theorem valArr_eq (A : Args) {i : S8x2x64x256.Idx} {b : Fin 8} {r : Fin 256} {g : Fin 2} {e : Fin 64}
    (h0 : b.val = (i 0).val) (h1 : g.val = (i 1).val) (h2 : e.val = (i 2).val) (h3 : r.val = (i 3).val) :
    comp A.v A.pv A.wv b r g e = valArr A i := by
  obtain rfl : b = i 0 := Fin.ext h0
  obtain rfl : g = i 1 := Fin.ext h1
  obtain rfl : e = i 2 := Fin.ext h2
  obtain rfl : r = i 3 := Fin.ext h3
  rfl

/-- An entry of the keys' array, by coordinates. -/
theorem keyArr_eq (A : Args) {i : S8x2x256x128.Idx} {b : Fin 8} {g : Fin 2} {r : Fin 256} {l : Fin 128}
    (h0 : b.val = (i 0).val) (h1 : g.val = (i 1).val) (h2 : r.val = (i 2).val) (h3 : l.val = (i 3).val) :
    keyLane A b g r l = keyArr A i := by
  obtain rfl : b = i 0 := Fin.ext h0
  obtain rfl : g = i 1 := Fin.ext h1
  obtain rfl : r = i 2 := Fin.ext h2
  obtain rfl : l = i 3 := Fin.ext h3
  rfl

end Cert.CmpIdeal.Final

end
-- ==== Proof.CmpKeyArr.lean ====
/- The array of the compressed keys with their lanes. -/
module

public import proofs.«01_k».proof.Proof.CmpFinal

@[expose] public section

set_option maxRecDepth 16384

noncomputable section

namespace Cert.CmpIdeal.Final

open Idealize.ShloMosaic Idealize.ShloMosaic.TcCoe Idealize.SL.Sem
open Cert.CmpIdeal Cert.CmpIdeal.Gen
open Cert.CmpIdeal.Block
open Cert.CmpMath

variable (m : (ℓ : Loc nD τ sig) → Buf (Elt Ideal) ℓ)

set_option maxHeartbeats 4000000 in
/-- The compressed keys with their lanes. -/
theorem final5 (c : Dev nD) : (dats m 0 c).arrAt 5 cfg0.N = keyArr (args m c) := by
  refine (dats m 0 c).arrAt_eq_of_covers 5 _ (by decide +kernel) fun t _ y => ?_
  blk_simp
  rw [after0_5]
  unfold outsAt0
  dsimp only
  have H := reads m c t
  generalize iblk m c 0 t = x0 at H ⊢
  generalize iblk m c 1 t = x1 at H ⊢
  generalize iblk m c 2 t = x2 at H ⊢
  generalize iblk m c 3 t = x3 at H ⊢
  generalize iblk m c 4 t = x4 at H ⊢
  frame_out
  rw [load_rows (ms0_0 t) _ x0 0 (by decide), load_rows (ms0_1 t) _ x1 0 (by decide)]
  rw [load_rows (ms0_0 t) _ x0 1 (by decide), load_rows (ms0_1 t) _ x1 1 (by decide)]
  rw [load_rows (ms0_0 t) _ x0 2 (by decide), load_rows (ms0_1 t) _ x1 2 (by decide)]
  rw [load_rows (ms0_0 t) _ x0 3 (by decide), load_rows (ms0_1 t) _ x1 3 (by decide)]
  rw [load_rows (ms0_0 t) _ x0 4 (by decide), load_rows (ms0_1 t) _ x1 4 (by decide)]
  rw [load_rows (ms0_0 t) _ x0 5 (by decide), load_rows (ms0_1 t) _ x1 5 (by decide)]
  rw [load_rows (ms0_0 t) _ x0 6 (by decide), load_rows (ms0_1 t) _ x1 6 (by decide)]
  rw [load_rows (ms0_0 t) _ x0 7 (by decide), load_rows (ms0_1 t) _ x1 7 (by decide)]
  rw [load_rows (ms0_0 t) _ x0 8 (by decide), load_rows (ms0_1 t) _ x1 8 (by decide)]
  rw [load_rows (ms0_0 t) _ x0 9 (by decide), load_rows (ms0_1 t) _ x1 9 (by decide)]
  rw [load_rows (ms0_0 t) _ x0 10 (by decide), load_rows (ms0_1 t) _ x1 10 (by decide)]
  rw [load_rows (ms0_0 t) _ x0 11 (by decide), load_rows (ms0_1 t) _ x1 11 (by decide)]
  rw [load_rows (ms0_0 t) _ x0 12 (by decide), load_rows (ms0_1 t) _ x1 12 (by decide)]
  rw [load_rows (ms0_0 t) _ x0 13 (by decide), load_rows (ms0_1 t) _ x1 13 (by decide)]
  rw [load_rows (ms0_0 t) _ x0 14 (by decide), load_rows (ms0_1 t) _ x1 14 (by decide)]
  rw [load_rows (ms0_0 t) _ x0 15 (by decide), load_rows (ms0_1 t) _ x1 15 (by decide)]
  rw [load_prow x2 0 (by decide), load_slab x3 0 (by decide)]
  rw [load_prow x2 1 (by decide), load_slab x3 1 (by decide)]
  rw [load_prow x2 2 (by decide), load_slab x3 2 (by decide)]
  rw [load_prow x2 3 (by decide), load_slab x3 3 (by decide)]
  rw [load_prow x2 4 (by decide), load_slab x3 4 (by decide)]
  rw [load_prow x2 5 (by decide), load_slab x3 5 (by decide)]
  rw [load_prow x2 6 (by decide), load_slab x3 6 (by decide)]
  rw [load_prow x2 7 (by decide), load_slab x3 7 (by decide)]
  rw [load_prow x2 8 (by decide), load_slab x3 8 (by decide)]
  rw [load_prow x2 9 (by decide), load_slab x3 9 (by decide)]
  rw [load_prow x2 10 (by decide), load_slab x3 10 (by decide)]
  rw [load_prow x2 11 (by decide), load_slab x3 11 (by decide)]
  rw [load_prow x2 12 (by decide), load_slab x3 12 (by decide)]
  rw [load_prow x2 13 (by decide), load_slab x3 13 (by decide)]
  rw [load_prow x2 14 (by decide), load_slab x3 14 (by decide)]
  rw [load_prow x2 15 (by decide), load_slab x3 15 (by decide)]
  rw [load_prow x2 16 (by decide), load_slab x3 16 (by decide)]
  rw [load_prow x2 17 (by decide), load_slab x3 17 (by decide)]
  rw [load_prow x2 18 (by decide), load_slab x3 18 (by decide)]
  rw [load_prow x2 19 (by decide), load_slab x3 19 (by decide)]
  rw [load_prow x2 20 (by decide), load_slab x3 20 (by decide)]
  rw [load_prow x2 21 (by decide), load_slab x3 21 (by decide)]
  rw [load_prow x2 22 (by decide), load_slab x3 22 (by decide)]
  rw [load_prow x2 23 (by decide), load_slab x3 23 (by decide)]
  rw [load_prow x2 24 (by decide), load_slab x3 24 (by decide)]
  rw [load_prow x2 25 (by decide), load_slab x3 25 (by decide)]
  rw [load_prow x2 26 (by decide), load_slab x3 26 (by decide)]
  rw [load_prow x2 27 (by decide), load_slab x3 27 (by decide)]
  rw [load_prow x2 28 (by decide), load_slab x3 28 (by decide)]
  rw [load_prow x2 29 (by decide), load_slab x3 29 (by decide)]
  rw [load_prow x2 30 (by decide), load_slab x3 30 (by decide)]
  rw [load_prow x2 31 (by decide), load_slab x3 31 (by decide)]
  rw [chain_lo (rows x0) (rows x1) (prow x2) (slab x3), chain_hi (rows x0) (rows x1) (prow x2) (slab x3), scratch_read]
  have HT := sum_total H
  canon_tiles w h
  all_goals idx_vars w
  · obtain rfl : w0 = 0 := Subsingleton.elim _ _; obtain rfl : w1 = 0 := Subsingleton.elim _ _
    refine (key1_apply HT (fun l => (load_gain x4 _ l).trans (H.h4 l)) w2 w3).trans (keyArr_eq _ ?_ ?_ ?_ ?_)
    all_goals (blk_simp [idx t, seq]; try omega)
  · obtain rfl : w0 = 0 := Subsingleton.elim _ _; obtain rfl : w1 = 0 := Subsingleton.elim _ _
    refine (key0_apply HT (fun l => (load_gain x4 _ l).trans (H.h4 l)) w2 w3).trans (keyArr_eq _ ?_ ?_ ?_ ?_)
    all_goals (blk_simp [idx t, seq]; try omega)

end Cert.CmpIdeal.Final

end
-- ==== Proof.CmpValArr.lean ====
/- The array of the compressed values. -/
module

public import proofs.«01_k».proof.Proof.CmpFinal

@[expose] public section

set_option maxRecDepth 16384

noncomputable section

namespace Cert.CmpIdeal.Final

open Idealize.ShloMosaic Idealize.ShloMosaic.TcCoe Idealize.SL.Sem
open Cert.CmpIdeal Cert.CmpIdeal.Gen
open Cert.CmpIdeal.Block
open Cert.CmpMath

variable (m : (ℓ : Loc nD τ sig) → Buf (Elt Ideal) ℓ)

set_option maxHeartbeats 4000000 in
/-- The compressed values. -/
theorem final6 (c : Dev nD) : (dats m 0 c).arrAt 6 cfg0.N = valArr (args m c) := by
  refine (dats m 0 c).arrAt_eq_of_covers 6 _ (by decide +kernel) fun t _ y => ?_
  blk_simp
  rw [after0_6]
  unfold outsAt0
  dsimp only
  have H := reads m c t
  generalize iblk m c 0 t = x0 at H ⊢
  generalize iblk m c 1 t = x1 at H ⊢
  generalize iblk m c 2 t = x2 at H ⊢
  generalize iblk m c 3 t = x3 at H ⊢
  generalize iblk m c 4 t = x4 at H ⊢
  frame_out
  rw [load_rows (ms0_0 t) _ x0 0 (by decide), load_rows (ms0_1 t) _ x1 0 (by decide)]
  rw [load_rows (ms0_0 t) _ x0 1 (by decide), load_rows (ms0_1 t) _ x1 1 (by decide)]
  rw [load_rows (ms0_0 t) _ x0 2 (by decide), load_rows (ms0_1 t) _ x1 2 (by decide)]
  rw [load_rows (ms0_0 t) _ x0 3 (by decide), load_rows (ms0_1 t) _ x1 3 (by decide)]
  rw [load_rows (ms0_0 t) _ x0 4 (by decide), load_rows (ms0_1 t) _ x1 4 (by decide)]
  rw [load_rows (ms0_0 t) _ x0 5 (by decide), load_rows (ms0_1 t) _ x1 5 (by decide)]
  rw [load_rows (ms0_0 t) _ x0 6 (by decide), load_rows (ms0_1 t) _ x1 6 (by decide)]
  rw [load_rows (ms0_0 t) _ x0 7 (by decide), load_rows (ms0_1 t) _ x1 7 (by decide)]
  rw [load_rows (ms0_0 t) _ x0 8 (by decide), load_rows (ms0_1 t) _ x1 8 (by decide)]
  rw [load_rows (ms0_0 t) _ x0 9 (by decide), load_rows (ms0_1 t) _ x1 9 (by decide)]
  rw [load_rows (ms0_0 t) _ x0 10 (by decide), load_rows (ms0_1 t) _ x1 10 (by decide)]
  rw [load_rows (ms0_0 t) _ x0 11 (by decide), load_rows (ms0_1 t) _ x1 11 (by decide)]
  rw [load_rows (ms0_0 t) _ x0 12 (by decide), load_rows (ms0_1 t) _ x1 12 (by decide)]
  rw [load_rows (ms0_0 t) _ x0 13 (by decide), load_rows (ms0_1 t) _ x1 13 (by decide)]
  rw [load_rows (ms0_0 t) _ x0 14 (by decide), load_rows (ms0_1 t) _ x1 14 (by decide)]
  rw [load_rows (ms0_0 t) _ x0 15 (by decide), load_rows (ms0_1 t) _ x1 15 (by decide)]
  rw [load_prow x2 0 (by decide), load_slab x3 0 (by decide)]
  rw [load_prow x2 1 (by decide), load_slab x3 1 (by decide)]
  rw [load_prow x2 2 (by decide), load_slab x3 2 (by decide)]
  rw [load_prow x2 3 (by decide), load_slab x3 3 (by decide)]
  rw [load_prow x2 4 (by decide), load_slab x3 4 (by decide)]
  rw [load_prow x2 5 (by decide), load_slab x3 5 (by decide)]
  rw [load_prow x2 6 (by decide), load_slab x3 6 (by decide)]
  rw [load_prow x2 7 (by decide), load_slab x3 7 (by decide)]
  rw [load_prow x2 8 (by decide), load_slab x3 8 (by decide)]
  rw [load_prow x2 9 (by decide), load_slab x3 9 (by decide)]
  rw [load_prow x2 10 (by decide), load_slab x3 10 (by decide)]
  rw [load_prow x2 11 (by decide), load_slab x3 11 (by decide)]
  rw [load_prow x2 12 (by decide), load_slab x3 12 (by decide)]
  rw [load_prow x2 13 (by decide), load_slab x3 13 (by decide)]
  rw [load_prow x2 14 (by decide), load_slab x3 14 (by decide)]
  rw [load_prow x2 15 (by decide), load_slab x3 15 (by decide)]
  rw [load_prow x2 16 (by decide), load_slab x3 16 (by decide)]
  rw [load_prow x2 17 (by decide), load_slab x3 17 (by decide)]
  rw [load_prow x2 18 (by decide), load_slab x3 18 (by decide)]
  rw [load_prow x2 19 (by decide), load_slab x3 19 (by decide)]
  rw [load_prow x2 20 (by decide), load_slab x3 20 (by decide)]
  rw [load_prow x2 21 (by decide), load_slab x3 21 (by decide)]
  rw [load_prow x2 22 (by decide), load_slab x3 22 (by decide)]
  rw [load_prow x2 23 (by decide), load_slab x3 23 (by decide)]
  rw [load_prow x2 24 (by decide), load_slab x3 24 (by decide)]
  rw [load_prow x2 25 (by decide), load_slab x3 25 (by decide)]
  rw [load_prow x2 26 (by decide), load_slab x3 26 (by decide)]
  rw [load_prow x2 27 (by decide), load_slab x3 27 (by decide)]
  rw [load_prow x2 28 (by decide), load_slab x3 28 (by decide)]
  rw [load_prow x2 29 (by decide), load_slab x3 29 (by decide)]
  rw [load_prow x2 30 (by decide), load_slab x3 30 (by decide)]
  rw [load_prow x2 31 (by decide), load_slab x3 31 (by decide)]
  rw [chain_lo (rows x0) (rows x1) (prow x2) (slab x3), chain_hi (rows x0) (rows x1) (prow x2) (slab x3), scratch_read]
  have HT := sum_total H
  canon_tiles w h
  all_goals idx_vars w
  · obtain rfl : w0 = 0 := Subsingleton.elim _ _; obtain rfl : w1 = 0 := Subsingleton.elim _ _
    refine (val1_apply HT w2 w3).trans (valArr_eq _ ?_ ?_ ?_ ?_)
    all_goals (blk_simp [idx t, seq]; try omega)
  · obtain rfl : w0 = 0 := Subsingleton.elim _ _; obtain rfl : w1 = 0 := Subsingleton.elim _ _
    refine (val0_apply HT w2 w3).trans (valArr_eq _ ?_ ?_ ?_ ?_)
    all_goals (blk_simp [idx t, seq]; try omega)

end Cert.CmpIdeal.Final

end
-- ==== Proof.CmpValue.lean ====
/- The compression and its reference compute the same two arrays. -/
module

public import proofs.«01_k».proof.Proof.CmpSpec
public import proofs.«01_k».proof.Proof.CmpKeyArr
public import proofs.«01_k».proof.Proof.CmpValArr
public import proofs.«01_k».proof.Defs

@[expose] public section

set_option maxRecDepth 16384

noncomputable section

namespace Cert.CmpIdeal.Final

open Idealize.ShloMosaic Idealize.ShloMosaic.TcCoe Idealize.SL.Sem
open Cert.CmpIdeal Cert.CmpIdeal.Gen
open Cert.CmpMath

variable (m : (ℓ : Loc nD τ sig) → Buf (Elt Ideal) ℓ)

/-- Arguments that agree are the same. -/
theorem args_eq {m : (ℓ : Loc nD τ sig) → Buf (Elt Ideal) ℓ}
    {m' : (ℓ : Loc Cert.CmpRefIdeal.nD Cert.CmpRefIdeal.τ Cert.CmpRefIdeal.sig) → Buf (Elt Ideal) ℓ} (c : Dev nD)
    (e0 : m' ((c.tc : Thread _ Cert.CmpRefIdeal.τ).loc Cert.CmpRefIdeal.main_arg0) = m ((c.tc : Thread nD τ).loc main_arg0))
    (e1 : m' ((c.tc : Thread _ Cert.CmpRefIdeal.τ).loc Cert.CmpRefIdeal.main_arg1) = m ((c.tc : Thread nD τ).loc main_arg1))
    (e2 : m' ((c.tc : Thread _ Cert.CmpRefIdeal.τ).loc Cert.CmpRefIdeal.main_arg2) = m ((c.tc : Thread nD τ).loc main_arg2))
    (e3 : m' ((c.tc : Thread _ Cert.CmpRefIdeal.τ).loc Cert.CmpRefIdeal.main_arg3) = m ((c.tc : Thread nD τ).loc main_arg3))
    (e4 : m' ((c.tc : Thread _ Cert.CmpRefIdeal.τ).loc Cert.CmpRefIdeal.main_arg4) = m ((c.tc : Thread nD τ).loc main_arg4))
    (e5 : m' ((c.tc : Thread _ Cert.CmpRefIdeal.τ).loc Cert.CmpRefIdeal.main_arg5) = m ((c.tc : Thread nD τ).loc main_arg5))
    (e6 : m' ((c.tc : Thread _ Cert.CmpRefIdeal.τ).loc Cert.CmpRefIdeal.main_arg6) = m ((c.tc : Thread nD τ).loc main_arg6)) :
    Cert.CmpRef.refArgs m' c = args m c := by
  unfold Cert.CmpRef.refArgs args
  rw [e0, e1, e2, e3, e4, e5, e6]

/-- The kernel's run: it ends, with the two results the formulas' arrays and the arguments unchanged. -/
theorem run (g : Dev nD → PrngReg) :
    θ_run defs (onTc (τ := τ) (main (F := Ideal))) ⟨m, fun _ => 0, g⟩ fun r => ∀ c : Dev nD,
      r.2.mem ((c.tc : Thread nD τ).loc main_v18_0) = keyArr (args m c)
      ∧ r.2.mem ((c.tc : Thread nD τ).loc main_v18_1) = valArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c =>
    have hc := (h.1 c).1
    ⟨(hc 5).trans (final5 m c), (hc 6).trans (final6 m c), h.2 c⟩)
    (Idealize.ShloMosaic.θ_run_and (Cert.CmpIdeal.Gen.run_main m g) (Cert.CmpIdeal.Gen.unchanged m g))

/-- Both programs compute the formulas. -/
theorem algebraic : Cert.algebraic_CmpIdeal_CmpRefIdeal := by
  intro m g m' g' hpre hagree
  refine ⟨fun c => keyArr (args m c), fun c => valArr (args m c), run m g,
    (θ_run _ _ _).mono (fun r h c => ?_) (Cert.CmpRef.run m' g')⟩
  obtain ⟨e0, e1, e2, e3, e4, e5, e6⟩ := hagree c
  have e := args_eq c e0 e1 e2 e3 e4 e5 e6
  have hh := h c
  rw [e] at hh
  exact hh

end Cert.CmpIdeal.Final

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Cmp
public import proofs.«01_k».proof.Proof.Gen.Cmp.Skeleton
public import proofs.«01_k».proof.Proof.Gen.Cmp.Launch
public import proofs.«01_k».proof.Proof.Gen.Cmp.Points
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Points
public import proofs.«01_k».proof.Proof.Gen.CmpIdeal.Frame
public import proofs.«01_k».proof.Proof.Gen.CmpRefIdeal
public import proofs.«01_k».proof.Proof.Gen.MlpRefIdeal.Run
public import proofs.«01_k».proof.Proof.Gen.ProjRefIdeal.Run
public import proofs.«01_k».proof.Proof.Gen.CmpRefIdeal.Run
public import proofs.«01_k».proof.Proof.MlpValue
public import proofs.«01_k».proof.Proof.ProjValue
public import proofs.«01_k».proof.Proof.CmpValue
public import Idealize.ShloMosaic.Lib.Quiescent
public import Idealize.ShloMosaic.Adequacy
public import Idealize.ShloMosaic.Init

@[expose] public section

noncomputable section

namespace Cert.Proof

open Idealize.ShloMosaic Idealize.SL.Sem Cert.Mlp

/-- The reference leaves its arguments as they were; it has no counters. -/
theorem ref_frame : Cert.quiescent_MlpRefIdeal := fun m g _ =>
  (θ_run _ _ _).mono (fun r h => ⟨fun c => (h c).2, sem_eq_zero_of_no_sems (by decide) r.2⟩)
    (Cert.MlpRefIdeal.Value.run m g)

/-- So does the reference of the first projection. -/
theorem proj_ref_frame : Cert.quiescent_ProjRefIdeal := fun m g _ =>
  (θ_run _ _ _).mono (fun r h => ⟨fun c => (h c).2.2.2.2.2.2.2.2.2.2, sem_eq_zero_of_no_sems (by decide) r.2⟩)
    (Cert.ProjRef.run m g)

/-- And the reference of the compression. -/
theorem cmp_ref_frame : Cert.quiescent_CmpRefIdeal := fun m g _ =>
  (θ_run _ _ _).mono (fun r h => ⟨fun c => (h c).2.2, sem_eq_zero_of_no_sems (by decide) r.2⟩)
    (Cert.CmpRef.run m g)

/-- The frames of every program, the idealized programs' agreement with the printed ones, and the values
    of the output projection with the channel mixer, of the first projection and of the compression. -/
theorem claim : Cert.Claim := ⟨Cert.Mlp.Gen.facts, Cert.MlpIdeal.Gen.facts, Cert.MlpRefIdeal.Gen.facts, Cert.Proj.Gen.facts, Cert.ProjIdeal.Gen.facts, Cert.ProjRefIdeal.Gen.facts, Cert.Cmp.Gen.facts, Cert.CmpIdeal.Gen.facts, Cert.CmpRefIdeal.Gen.facts,
  fun m ρ _ => Cert.Mlp.Gen.frame m ρ, fun m ρ _ => Cert.MlpIdeal.Gen.frame m ρ,
  ref_frame,
  fun m ρ _ => Cert.Proj.Gen.frame m ρ, fun m ρ _ => Cert.ProjIdeal.Gen.frame m ρ,
  proj_ref_frame,
  fun m ρ _ => Cert.Cmp.Gen.frame m ρ, fun m ρ _ => Cert.CmpIdeal.Gen.frame m ρ,
  cmp_ref_frame,
  trivial, Cert.MlpIdeal.Final.algebraic, trivial,
  Cert.ProjIdeal.Final.algebraic, trivial, Cert.CmpIdeal.Final.algebraic⟩

end Cert.Proof

end
